-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gate_finite_sample [hPre_gate_finite_sample : Cert.Pre_gate_finite_sample.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gate_finite_sample.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gate_finite_sample [hPre_gate_finite_sample : Cert.Pre_gate_finite_sample.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gate_finite_sample.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_gate_finite_sample [hKernel7Ideal : Cert.Kernel7Ideal.Facts] [hPre_gate_finite_sample : Cert.Pre_gate_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gate_finite_sample m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_gate_finite_sample [hReference7Ideal : Cert.Reference7Ideal.Facts] [hPre_gate_finite_sample : Cert.Pre_gate_finite_sample.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gate_finite_sample m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v30_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v84) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal_pre_gate_finite_sample [hKernel7Ideal : Cert.Kernel7Ideal.Facts] [hReference7Ideal : Cert.Reference7Ideal.Facts] [hPre_gate_finite_sample : Cert.Pre_gate_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gate_finite_sample m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v54) = v0 c
          ∧ r.2.mem ((c.tc : Thread Cert.Reference7Ideal.nD Cert.Reference7Ideal.τ).loc Cert.Reference7Ideal.main_v30_6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_gate_finite : Cert.Pre_gate_finite.Facts) (hPre_gate_finite_sample : Cert.Pre_gate_finite_sample.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gate_finite_sample (hKernel7Ideal := hKernel7Ideal) (hPre_gate_finite_sample := hPre_gate_finite_sample)
    ∧ quiescent_Reference7Ideal (hReference7Ideal := hReference7Ideal)
    ∧ quiescent_Reference7Ideal_pre_gate_finite_sample (hReference7Ideal := hReference7Ideal) (hPre_gate_finite_sample := hPre_gate_finite_sample)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gate_finite_sample (hKernel7Ideal := hKernel7Ideal) (hReference7Ideal := hReference7Ideal) (hPre_gate_finite_sample := hPre_gate_finite_sample)
-- ==== Pre_gate_finite.lean ====
abbrev S16384x8832 : Shape := ⟨2, ![16384, 8832]⟩
abbrev S16x512 : Shape := ⟨2, ![16, 512]⟩
abbrev S512 : Shape := ⟨1, ![512]⟩
abbrev S128 : Shape := ⟨1, ![128]⟩
abbrev S16384x16 : Shape := ⟨2, ![16384, 16]⟩
abbrev S_ : Shape := ⟨0, ![]⟩

class Facts : Prop where
  slices_S16384x8832_S16384x16_0_8704 : S16384x8832.Slices ![0, 8704] S16384x16
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16384x8832 .f32) (main_arg1 : FVec F S16x512 .f32) (main_arg2 : FVec F S512 .f32) (main_arg3 : FVec F S128 .f32) : IVec S_ 1 :=
  let main_v0 : FVec F S16384x16 .f32 := (extractStridedSlice S16384x16 ![0, 8704] · slices_S16384x8832_S16384x16_0_8704) main_arg0
  let main_v1 : FVec F S16384x16 .f32 := Host.absf main_v0
  let main_cst : FVec F S_ .f32 := constant S_ .f32 0x7F800000#32
  let main_v2 : FVec F S16384x16 .f32 := broadcastInDim S16384x16 ![] bcast_S_S16384x16 main_cst
  let main_v3 : IVec S16384x16 1 := cmpf .olt main_v1 main_v2
  let main_c : IVec S_ 1 := constantI S_ 1 1#1
  let main_v4 : IVec S_ 1 := (fun x v => Host.reduce IntOp.andi x v reducesTo_S16384x16_S_d0_1 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  main_v9
-- ==== Pre_gate_finite_sample.lean ====
abbrev S1024x8832 : Shape := ⟨2, ![1024, 8832]⟩
abbrev S16x512 : Shape := ⟨2, ![16, 512]⟩
abbrev S512 : Shape := ⟨1, ![512]⟩
abbrev S128 : Shape := ⟨1, ![128]⟩
abbrev S128x4x128x128 : Shape := ⟨4, ![128, 4, 128, 128]⟩
abbrev S128x8x8832 : Shape := ⟨3, ![128, 8, 8832]⟩
abbrev S128x4x16 : Shape := ⟨3, ![128, 4, 16]⟩
abbrev S_ : Shape := ⟨0, ![]⟩

class Facts : Prop where
  shapeCasts_S1024x8832_S128x8x8832 : S1024x8832.ShapeCasts S128x8x8832
  slices_S128x8x8832_S128x4x16_0_4_8704 : S128x8x8832.Slices ![0, 4, 8704] S128x4x16
  bcast_S_S128x4x16 : S_.BroadcastsInDim S128x4x16 (![] : Fin 0 → Fin S128x4x16.rank)
  reducesTo_S128x4x16_S_d0_1_2 : S128x4x16.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S1024x8832 .f32) (main_arg1 : FVec F S16x512 .f32) (main_arg2 : FVec F S512 .f32) (main_arg3 : FVec F S128 .f32) (main_arg4 : FVec F S128x4x128x128 .f32) : IVec S_ 1 :=
  let main_v0 : FVec F S128x8x8832 .f32 := shapeCast S128x8x8832 main_arg0 shapeCasts_S1024x8832_S128x8x8832
  let main_v1 : FVec F S128x4x16 .f32 := (extractStridedSlice S128x4x16 ![0, 4, 8704] · slices_S128x8x8832_S128x4x16_0_4_8704) main_v0
  let main_v2 : FVec F S128x4x16 .f32 := Host.absf main_v1
  let main_cst : FVec F S_ .f32 := constant S_ .f32 0x7F800000#32
  let main_v3 : FVec F S128x4x16 .f32 := broadcastInDim S128x4x16 ![] bcast_S_S128x4x16 main_cst
  let main_v4 : IVec S128x4x16 1 := cmpf .olt main_v2 main_v3
  let main_c : IVec S_ 1 := constantI S_ 1 1#1
  let main_v5 : IVec S_ 1 := (fun x v => Host.reduce IntOp.andi x v reducesTo_S128x4x16_S_d0_1_2 h_S_) main_v4 main_c
  let main_v6 : FVec F S16x512 .f32 := Host.absf main_arg1
  let main_cst_0 : FVec F S_ .f32 := constant S_ .f32 0x7F800000#32
  let main_v7 : FVec F S16x512 .f32 := broadcastInDim S16x512 ![] bcast_S_S16x512 main_cst_0
  let main_v8 : IVec S16x512 1 := cmpf .olt main_v6 main_v7
  let main_c_1 : IVec S_ 1 := constantI S_ 1 1#1
  let main_v9 : IVec S_ 1 := (fun x v => Host.reduce IntOp.andi x v reducesTo_S16x512_S_d0_1 h_S_) main_v8 main_c_1
  let main_v10 : IVec S_ 1 := andi main_v5 main_v9
  main_v10
-- ==== Kernel.lean ====
abbrev S16384x8832 : Shape := ⟨2, ![16384, 8832]⟩
abbrev S16x512 : Shape := ⟨2, ![16, 512]⟩
abbrev S512 : Shape := ⟨1, ![512]⟩
abbrev S128 : Shape := ⟨1, ![128]⟩
abbrev S_ : Shape := ⟨0, ![]⟩
abbrev S128x512 : Shape := ⟨2, ![128, 512]⟩
abbrev S1x512 : Shape := ⟨2, ![1, 512]⟩
abbrev S1x128 : Shape := ⟨2, ![1, 128]⟩
abbrev S16384x512 : Shape := ⟨2, ![16384, 512]⟩
abbrev S8x4x128x128 : Shape := ⟨4, ![8, 4, 128, 128]⟩
abbrev S64x512 : Shape := ⟨2, ![64, 512]⟩
abbrev S64x128 : Shape := ⟨2, ![64, 128]⟩
abbrev S1x4x128x128 : Shape := ⟨4, ![1, 4, 128, 128]⟩
abbrev S4x128x128 : Shape := ⟨3, ![4, 128, 128]⟩
abbrev S64x64 : Shape := ⟨2, ![64, 64]⟩
abbrev S128x64 : Shape := ⟨2, ![128, 64]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1x1x128x128 : Shape := ⟨4, ![1, 1, 128, 128]⟩

abbrev nBuf : Space → Nat
  | .hbm => 11
  | .vmem => 18
  | .smem => 0
  | _ => 0

abbrev bufTy : (tb : Table) → Fin (tcTables nBuf tb) → BufTy
  | .hbm, ⟨0, _⟩ => ⟨S16384x8832, .f32⟩
  | .hbm, ⟨1, _⟩ => ⟨S16x512, .f32⟩
  | .hbm, ⟨2, _⟩ => ⟨S512, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S1x512, .f32⟩
  | .hbm, ⟨8, _⟩ => ⟨S1x128, .f32⟩
  | .hbm, ⟨9, _⟩ => ⟨S16384x512, .bf16⟩
  | .hbm, ⟨10, _⟩ => ⟨S8x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S128x512, .f32⟩
  | .local _ .vmem, ⟨11, _⟩ => ⟨S1x512, .f32⟩
  | .local _ .vmem, ⟨12, _⟩ => ⟨S1x128, .f32⟩
  | .local _ .vmem, ⟨13, _⟩ => ⟨S64x512, .bf16⟩
  | .local _ .vmem, ⟨14, _⟩ => ⟨S64x512, .bf16⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S16384x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v296 : BitVec 1 := Scalar.cmpi .eq arg1 c31_i32
  let v297 : BitVec 32 := Scalar.extui v296
  let c0_i32_108 : BitVec 32 := 0#32
  let v298 : BitVec 1 := Scalar.cmpi .ne v297 c0_i32_108
  v298

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c68_i32 : BitVec 32 := 68#32
  let c0_i32 : BitVec 32 := 0#32
  ![v1.toNat, c68_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16384x8832 : Shape := ⟨2, ![16384, 8832]⟩
abbrev S16x512 : Shape := ⟨2, ![16, 512]⟩
abbrev S512 : Shape := ⟨1, ![512]⟩
abbrev S128 : Shape := ⟨1, ![128]⟩
abbrev S8x2048x8832 : Shape := ⟨3, ![8, 2048, 8832]⟩
abbrev S8x2048x512 : Shape := ⟨3, ![8, 2048, 512]⟩
abbrev S8x2048x16 : Shape := ⟨3, ![8, 2048, 16]⟩
abbrev S8x2048x4x128 : Shape := ⟨4, ![8, 2048, 4, 128]⟩
abbrev S_ : Shape := ⟨0, ![]⟩
abbrev S1x1x512 : Shape := ⟨3, ![1, 1, 512]⟩
abbrev S8x4x128x128 : Shape := ⟨4, ![8, 4, 128, 128]⟩
abbrev S64x64 : Shape := ⟨2, ![64, 64]⟩
abbrev S8x32x64x4x128 : Shape := ⟨5, ![8, 32, 64, 4, 128]⟩
abbrev S32x8x64x4x128 : Shape := ⟨5, ![32, 8, 64, 4, 128]⟩
abbrev S1x8x64x4x128 : Shape := ⟨5, ![1, 8, 64, 4, 128]⟩
abbrev S8x64x4x128 : Shape := ⟨4, ![8, 64, 4, 128]⟩
abbrev S8x4x64x64 : Shape := ⟨4, ![8, 4, 64, 64]⟩
abbrev S8x4x128x64 : Shape := ⟨4, ![8, 4, 128, 64]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S16384x512 : Shape := ⟨2, ![16384, 512]⟩

abbrev nBuf : Space → Nat
  | .hbm => 170
  | .vmem => 0
  | .smem => 0
  | _ => 0

abbrev hbmTy0_0 (i : Nat) : BufTy := match i % 128 with
  | 0 => ⟨S16384x8832, .f32⟩
  | 1 => ⟨S16x512, .f32⟩
  | 2 => ⟨S512, .f32⟩
  | 3 => ⟨S128, .f32⟩
  | 4 => ⟨S8x2048x8832, .f32⟩
  | 5 => ⟨S8x2048x512, .f32⟩
  | 6 => ⟨S8x2048x512, .f32⟩
  | 7 => ⟨S8x2048x512, .f32⟩
  | 8 => ⟨S8x2048x16, .f32⟩
  | 9 => ⟨S8x2048x4x128, .f32⟩
  | 10 => ⟨S_, .f32⟩
  | 11 => ⟨S8x2048x4x128, .f32⟩
  | 12 => ⟨S8x2048x4x128, .f32⟩
  | 13 => ⟨S8x2048x4x128, .f32⟩
  | 14 => ⟨S8x2048x4x128, .f32⟩
  | 15 => ⟨S8x2048x512, .f32⟩
  | 16 => ⟨S1x1x512, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S8x2048x512, .f32⟩
  | 24 => ⟨S8x2048x512, .f32⟩
  | 25 => ⟨S8x2048x512, .i1⟩
  | 26 => ⟨S8x2048x512, .f32⟩
  | 27 => ⟨S8x2048x512, .f32⟩
  | 28 => ⟨S8x2048x512, .f32⟩
  | 29 => ⟨S8x2048x512, .f32⟩
  | 30 => ⟨S8x2048x512, .f32⟩
  | 31 => ⟨S8x2048x512, .f32⟩
  | 32 => ⟨S8x2048x512, .f32⟩
  | 33 => ⟨S8x2048x512, .f32⟩
  | 34 => ⟨S8x2048x512, .f32⟩
  | 35 => ⟨S_, .f32⟩
  | 36 => ⟨S8x2048x512, .f32⟩
  | 37 => ⟨S8x2048x512, .f32⟩
  | 38 => ⟨S8x2048x4x128, .f32⟩
  | 39 => ⟨S_, .f32⟩
  | 40 => ⟨S8x4x128x128, .f32⟩
  | 41 => ⟨S_, .i1⟩
  | 42 => ⟨S64x64, .i1⟩
  | 43 => ⟨S64x64, .i32⟩
  | 44 => ⟨S_, .i32⟩
  | 45 => ⟨S64x64, .i32⟩
  | 46 => ⟨S64x64, .i32⟩
  | 47 => ⟨S64x64, .i32⟩
  | 48 => ⟨S64x64, .i1⟩
  | 49 => ⟨S_, .i1⟩
  | 50 => ⟨S64x64, .i1⟩
  | 51 => ⟨S64x64, .i1⟩
  | 52 => ⟨S8x32x64x4x128, .f32⟩
  | 53 => ⟨S32x8x64x4x128, .f32⟩
  | 54 => ⟨S8x32x64x4x128, .f32⟩
  | 55 => ⟨S32x8x64x4x128, .f32⟩
  | 56 => ⟨S8x32x64x4x128, .f32⟩
  | 57 => ⟨S32x8x64x4x128, .f32⟩
  | 58 => ⟨S8x32x64x4x128, .f32⟩
  | 59 => ⟨S32x8x64x4x128, .f32⟩
  | 60 => ⟨S_, .f32⟩
  | 61 => ⟨S32x8x64x4x128, .f32⟩
  | 62 => ⟨S_, .i32⟩
  | 63 => ⟨S32x8x64x4x128, .f32⟩
  | 64 => ⟨S32x8x64x4x128, .f32⟩
  | 65 => ⟨S32x8x64x4x128, .f32⟩
  | 66 => ⟨S32x8x64x4x128, .f32⟩
  | 67 => ⟨S64x64, .i1⟩
  | 68 => ⟨S_, .i32⟩
  | 69 => ⟨S8x4x128x128, .f32⟩
  | 70 => ⟨S32x8x64x4x128, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x8x64x4x128, .f32⟩
  | 78 => ⟨S8x64x4x128, .f32⟩
  | 79 => ⟨S_, .i32⟩
  | 80 => ⟨S_, .i32⟩
  | 81 => ⟨S_, .i32⟩
  | 82 => ⟨S_, .i32⟩
  | 83 => ⟨S1x8x64x4x128, .f32⟩
  | 84 => ⟨S8x64x4x128, .f32⟩
  | 85 => ⟨S_, .i32⟩
  | 86 => ⟨S_, .i32⟩
  | 87 => ⟨S_, .i32⟩
  | 88 => ⟨S_, .i32⟩
  | 89 => ⟨S1x8x64x4x128, .f32⟩
  | 90 => ⟨S8x64x4x128, .f32⟩
  | 91 => ⟨S_, .i32⟩
  | 92 => ⟨S_, .i32⟩
  | 93 => ⟨S_, .i32⟩
  | 94 => ⟨S_, .i32⟩
  | 95 => ⟨S1x8x64x4x128, .f32⟩
  | 96 => ⟨S8x64x4x128, .f32⟩
  | 97 => ⟨S_, .f32⟩
  | 98 => ⟨S_, .f32⟩
  | 99 => ⟨S8x64x4x128, .f32⟩
  | 100 => ⟨S8x64x4x128, .f32⟩
  | 101 => ⟨S8x64x4x128, .f32⟩
  | 102 => ⟨S8x64x4x128, .f32⟩
  | 103 => ⟨S8x64x4x128, .f32⟩
  | 104 => ⟨S8x64x4x128, .f32⟩
  | 105 => ⟨S8x4x64x64, .f32⟩
  | 106 => ⟨S_, .f32⟩
  | 107 => ⟨S_, .f32⟩
  | 108 => ⟨S8x4x64x64, .i1⟩
  | 109 => ⟨S8x4x64x64, .f32⟩
  | 110 => ⟨S8x4x64x64, .f32⟩
  | 111 => ⟨S8x4x128x64, .f32⟩
  | 112 => ⟨S8x64x4x128, .f32⟩
  | 113 => ⟨S8x4x128x64, .f32⟩
  | 114 => ⟨S8x64x4x128, .f32⟩
  | 115 => ⟨S8x64x4x128, .f32⟩
  | 116 => ⟨S8x1x4x128, .f32⟩
  | 117 => ⟨S8x4x128, .f32⟩
  | 118 => ⟨S8x4x128, .f32⟩
  | 119 => ⟨S8x4x128x1, .f32⟩
  | 120 => ⟨S8x4x128x128, .f32⟩
  | 121 => ⟨S8x4x128x128, .f32⟩
  | 122 => ⟨S8x1x4x128, .f32⟩
  | 123 => ⟨S8x64x4x128, .f32⟩
  | 124 => ⟨S8x64x4x128, .f32⟩
  | 125 => ⟨S8x64x4x128, .f32⟩
  | 126 => ⟨S8x64x4x128, .f32⟩
  | 127 => ⟨S8x4x128x128, .f32⟩
  | _ => ⟨S16384x8832, .f32⟩

abbrev hbmTy0_1 (i : Nat) : BufTy := match i % 128 with
  | 0 => ⟨S8x4x128x128, .f32⟩
  | 1 => ⟨S1x8x64x4x128, .f32⟩
  | 2 => ⟨S_, .i32⟩
  | 3 => ⟨S_, .i32⟩
  | 4 => ⟨S_, .i32⟩
  | 5 => ⟨S_, .i32⟩
  | 6 => ⟨S32x8x64x4x128, .f32⟩
  | 7 => ⟨S_, .i32⟩
  | 8 => ⟨S_, .i32⟩
  | 9 => ⟨S8x32x64x4x128, .f32⟩
  | 10 => ⟨S8x2048x4x128, .f32⟩
  | 11 => ⟨S8x2048x8832, .f32⟩
  | 12 => ⟨S8x2048x512, .f32⟩
  | 13 => ⟨S8x2048x4x128, .f32⟩
  | 14 => ⟨S_, .f32⟩
  | 15 => ⟨S8x2048x4, .f32⟩
  | 16 => ⟨S8x2048x4x1, .f32⟩
  | 17 => ⟨S_, .f32⟩
  | 18 => ⟨S8x2048x4x1, .f32⟩
  | 19 => ⟨S8x2048x4x1, .f32⟩
  | 20 => ⟨S_, .f32⟩
  | 21 => ⟨S8x2048x4x1, .f32⟩
  | 22 => ⟨S8x2048x4x1, .f32⟩
  | 23 => ⟨S8x2048x4x1, .f32⟩
  | 24 => ⟨S8x2048x4x128, .f32⟩
  | 25 => ⟨S8x2048x4x128, .f32⟩
  | 26 => ⟨S1x1x1x128, .f32⟩
  | 27 => ⟨S8x2048x4x128, .f32⟩
  | 28 => ⟨S8x2048x4x128, .f32⟩
  | 29 => ⟨S8x2048x4x128, .f32⟩
  | 30 => ⟨S8x2048x4x128, .f32⟩
  | 31 => ⟨S8x2048x4x128, .f32⟩
  | 32 => ⟨S_, .f32⟩
  | 33 => ⟨S8x2048x4x128, .f32⟩
  | 34 => ⟨S8x2048x4x128, .f32⟩
  | 35 => ⟨S_, .f32⟩
  | 36 => ⟨S8x2048x4x128, .f32⟩
  | 37 => ⟨S8x2048x4x128, .f32⟩
  | 38 => ⟨S8x2048x4x128, .f32⟩
  | 39 => ⟨S8x2048x4x128, .f32⟩
  | 40 => ⟨S16384x512, .f32⟩
  | 41 => ⟨S16384x512, .bf16⟩
  | _ => ⟨S16384x8832, .f32⟩

abbrev hbmTy (i : Nat) : BufTy := match i / 128 with
  | 0 => hbmTy0_0 i
  | 1 => hbmTy0_1 i
  | _ => ⟨S16384x8832, .f32⟩

abbrev bufTy : (tb : Table) → Fin (tcTables nBuf tb) → BufTy
  | .hbm, ⟨i, _⟩ => hbmTy i
  | _, _ => ⟨S16384x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_2 : Ref sig .tc := ⟨.hbm, 60, rfl⟩
abbrev main_v29 : Ref sig .tc := ⟨.hbm, 61, rfl⟩
abbrev main_c_3 : Ref sig .tc := ⟨.hbm, 62, rfl⟩
abbrev main_v30_0 : Ref sig .tc := ⟨.hbm, 63, rfl⟩
abbrev main_v30_1 : Ref sig .tc := ⟨.hbm, 64, rfl⟩
abbrev main_v30_2 : Ref sig .tc := ⟨.hbm, 65, rfl⟩
abbrev main_v30_3 : Ref sig .tc := ⟨.hbm, 66, rfl⟩
abbrev main_v30_4 : Ref sig .tc := ⟨.hbm, 67, rfl⟩
abbrev main_v30_5 : Ref sig .tc := ⟨.hbm, 68, rfl⟩
abbrev main_v30_6 : Ref sig .tc := ⟨.hbm, 69, rfl⟩
abbrev main_v30_7 : Ref sig .tc := ⟨.hbm, 70, rfl⟩
abbrev main_while0c_c_14 : Ref sig .tc := ⟨.hbm, 71, rfl⟩
abbrev main_while0c_v53 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v53 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v54 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v55 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v56 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v57 : Ref sig .tc := ⟨.hbm, 99, rfl⟩
abbrev main_while0b_v58 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_cst_14 : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_v2 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_call8_v0 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_v83 : Ref sig .tc := ⟨.hbm, 134, rfl⟩
abbrev main_while0b_c_15 : Ref sig .tc := ⟨.hbm, 135, rfl⟩
abbrev main_while0b_v84 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_cst_4 : Ref sig .tc := ⟨.hbm, 142, rfl⟩
abbrev main_v36 : Ref sig .tc := ⟨.hbm, 143, rfl⟩
abbrev main_v37 : Ref sig .tc := ⟨.hbm, 144, rfl⟩
abbrev main_cst_5 : Ref sig .tc := ⟨.hbm, 145, rfl⟩
abbrev main_v38 : Ref sig .tc := ⟨.hbm, 146, rfl⟩
abbrev main_v39 : Ref sig .tc := ⟨.hbm, 147, rfl⟩
abbrev main_cst_6 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_call9_v0 : Ref sig .tc := ⟨.hbm, 158, rfl⟩
abbrev main_call9_v1 : Ref sig .tc := ⟨.hbm, 159, rfl⟩
abbrev main_call9_cst : Ref sig .tc := ⟨.hbm, 160, rfl⟩
abbrev main_call9_v2 : Ref sig .tc := ⟨.hbm, 161, rfl⟩
abbrev main_call9_v3 : Ref sig .tc := ⟨.hbm, 162, rfl⟩
abbrev main_call9_cst_0 : Ref sig .tc := ⟨.hbm, 163, rfl⟩
abbrev main_call9_v4 : Ref sig .tc := ⟨.hbm, 164, rfl⟩
abbrev main_call9_v5 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S16384x512 : Shape := ⟨2, ![16384, 512]⟩
abbrev S16384x8832 : Shape := ⟨2, ![16384, 8832]⟩
abbrev S8x6144 : Shape := ⟨2, ![8, 6144]⟩
abbrev S1024 : Shape := ⟨1, ![1024]⟩
abbrev S3x512x1024 : Shape := ⟨3, ![3, 512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S1x1024 : Shape := ⟨2, ![1, 1024]⟩
abbrev S1x256x1024 : Shape := ⟨3, ![1, 256, 1024]⟩
abbrev S256x512 : Shape := ⟨2, ![256, 512]⟩
abbrev S256x1024 : Shape := ⟨2, ![256, 1024]⟩
abbrev S1x1x1024 : Shape := ⟨3, ![1, 1, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 22
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8832, .f32⟩
  | .hbm, ⟨5, _⟩ => ⟨S8x6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S8x1x6144, .f32⟩
  | .hbm, ⟨14, _⟩ => ⟨S3x512x1024, .bf16⟩
  | .hbm, ⟨15, _⟩ => ⟨S1024x1024, .bf16⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S3x512x1024, .bf16⟩
  | .local _ .vmem, ⟨26, _⟩ => ⟨S1024x1024, .bf16⟩
  | .local _ .vmem, ⟨27, _⟩ => ⟨S1024x5632, .bf16⟩
  | .local _ .vmem, ⟨28, _⟩ => ⟨S2816x1024, .bf16⟩
  | .local _ .vmem, ⟨29, _⟩ => ⟨S1x256x1024, .f32⟩
  | .local _ .vmem, ⟨30, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel2Ideal.lean ====
abbrev S8x2048x1024 : Shape := ⟨3, ![8, 2048, 1024]⟩
abbrev S16384x512 : Shape := ⟨2, ![16384, 512]⟩
abbrev S16384x8832 : Shape := ⟨2, ![16384, 8832]⟩
abbrev S8x6144 : Shape := ⟨2, ![8, 6144]⟩
abbrev S1024 : Shape := ⟨1, ![1024]⟩
abbrev S3x512x1024 : Shape := ⟨3, ![3, 512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S1x1024 : Shape := ⟨2, ![1, 1024]⟩
abbrev S1x256x1024 : Shape := ⟨3, ![1, 256, 1024]⟩
abbrev S256x512 : Shape := ⟨2, ![256, 512]⟩
abbrev S256x1024 : Shape := ⟨2, ![256, 1024]⟩
abbrev S1x1x1024 : Shape := ⟨3, ![1, 1, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 22
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8832, .f32⟩
  | .hbm, ⟨5, _⟩ => ⟨S8x6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S8x1x6144, .f32⟩
  | .hbm, ⟨14, _⟩ => ⟨S3x512x1024, .bf16⟩
  | .hbm, ⟨15, _⟩ => ⟨S1024x1024, .bf16⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S3x512x1024, .bf16⟩
  | .local _ .vmem, ⟨26, _⟩ => ⟨S1024x1024, .bf16⟩
  | .local _ .vmem, ⟨27, _⟩ => ⟨S1024x5632, .bf16⟩
  | .local _ .vmem, ⟨28, _⟩ => ⟨S2816x1024, .bf16⟩
  | .local _ .vmem, ⟨29, _⟩ => ⟨S1x256x1024, .f32⟩
  | .local _ .vmem, ⟨30, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x2048x1024 : Shape := ⟨3, ![8, 2048, 1024]⟩
abbrev S16384x512 : Shape := ⟨2, ![16384, 512]⟩
abbrev S16384x8832 : Shape := ⟨2, ![16384, 8832]⟩
abbrev S8x6144 : Shape := ⟨2, ![8, 6144]⟩
abbrev S1024 : Shape := ⟨1, ![1024]⟩
abbrev S3x512x1024 : Shape := ⟨3, ![3, 512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S16384x3072 : Shape := ⟨2, ![16384, 3072]⟩
abbrev S8x2048x512 : Shape := ⟨3, ![8, 2048, 512]⟩
abbrev S1x8x2048x512 : Shape := ⟨4, ![1, 8, 2048, 512]⟩
abbrev S3x8x2048x512 : Shape := ⟨4, ![3, 8, 2048, 512]⟩
abbrev S3x8x2048x1024 : Shape := ⟨4, ![3, 8, 2048, 1024]⟩
abbrev S_ : Shape := ⟨0, ![]⟩
abbrev S8x2048x3x1024 : Shape := ⟨4, ![8, 2048, 3, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8832, .f32⟩
  | .hbm, ⟨5, _⟩ => ⟨S8x6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S8x1x6144, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S16384x3072, .f32⟩
  | .hbm, ⟨21, _⟩ => ⟨S16384x512, .f32⟩
  | .hbm, ⟨22, _⟩ => ⟨S8x2048x512, .f32⟩
  | .hbm, ⟨23, _⟩ => ⟨S16384x512, .f32⟩
  | .hbm, ⟨24, _⟩ => ⟨S8x2048x512, .f32⟩
  | .hbm, ⟨25, _⟩ => ⟨S16384x512, .f32⟩
  | .hbm, ⟨26, _⟩ => ⟨S8x2048x512, .f32⟩
  | .hbm, ⟨27, _⟩ => ⟨S1x8x2048x512, .f32⟩
  | .hbm, ⟨28, _⟩ => ⟨S1x8x2048x512, .f32⟩
  | .hbm, ⟨29, _⟩ => ⟨S1x8x2048x512, .f32⟩
  | .hbm, ⟨30, _⟩ => ⟨S3x8x2048x512, .f32⟩
  | .hbm, ⟨31, _⟩ => ⟨S3x8x2048x1024, .f32⟩
  | .hbm, ⟨32, _⟩ => ⟨S16384x3072, .f32⟩
  | .hbm, ⟨33, _⟩ => ⟨S16384x3072, .f32⟩
  | .hbm, ⟨34, _⟩ => ⟨S_, .f32⟩
  | .hbm, ⟨35, _⟩ => ⟨S16384x3072, .f32⟩
  | .hbm, ⟨36, _⟩ => ⟨S16384x3072, .f32⟩
  | .hbm, ⟨37, _⟩ => ⟨S_, .f32⟩
  | .hbm, ⟨38, _⟩ => ⟨S16384x3072, .f32⟩
  | .hbm, ⟨39, _⟩ => ⟨S16384x3072, .f32⟩
  | .hbm, ⟨40, _⟩ => ⟨S8x2048x3x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x1x1024, .f32⟩
  | .hbm, ⟨80, _⟩ => ⟨S8x1x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x5632, .f32⟩
  | .hbm, ⟨86, _⟩ => ⟨S8x2048x2816, .f32⟩
  | .hbm, ⟨87, _⟩ => ⟨S8x2048x2816, .f32⟩
  | .hbm, ⟨88, _⟩ => ⟨S8x2048x2816, .f32⟩
  | .hbm, ⟨89, _⟩ => ⟨S8x2048x2816, .f32⟩
  | .hbm, ⟨90, _⟩ => ⟨S_, .f32⟩
  | .hbm, ⟨91, _⟩ => ⟨S8x2048x2816, .f32⟩
  | .hbm, ⟨92, _⟩ => ⟨S8x2048x2816, .f32⟩
  | .hbm, ⟨93, _⟩ => ⟨S_, .f32⟩
  | .hbm, ⟨94, _⟩ => ⟨S8x2048x2816, .f32⟩
  | .hbm, ⟨95, _⟩ => ⟨S8x2048x2816, .f32⟩
  | .hbm, ⟨96, _⟩ => ⟨S8x2048x2816, .f32⟩
  | .hbm, ⟨97, _⟩ => ⟨S8x2048x2816, .f32⟩
  | .hbm, ⟨98, _⟩ => ⟨S8x2048x1024, .f32⟩
  | .hbm, ⟨99, _⟩ => ⟨S8x2048x1024, .f32⟩
  | .hbm, ⟨100, _⟩ => ⟨S_, .f32⟩
  | .hbm, ⟨101, _⟩ => ⟨S8x2048, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1, .f32⟩
  | .hbm, ⟨110, _⟩ => ⟨S8x2048x1024, .f32⟩
  | .hbm, ⟨111, _⟩ => ⟨S8x2048x1024, .f32⟩
  | .hbm, ⟨112, _⟩ => ⟨S1x1x1024, .f32⟩
  | .hbm, ⟨113, _⟩ => ⟨S8x2048x1024, .f32⟩
  | .hbm, ⟨114, _⟩ => ⟨S8x2048x1024, .f32⟩
  | .hbm, ⟨115, _⟩ => ⟨S8x2048x1024, .f32⟩
  | .hbm, ⟨116, _⟩ => ⟨S8x2048x1024, .f32⟩
  | .hbm, ⟨117, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_8 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S1024 : Shape := ⟨1, ![1024]⟩
abbrev S1x1024x8736 : Shape := ⟨3, ![1, 1024, 8736]⟩
abbrev S1x1024x512 : Shape := ⟨3, ![1, 1024, 512]⟩
abbrev S1x1024x1536 : Shape := ⟨3, ![1, 1024, 1536]⟩
abbrev S1x1024x3072 : Shape := ⟨3, ![1, 1024, 3072]⟩
abbrev S1x1024x1024 : Shape := ⟨3, ![1, 1024, 1024]⟩
abbrev S1x1024x16 : Shape := ⟨3, ![1, 1024, 16]⟩
abbrev S1x1024x8 : Shape := ⟨3, ![1, 1024, 8]⟩
abbrev S1x1024x4 : Shape := ⟨3, ![1, 1024, 4]⟩
abbrev S_ : Shape := ⟨0, ![]⟩
abbrev S1x1024x96 : Shape := ⟨3, ![1, 1024, 96]⟩
abbrev S1x1024x8832 : Shape := ⟨3, ![1, 1024, 8832]⟩
abbrev S8x1x6144 : Shape := ⟨3, ![8, 1, 6144]⟩
abbrev S1024x8832 : Shape := ⟨2, ![1024, 8832]⟩
abbrev S1x1x1024 : Shape := ⟨3, ![1, 1, 1024]⟩
abbrev S16384x8832 : Shape := ⟨2, ![16384, 8832]⟩
abbrev S1x512x1024 : Shape := ⟨3, ![1, 512, 1024]⟩
abbrev S1024x2944 : Shape := ⟨2, ![1024, 2944]⟩
abbrev S512x2944 : Shape := ⟨2, ![512, 2944]⟩
abbrev S1x512 : Shape := ⟨2, ![1, 512]⟩
abbrev S1x512x1 : Shape := ⟨3, ![1, 512, 1]⟩
abbrev S512x1024 : Shape := ⟨2, ![512, 1024]⟩

abbrev nBuf : Space → Nat
  | .hbm => 25
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1x1024x8736, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x1536, .f32⟩
  | .hbm, ⟨9, _⟩ => ⟨S1x1024x512, .f32⟩
  | .hbm, ⟨10, _⟩ => ⟨S1x1024x3072, .f32⟩
  | .hbm, ⟨11, _⟩ => ⟨S1x1024x1024, .f32⟩
  | .hbm, ⟨12, _⟩ => ⟨S1x1024x512, .f32⟩
  | .hbm, ⟨13, _⟩ => ⟨S1x1024x16, .f32⟩
  | .hbm, ⟨14, _⟩ => ⟨S1x1024x8, .f32⟩
  | .hbm, ⟨15, _⟩ => ⟨S1x1024x4, .f32⟩
  | .hbm, ⟨16, _⟩ => ⟨S1x1024x4, .f32⟩
  | .hbm, ⟨17, _⟩ => ⟨S_, .f32⟩
  | .hbm, ⟨18, _⟩ => ⟨S1x1024x96, .f32⟩
  | .hbm, ⟨19, _⟩ => ⟨S1x1024x8832, .f32⟩
  | .hbm, ⟨20, _⟩ => ⟨S1x1024x8832, .bf16⟩
  | .hbm, ⟨21, _⟩ => ⟨S8x1x6144, .f32⟩
  | .hbm, ⟨22, _⟩ => ⟨S1024x8832, .bf16⟩
  | .hbm, ⟨23, _⟩ => ⟨S1x1x1024, .f32⟩
  | .hbm, ⟨24, _⟩ => ⟨S16384x8832, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1024x2944, .bf16⟩
  | .local _ .vmem, ⟨9, _⟩ => ⟨S512x2944, .f32⟩
  | .local _ .vmem, ⟨10, _⟩ => ⟨S512x2944, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
abbrev S8x2048x1024 : Shape := ⟨3, ![8, 2048, 1024]⟩
abbrev S8x6144 : Shape := ⟨2, ![8, 6144]⟩
abbrev S1024 : Shape := ⟨1, ![1024]⟩
abbrev S1x1024x8736 : Shape := ⟨3, ![1, 1024, 8736]⟩
abbrev S1x1024x512 : Shape := ⟨3, ![1, 1024, 512]⟩
abbrev S1x1024x1536 : Shape := ⟨3, ![1, 1024, 1536]⟩
abbrev S1x1024x3072 : Shape := ⟨3, ![1, 1024, 3072]⟩
abbrev S1x1024x1024 : Shape := ⟨3, ![1, 1024, 1024]⟩
abbrev S1x1024x16 : Shape := ⟨3, ![1, 1024, 16]⟩
abbrev S1x1024x8 : Shape := ⟨3, ![1, 1024, 8]⟩
abbrev S1x1024x4 : Shape := ⟨3, ![1, 1024, 4]⟩
abbrev S_ : Shape := ⟨0, ![]⟩
abbrev S1x1024x96 : Shape := ⟨3, ![1, 1024, 96]⟩
abbrev S1x1024x8832 : Shape := ⟨3, ![1, 1024, 8832]⟩
abbrev S8x1x6144 : Shape := ⟨3, ![8, 1, 6144]⟩
abbrev S1024x8832 : Shape := ⟨2, ![1024, 8832]⟩
abbrev S1x1x1024 : Shape := ⟨3, ![1, 1, 1024]⟩
abbrev S16384x8832 : Shape := ⟨2, ![16384, 8832]⟩
abbrev S1x512x1024 : Shape := ⟨3, ![1, 512, 1024]⟩
abbrev S1024x2944 : Shape := ⟨2, ![1024, 2944]⟩
abbrev S512x2944 : Shape := ⟨2, ![512, 2944]⟩
abbrev S1x512 : Shape := ⟨2, ![1, 512]⟩
abbrev S1x512x1 : Shape := ⟨3, ![1, 512, 1]⟩
abbrev S512x1024 : Shape := ⟨2, ![512, 1024]⟩

abbrev nBuf : Space → Nat
  | .hbm => 25
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1x1024x8736, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x1536, .f32⟩
  | .hbm, ⟨9, _⟩ => ⟨S1x1024x512, .f32⟩
  | .hbm, ⟨10, _⟩ => ⟨S1x1024x3072, .f32⟩
  | .hbm, ⟨11, _⟩ => ⟨S1x1024x1024, .f32⟩
  | .hbm, ⟨12, _⟩ => ⟨S1x1024x512, .f32⟩
  | .hbm, ⟨13, _⟩ => ⟨S1x1024x16, .f32⟩
  | .hbm, ⟨14, _⟩ => ⟨S1x1024x8, .f32⟩
  | .hbm, ⟨15, _⟩ => ⟨S1x1024x4, .f32⟩
  | .hbm, ⟨16, _⟩ => ⟨S1x1024x4, .f32⟩
  | .hbm, ⟨17, _⟩ => ⟨S_, .f32⟩
  | .hbm, ⟨18, _⟩ => ⟨S1x1024x96, .f32⟩
  | .hbm, ⟨19, _⟩ => ⟨S1x1024x8832, .f32⟩
  | .hbm, ⟨20, _⟩ => ⟨S1x1024x8832, .bf16⟩
  | .hbm, ⟨21, _⟩ => ⟨S8x1x6144, .f32⟩
  | .hbm, ⟨22, _⟩ => ⟨S1024x8832, .bf16⟩
  | .hbm, ⟨23, _⟩ => ⟨S1x1x1024, .f32⟩
  | .hbm, ⟨24, _⟩ => ⟨S16384x8832, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1024x2944, .bf16⟩
  | .local _ .vmem, ⟨9, _⟩ => ⟨S512x2944, .f32⟩
  | .local _ .vmem, ⟨10, _⟩ => ⟨S512x2944, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S8x2048x1024 : Shape := ⟨3, ![8, 2048, 1024]⟩
abbrev S8x6144 : Shape := ⟨2, ![8, 6144]⟩
abbrev S1024 : Shape := ⟨1, ![1024]⟩
abbrev S1x1024x8736 : Shape := ⟨3, ![1, 1024, 8736]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x8736 : Shape := ⟨2, ![1024, 8736]⟩
abbrev S8x2048x8736 : Shape := ⟨3, ![8, 2048, 8736]⟩
abbrev S8x2048x512 : Shape := ⟨3, ![8, 2048, 512]⟩
abbrev S8x2048x16 : Shape := ⟨3, ![8, 2048, 16]⟩
abbrev S8x2048x8 : Shape := ⟨3, ![8, 2048, 8]⟩
abbrev S8x2048x1536 : Shape := ⟨3, ![8, 2048, 1536]⟩
abbrev S8x2048x4 : Shape := ⟨3, ![8, 2048, 4]⟩
abbrev S8x2048x3072 : Shape := ⟨3, ![8, 2048, 3072]⟩
abbrev S8x2048x96 : Shape := ⟨3, ![8, 2048, 96]⟩
abbrev S8x2048x8832 : Shape := ⟨3, ![8, 2048, 8832]⟩
abbrev S16384x8832 : Shape := ⟨2, ![16384, 8832]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1x1024x8736, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x8736, .f32⟩
  | .hbm, ⟨35, _⟩ => ⟨S8x2048x8736, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x16, .f32⟩
  | .hbm, ⟨41, _⟩ => ⟨S8x2048x512, .f32⟩
  | .hbm, ⟨42, _⟩ => ⟨S8x2048x1024, .f32⟩
  | .hbm, ⟨43, _⟩ => ⟨S8x2048x8, .f32⟩
  | .hbm, ⟨44, _⟩ => ⟨S8x2048x1536, .f32⟩
  | .hbm, ⟨45, _⟩ => ⟨S8x2048x4, .f32⟩
  | .hbm, ⟨46, _⟩ => ⟨S8x2048x4, .f32⟩
  | .hbm, ⟨47, _⟩ => ⟨S8x2048x512, .f32⟩
  | .hbm, ⟨48, _⟩ => ⟨S8x2048x3072, .f32⟩
  | .hbm, ⟨49, _⟩ => ⟨S_, .f32⟩
  | .hbm, ⟨50, _⟩ => ⟨S8x2048x96, .f32⟩
  | .hbm, ⟨51, _⟩ => ⟨S8x2048x8832, .f32⟩
  | .hbm, ⟨52, _⟩ => ⟨S16384x8832, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel4.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩
abbrev S128x6144 : Shape := ⟨2, ![128, 6144]⟩
abbrev S1x128x6144 : Shape := ⟨3, ![1, 128, 6144]⟩
abbrev S2x128x6144 : Shape := ⟨3, ![2, 128, 6144]⟩
abbrev S2x136x6144 : Shape := ⟨3, ![2, 136, 6144]⟩

abbrev nBuf : Space → Nat
  | .hbm => 79
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S1x1024x6144, .f32⟩
  | .hbm, ⟨31, _⟩ => ⟨S1024x6144, .f32⟩
  | .hbm, ⟨32, _⟩ => ⟨S8x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S8x6144, .f32⟩
  | .hbm, ⟨37, _⟩ => ⟨S8x6144, .f32⟩
  | .hbm, ⟨38, _⟩ => ⟨S1x8x6144, .f32⟩
  | .hbm, ⟨39, _⟩ => ⟨S1x8x6144, .f32⟩
  | .hbm, ⟨40, _⟩ => ⟨S2x8x6144, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S1x1024x6144, .f32⟩
  | .hbm, ⟨51, _⟩ => ⟨S1024x6144, .f32⟩
  | .hbm, ⟨52, _⟩ => ⟨S128x6144, .f32⟩
  | .hbm, ⟨53, _⟩ => ⟨S1x6144, .f32⟩
  | .hbm, ⟨54, _⟩ => ⟨S6144, .f32⟩
  | .hbm, ⟨55, _⟩ => ⟨S1x6144, .f32⟩
  | .hbm, ⟨56, _⟩ => ⟨S128x6144, .f32⟩
  | .hbm, ⟨57, _⟩ => ⟨S128x6144, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S1x1024x6144, .f32⟩
  | .hbm, ⟨68, _⟩ => ⟨S1024x6144, .f32⟩
  | .hbm, ⟨69, _⟩ => ⟨S128x6144, .f32⟩
  | .hbm, ⟨70, _⟩ => ⟨S1x6144, .f32⟩
  | .hbm, ⟨71, _⟩ => ⟨S6144, .f32⟩
  | .hbm, ⟨72, _⟩ => ⟨S1x6144, .f32⟩
  | .hbm, ⟨73, _⟩ => ⟨S128x6144, .f32⟩
  | .hbm, ⟨74, _⟩ => ⟨S128x6144, .f32⟩
  | .hbm, ⟨75, _⟩ => ⟨S1x128x6144, .f32⟩
  | .hbm, ⟨76, _⟩ => ⟨S1x128x6144, .f32⟩
  | .hbm, ⟨77, _⟩ => ⟨S2x128x6144, .f32⟩
  | .hbm, ⟨78, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩

abbrev nD : Nat := 1
abbrev τ : Topo := Topo.v7x

variable {F : FTy → Type} [FloatOps F]
-- ==== Kernel5.lean ====
abbrev S128x8x1024 : Shape := ⟨3, ![128, 8, 1024]⟩
abbrev S128x6144 : Shape := ⟨2, ![128, 6144]⟩
abbrev S1024 : Shape := ⟨1, ![1024]⟩
abbrev S1x1024x8736 : Shape := ⟨3, ![1, 1024, 8736]⟩
abbrev S1x1024x512 : Shape := ⟨3, ![1, 1024, 512]⟩
abbrev S1x1024x1536 : Shape := ⟨3, ![1, 1024, 1536]⟩
abbrev S1x1024x3072 : Shape := ⟨3, ![1, 1024, 3072]⟩
abbrev S1x1024x1024 : Shape := ⟨3, ![1, 1024, 1024]⟩
abbrev S1x1024x16 : Shape := ⟨3, ![1, 1024, 16]⟩
abbrev S1x1024x8 : Shape := ⟨3, ![1, 1024, 8]⟩
abbrev S1x1024x4 : Shape := ⟨3, ![1, 1024, 4]⟩
abbrev S_ : Shape := ⟨0, ![]⟩
abbrev S1x1024x96 : Shape := ⟨3, ![1, 1024, 96]⟩
abbrev S1x1024x8832 : Shape := ⟨3, ![1, 1024, 8832]⟩
abbrev S128x1x6144 : Shape := ⟨3, ![128, 1, 6144]⟩
abbrev S1024x8832 : Shape := ⟨2, ![1024, 8832]⟩
abbrev S1x1x1024 : Shape := ⟨3, ![1, 1, 1024]⟩
abbrev S64x8x1024 : Shape := ⟨3, ![64, 8, 1024]⟩
abbrev S64x1x1024 : Shape := ⟨3, ![64, 1, 1024]⟩
abbrev S1024x2944 : Shape := ⟨2, ![1024, 2944]⟩
abbrev S512x2944 : Shape := ⟨2, ![512, 2944]⟩
abbrev S64x8 : Shape := ⟨2, ![64, 8]⟩
abbrev S64x8x1 : Shape := ⟨3, ![64, 8, 1]⟩
abbrev S512x1024 : Shape := ⟨2, ![512, 1024]⟩

abbrev nBuf : Space → Nat
  | .hbm => 25
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1x1024x8736, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x1536, .f32⟩
  | .hbm, ⟨9, _⟩ => ⟨S1x1024x512, .f32⟩
  | .hbm, ⟨10, _⟩ => ⟨S1x1024x3072, .f32⟩
  | .hbm, ⟨11, _⟩ => ⟨S1x1024x1024, .f32⟩
  | .hbm, ⟨12, _⟩ => ⟨S1x1024x512, .f32⟩
  | .hbm, ⟨13, _⟩ => ⟨S1x1024x16, .f32⟩
  | .hbm, ⟨14, _⟩ => ⟨S1x1024x8, .f32⟩
  | .hbm, ⟨15, _⟩ => ⟨S1x1024x4, .f32⟩
  | .hbm, ⟨16, _⟩ => ⟨S1x1024x4, .f32⟩
  | .hbm, ⟨17, _⟩ => ⟨S_, .f32⟩
  | .hbm, ⟨18, _⟩ => ⟨S1x1024x96, .f32⟩
  | .hbm, ⟨19, _⟩ => ⟨S1x1024x8832, .f32⟩
  | .hbm, ⟨20, _⟩ => ⟨S1x1024x8832, .bf16⟩
  | .hbm, ⟨21, _⟩ => ⟨S128x1x6144, .f32⟩
  | .hbm, ⟨22, _⟩ => ⟨S1024x8832, .bf16⟩
  | .hbm, ⟨23, _⟩ => ⟨S1x1x1024, .f32⟩
  | .hbm, ⟨24, _⟩ => ⟨S1024x8832, .f32⟩
  | .local _ .vmem, ⟨0, _⟩ => ⟨S64x8x1024, .f32⟩
  | .local _ .vmem, ⟨1, _⟩ => ⟨S64x8x1024, .f32⟩
  | .local _ .vmem, ⟨2, _⟩ => ⟨S64x1x1024, .f32⟩
  | .local _ .vmem, ⟨3, _⟩ => ⟨S64x1x1024, .f32⟩
  | .local _ .vmem, ⟨4, _⟩ => ⟨S64x1x1024, .f32⟩
  | .local _ .vmem, ⟨5, _⟩ => ⟨S64x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1024x2944, .bf16⟩
  | .local _ .vmem, ⟨9, _⟩ => ⟨S512x2944, .f32⟩
  | .local _ .vmem, ⟨10, _⟩ => ⟨S512x2944, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![v1.toNat, arg0.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S128x8x1024 : Shape := ⟨3, ![128, 8, 1024]⟩
abbrev S128x6144 : Shape := ⟨2, ![128, 6144]⟩
abbrev S1024 : Shape := ⟨1, ![1024]⟩
abbrev S1x1024x8736 : Shape := ⟨3, ![1, 1024, 8736]⟩
abbrev S128x1x6144 : Shape := ⟨3, ![128, 1, 6144]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x8736 : Shape := ⟨2, ![1024, 8736]⟩
abbrev S128x8x8736 : Shape := ⟨3, ![128, 8, 8736]⟩
abbrev S128x8x512 : Shape := ⟨3, ![128, 8, 512]⟩
abbrev S128x8x16 : Shape := ⟨3, ![128, 8, 16]⟩
abbrev S128x8x8 : Shape := ⟨3, ![128, 8, 8]⟩
abbrev S128x8x1536 : Shape := ⟨3, ![128, 8, 1536]⟩
abbrev S128x8x4 : Shape := ⟨3, ![128, 8, 4]⟩
abbrev S128x8x3072 : Shape := ⟨3, ![128, 8, 3072]⟩
abbrev S128x8x96 : Shape := ⟨3, ![128, 8, 96]⟩
abbrev S128x8x8832 : Shape := ⟨3, ![128, 8, 8832]⟩
abbrev S1024x8832 : Shape := ⟨2, ![1024, 8832]⟩

abbrev nBuf : Space → Nat
  | .hbm => 53
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1x1024x8736, .f32⟩
  | .hbm, ⟨4, _⟩ => ⟨S128x1x6144, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S1024x8736, .f32⟩
  | .hbm, ⟨35, _⟩ => ⟨S128x8x8736, .f32⟩
  | .hbm, ⟨36, _⟩ => ⟨S128x8x512, .f32⟩
  | .hbm, ⟨37, _⟩ => ⟨S128x8x512, .f32⟩
  | .hbm, ⟨38, _⟩ => ⟨S128x8x512, .f32⟩
  | .hbm, ⟨39, _⟩ => ⟨S128x8x512, .f32⟩
  | .hbm, ⟨40, _⟩ => ⟨S128x8x16, .f32⟩
  | .hbm, ⟨41, _⟩ => ⟨S128x8x512, .f32⟩
  | .hbm, ⟨42, _⟩ => ⟨S128x8x1024, .f32⟩
  | .hbm, ⟨43, _⟩ => ⟨S128x8x8, .f32⟩
  | .hbm, ⟨44, _⟩ => ⟨S128x8x1536, .f32⟩
  | .hbm, ⟨45, _⟩ => ⟨S128x8x4, .f32⟩
  | .hbm, ⟨46, _⟩ => ⟨S128x8x4, .f32⟩
  | .hbm, ⟨47, _⟩ => ⟨S128x8x512, .f32⟩
  | .hbm, ⟨48, _⟩ => ⟨S128x8x3072, .f32⟩
  | .hbm, ⟨49, _⟩ => ⟨S_, .f32⟩
  | .hbm, ⟨50, _⟩ => ⟨S128x8x96, .f32⟩
  | .hbm, ⟨51, _⟩ => ⟨S128x8x8832, .f32⟩
  | .hbm, ⟨52, _⟩ => ⟨S1024x8832, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel6.lean ====
abbrev S128x8x1024 : Shape := ⟨3, ![128, 8, 1024]⟩
abbrev S1024x512 : Shape := ⟨2, ![1024, 512]⟩
abbrev S1024x8832 : Shape := ⟨2, ![1024, 8832]⟩
abbrev S128x6144 : Shape := ⟨2, ![128, 6144]⟩
abbrev S1024 : Shape := ⟨1, ![1024]⟩
abbrev S3x512x1024 : Shape := ⟨3, ![3, 512, 1024]⟩
abbrev S1024x1024 : Shape := ⟨2, ![1024, 1024]⟩
abbrev S1024x5632 : Shape := ⟨2, ![1024, 5632]⟩
abbrev S2816x1024 : Shape := ⟨2, ![2816, 1024]⟩
abbrev S128x1x6144 : Shape := ⟨3, ![128, 1, 6144]⟩
abbrev S1x1024 : Shape := ⟨2, ![1, 1024]⟩
abbrev S32x8x1024 : Shape := ⟨3, ![32, 8, 1024]⟩
abbrev S256x512 : Shape := ⟨2, ![256, 512]⟩
abbrev S256x1024 : Shape := ⟨2, ![256, 1024]⟩
abbrev S32x1x1024 : Shape := ⟨3, ![32, 1, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 22
  | .vmem => 31
  | .smem => 0
  | _ => 0

abbrev bufTy : (tb : Table) → Fin (tcTables nBuf tb) → BufTy
  | .hbm, ⟨0, _⟩ => ⟨S128x8x1024, .f32⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x8832, .f32⟩
  | .hbm, ⟨5, _⟩ => ⟨S128x6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S128x1x6144, .f32⟩
  | .hbm, ⟨14, _⟩ => ⟨S3x512x1024, .bf16⟩
  | .hbm, ⟨15, _⟩ => ⟨S1024x1024, .bf16⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S128x8x1024, .f32⟩
  | .local _ .vmem, ⟨0, _⟩ => ⟨S32x8x1024, .f32⟩
  | .local _ .vmem, ⟨1, _⟩ => ⟨S32x8x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S32x1x1024, .f32⟩
  | .local _ .vmem, ⟨15, _⟩ => ⟨S32x1x1024, .f32⟩
  | .local _ .vmem, ⟨16, _⟩ => ⟨S32x1x1024, .f32⟩
  | .local _ .vmem, ⟨17, _⟩ => ⟨S32x1x1024, .f32⟩
  | .local _ .vmem, ⟨18, _⟩ => ⟨S32x1x1024, .f32⟩
  | .local _ .vmem, ⟨19, _⟩ => ⟨S32x1x1024, .f32⟩
  | .local _ .vmem, ⟨20, _⟩ => ⟨S32x1x1024, .f32⟩
  | .local _ .vmem, ⟨21, _⟩ => ⟨S32x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S3x512x1024, .bf16⟩
  | .local _ .vmem, ⟨26, _⟩ => ⟨S1024x1024, .bf16⟩
  | .local _ .vmem, ⟨27, _⟩ => ⟨S1024x5632, .bf16⟩
  | .local _ .vmem, ⟨28, _⟩ => ⟨S2816x1024, .bf16⟩
  | .local _ .vmem, ⟨29, _⟩ => ⟨S32x8x1024, .f32⟩
  | .local _ .vmem, ⟨30, _⟩ => ⟨S32x8x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  ![v1.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S32x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference6Ideal.lean ====
abbrev S128x8x1024 : Shape := ⟨3, ![128, 8, 1024]⟩
abbrev S1024x512 : Shape := ⟨2, ![1024, 512]⟩
abbrev S1024x8832 : Shape := ⟨2, ![1024, 8832]⟩
abbrev S128x6144 : Shape := ⟨2, ![128, 6144]⟩
abbrev S1024 : Shape := ⟨1, ![1024]⟩
abbrev S3x512x1024 : Shape := ⟨3, ![3, 512, 1024]⟩
abbrev S1024x1024 : Shape := ⟨2, ![1024, 1024]⟩
abbrev S1024x5632 : Shape := ⟨2, ![1024, 5632]⟩
abbrev S2816x1024 : Shape := ⟨2, ![2816, 1024]⟩
abbrev S128x1x6144 : Shape := ⟨3, ![128, 1, 6144]⟩
abbrev S128x1x1024 : Shape := ⟨3, ![128, 1, 1024]⟩
abbrev S1024x3072 : Shape := ⟨2, ![1024, 3072]⟩
abbrev S128x8x512 : Shape := ⟨3, ![128, 8, 512]⟩
abbrev S1x128x8x512 : Shape := ⟨4, ![1, 128, 8, 512]⟩
abbrev S3x128x8x512 : Shape := ⟨4, ![3, 128, 8, 512]⟩
abbrev S3x128x8x1024 : Shape := ⟨4, ![3, 128, 8, 1024]⟩
abbrev S_ : Shape := ⟨0, ![]⟩
abbrev S128x8x3x1024 : Shape := ⟨4, ![128, 8, 3, 1024]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩

abbrev nBuf : Space → Nat
  | .hbm => 118
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x8832, .f32⟩
  | .hbm, ⟨5, _⟩ => ⟨S128x6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S128x1x6144, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S1024x3072, .f32⟩
  | .hbm, ⟨21, _⟩ => ⟨S1024x512, .f32⟩
  | .hbm, ⟨22, _⟩ => ⟨S128x8x512, .f32⟩
  | .hbm, ⟨23, _⟩ => ⟨S1024x512, .f32⟩
  | .hbm, ⟨24, _⟩ => ⟨S128x8x512, .f32⟩
  | .hbm, ⟨25, _⟩ => ⟨S1024x512, .f32⟩
  | .hbm, ⟨26, _⟩ => ⟨S128x8x512, .f32⟩
  | .hbm, ⟨27, _⟩ => ⟨S1x128x8x512, .f32⟩
  | .hbm, ⟨28, _⟩ => ⟨S1x128x8x512, .f32⟩
  | .hbm, ⟨29, _⟩ => ⟨S1x128x8x512, .f32⟩
  | .hbm, ⟨30, _⟩ => ⟨S3x128x8x512, .f32⟩
  | .hbm, ⟨31, _⟩ => ⟨S3x128x8x1024, .f32⟩
  | .hbm, ⟨32, _⟩ => ⟨S1024x3072, .f32⟩
  | .hbm, ⟨33, _⟩ => ⟨S1024x3072, .f32⟩
  | .hbm, ⟨34, _⟩ => ⟨S_, .f32⟩
  | .hbm, ⟨35, _⟩ => ⟨S1024x3072, .f32⟩
  | .hbm, ⟨36, _⟩ => ⟨S1024x3072, .f32⟩
  | .hbm, ⟨37, _⟩ => ⟨S_, .f32⟩
  | .hbm, ⟨38, _⟩ => ⟨S1024x3072, .f32⟩
  | .hbm, ⟨39, _⟩ => ⟨S1024x3072, .f32⟩
  | .hbm, ⟨40, _⟩ => ⟨S128x8x3x1024, .f32⟩
  | .hbm, ⟨41, _⟩ => ⟨S128x8x1024, .f32⟩
  | .hbm, ⟨42, _⟩ => ⟨S128x8x1024, .f32⟩
  | .hbm, ⟨43, _⟩ => ⟨S128x8x1024, .f32⟩
  | .hbm, ⟨44, _⟩ => ⟨S_, .f32⟩
  | .hbm, ⟨45, _⟩ => ⟨S128x8, .f32⟩
  | .hbm, ⟨46, _⟩ => ⟨S128x8x1, .f32⟩
  | .hbm, ⟨47, _⟩ => ⟨S_, .f32⟩
  | .hbm, ⟨48, _⟩ => ⟨S128x8x1, .f32⟩
  | .hbm, ⟨49, _⟩ => ⟨S128x8x1, .f32⟩
  | .hbm, ⟨50, _⟩ => ⟨S_, .f32⟩
  | .hbm, ⟨51, _⟩ => ⟨S128x8x1, .f32⟩
  | .hbm, ⟨52, _⟩ => ⟨S128x8x1, .f32⟩
  | .hbm, ⟨53, _⟩ => ⟨S128x8x1, .f32⟩
  | .hbm, ⟨54, _⟩ => ⟨S128x8x1024, .f32⟩
  | .hbm, ⟨55, _⟩ => ⟨S128x8x1024, .f32⟩
  | .hbm, ⟨56, _⟩ => ⟨S1x1x1024, .f32⟩
  | .hbm, ⟨57, _⟩ => ⟨S128x8x1024, .f32⟩
  | .hbm, ⟨58, _⟩ => ⟨S128x8x1024, .f32⟩
  | .hbm, ⟨59, _⟩ => ⟨S128x8x1024, .f32⟩
  | .hbm, ⟨60, _⟩ => ⟨S128x8x1024, .f32⟩
  | .hbm, ⟨61, _⟩ => ⟨S128x8x1024, .f32⟩
  | .hbm, ⟨62, _⟩ => ⟨S128x8x1024, .f32⟩
  | .hbm, ⟨63, _⟩ => ⟨S_, .f32⟩
  | .hbm, ⟨64, _⟩ => ⟨S128x8, .f32⟩
  | .hbm, ⟨65, _⟩ => ⟨S128x8x1, .f32⟩
  | .hbm, ⟨66, _⟩ => ⟨S_, .f32⟩
  | .hbm, ⟨67, _⟩ => ⟨S128x8x1, .f32⟩
  | .hbm, ⟨68, _⟩ => ⟨S128x8x1, .f32⟩
  | .hbm, ⟨69, _⟩ => ⟨S_, .f32⟩
  | .hbm, ⟨70, _⟩ => ⟨S128x8x1, .f32⟩
  | .hbm, ⟨71, _⟩ => ⟨S128x8x1, .f32⟩
  | .hbm, ⟨72, _⟩ => ⟨S128x8x1, .f32⟩
  | .hbm, ⟨73, _⟩ => ⟨S128x8x1024, .f32⟩
  | .hbm, ⟨74, _⟩ => ⟨S128x8x1024, .f32⟩
  | .hbm, ⟨75, _⟩ => ⟨S1x1x1024, .f32⟩
  | .hbm, ⟨76, _⟩ => ⟨S128x8x1024, .f32⟩
  | .hbm, ⟨77, _⟩ => ⟨S128x8x1024, .f32⟩
  | .hbm, ⟨78, _⟩ => ⟨S_, .f32⟩
  | .hbm, ⟨79, _⟩ => ⟨S128x1x1024, .f32⟩
  | .hbm, ⟨80, _⟩ => ⟨S128x1x1024, .f32⟩
  | .hbm, ⟨81, _⟩ => ⟨S128x8x1024, .f32⟩
  | .hbm, ⟨82, _⟩ => ⟨S128x8x1024, .f32⟩
  | .hbm, ⟨83, _⟩ => ⟨S128x8x1024, .f32⟩
  | .hbm, ⟨84, _⟩ => ⟨S128x8x1024, .f32⟩
  | .hbm, ⟨85, _⟩ => ⟨S128x8x5632, .f32⟩
  | .hbm, ⟨86, _⟩ => ⟨S128x8x2816, .f32⟩
  | .hbm, ⟨87, _⟩ => ⟨S128x8x2816, .f32⟩
  | .hbm, ⟨88, _⟩ => ⟨S128x8x2816, .f32⟩
  | .hbm, ⟨89, _⟩ => ⟨S128x8x2816, .f32⟩
  | .hbm, ⟨90, _⟩ => ⟨S_, .f32⟩
  | .hbm, ⟨91, _⟩ => ⟨S128x8x2816, .f32⟩
  | .hbm, ⟨92, _⟩ => ⟨S128x8x2816, .f32⟩
  | .hbm, ⟨93, _⟩ => ⟨S_, .f32⟩
  | .hbm, ⟨94, _⟩ => ⟨S128x8x2816, .f32⟩
  | .hbm, ⟨95, _⟩ => ⟨S128x8x2816, .f32⟩
  | .hbm, ⟨96, _⟩ => ⟨S128x8x2816, .f32⟩
  | .hbm, ⟨97, _⟩ => ⟨S128x8x2816, .f32⟩
  | .hbm, ⟨98, _⟩ => ⟨S128x8x1024, .f32⟩
  | .hbm, ⟨99, _⟩ => ⟨S128x8x1024, .f32⟩
  | .hbm, ⟨100, _⟩ => ⟨S_, .f32⟩
  | .hbm, ⟨101, _⟩ => ⟨S128x8, .f32⟩
  | .hbm, ⟨102, _⟩ => ⟨S128x8x1, .f32⟩
  | .hbm, ⟨103, _⟩ => ⟨S_, .f32⟩
  | .hbm, ⟨104, _⟩ => ⟨S128x8x1, .f32⟩
  | .hbm, ⟨105, _⟩ => ⟨S128x8x1, .f32⟩
  | .hbm, ⟨106, _⟩ => ⟨S_, .f32⟩
  | .hbm, ⟨107, _⟩ => ⟨S128x8x1, .f32⟩
  | .hbm, ⟨108, _⟩ => ⟨S128x8x1, .f32⟩
  | .hbm, ⟨109, _⟩ => ⟨S128x8x1, .f32⟩
  | .hbm, ⟨110, _⟩ => ⟨S128x8x1024, .f32⟩
  | .hbm, ⟨111, _⟩ => ⟨S128x8x1024, .f32⟩
  | .hbm, ⟨112, _⟩ => ⟨S1x1x1024, .f32⟩
  | .hbm, ⟨113, _⟩ => ⟨S128x8x1024, .f32⟩
  | .hbm, ⟨114, _⟩ => ⟨S128x8x1024, .f32⟩
  | .hbm, ⟨115, _⟩ => ⟨S128x8x1024, .f32⟩
  | .hbm, ⟨116, _⟩ => ⟨S128x8x1024, .f32⟩
  | .hbm, ⟨117, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_8 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel7.lean ====
abbrev S1024x8832 : Shape := ⟨2, ![1024, 8832]⟩
abbrev S16x512 : Shape := ⟨2, ![16, 512]⟩
abbrev S512 : Shape := ⟨1, ![512]⟩
abbrev S128 : Shape := ⟨1, ![128]⟩
abbrev S128x4x128x128 : Shape := ⟨4, ![128, 4, 128, 128]⟩
abbrev S_ : Shape := ⟨0, ![]⟩
abbrev S128x512 : Shape := ⟨2, ![128, 512]⟩
abbrev S1x512 : Shape := ⟨2, ![1, 512]⟩
abbrev S1x128 : Shape := ⟨2, ![1, 128]⟩
abbrev S1024x512 : Shape := ⟨2, ![1024, 512]⟩
abbrev S64x512 : Shape := ⟨2, ![64, 512]⟩
abbrev S64x128 : Shape := ⟨2, ![64, 128]⟩
abbrev S8x4x128x128 : Shape := ⟨4, ![8, 4, 128, 128]⟩
abbrev S64x64 : Shape := ⟨2, ![64, 64]⟩
abbrev S64x1 : Shape := ⟨2, ![64, 1]⟩
abbrev S1x64 : Shape := ⟨2, ![1, 64]⟩
abbrev S128x64 : Shape := ⟨2, ![128, 64]⟩
abbrev S1x1x128x128 : Shape := ⟨4, ![1, 1, 128, 128]⟩
abbrev S128x128 : Shape := ⟨2, ![128, 128]⟩
abbrev S64 : Shape := ⟨1, ![64]⟩

abbrev nBuf : Space → Nat
  | .hbm => 12
  | .vmem => 19
  | .smem => 0
  | _ => 0

abbrev bufTy : (tb : Table) → Fin (tcTables nBuf tb) → BufTy
  | .hbm, ⟨0, _⟩ => ⟨S1024x8832, .f32⟩
  | .hbm, ⟨1, _⟩ => ⟨S16x512, .f32⟩
  | .hbm, ⟨2, _⟩ => ⟨S512, .f32⟩
  | .hbm, ⟨3, _⟩ => ⟨S128, .f32⟩
  | .hbm, ⟨4, _⟩ => ⟨S128x4x128x128, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S1x512, .f32⟩
  | .hbm, ⟨9, _⟩ => ⟨S1x128, .f32⟩
  | .hbm, ⟨10, _⟩ => ⟨S1024x512, .bf16⟩
  | .hbm, ⟨11, _⟩ => ⟨S128x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S128x512, .f32⟩
  | .local _ .vmem, ⟨11, _⟩ => ⟨S1x512, .f32⟩
  | .local _ .vmem, ⟨12, _⟩ => ⟨S1x128, .f32⟩
  | .local _ .vmem, ⟨13, _⟩ => ⟨S8x4x128x128, .f32⟩
  | .local _ .vmem, ⟨14, _⟩ => ⟨S8x4x128x128, .f32⟩
  | .local _ .vmem, ⟨15, _⟩ => ⟨S64x512, .bf16⟩
  | .local _ .vmem, ⟨16, _⟩ => ⟨S64x512, .bf16⟩
  | .local _ .vmem, ⟨17, _⟩ => ⟨S8x4x128x128, .f32⟩
  | .local _ .vmem, ⟨18, _⟩ => ⟨S8x4x128x128, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c68_i32 : BitVec 32 := 68#32
  let c0_i32 : BitVec 32 := 0#32
  ![arg0.toNat, c68_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S1024x8832 : Shape := ⟨2, ![1024, 8832]⟩
abbrev S16x512 : Shape := ⟨2, ![16, 512]⟩
abbrev S512 : Shape := ⟨1, ![512]⟩
abbrev S128 : Shape := ⟨1, ![128]⟩
abbrev S128x4x128x128 : Shape := ⟨4, ![128, 4, 128, 128]⟩
abbrev S128x8x8832 : Shape := ⟨3, ![128, 8, 8832]⟩
abbrev S128x4x8832 : Shape := ⟨3, ![128, 4, 8832]⟩
abbrev S128x4x512 : Shape := ⟨3, ![128, 4, 512]⟩
abbrev S128x4x16 : Shape := ⟨3, ![128, 4, 16]⟩
abbrev S128x4x4x128 : Shape := ⟨4, ![128, 4, 4, 128]⟩
abbrev S_ : Shape := ⟨0, ![]⟩
abbrev S1x1x512 : Shape := ⟨3, ![1, 1, 512]⟩
abbrev S4x4 : Shape := ⟨2, ![4, 4]⟩
abbrev S128x1x4x4x128 : Shape := ⟨5, ![128, 1, 4, 4, 128]⟩
abbrev S1x128x4x4x128 : Shape := ⟨5, ![1, 128, 4, 4, 128]⟩
abbrev S128x4x4x4 : Shape := ⟨4, ![128, 4, 4, 4]⟩
abbrev S128x4x128x4 : Shape := ⟨4, ![128, 4, 128, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S1x1x1x128 : Shape := ⟨4, ![1, 1, 1, 128]⟩
abbrev S128x8x512 : Shape := ⟨3, ![128, 8, 512]⟩
abbrev S1024x512 : Shape := ⟨2, ![1024, 512]⟩

abbrev nBuf : Space → Nat
  | .hbm => 174
  | .vmem => 0
  | .smem => 0
  | _ => 0

abbrev hbmTy0_0 (i : Nat) : BufTy := match i % 128 with
  | 0 => ⟨S1024x8832, .f32⟩
  | 1 => ⟨S16x512, .f32⟩
  | 2 => ⟨S512, .f32⟩
  | 3 => ⟨S128, .f32⟩
  | 4 => ⟨S128x4x128x128, .f32⟩
  | 5 => ⟨S128x8x8832, .f32⟩
  | 6 => ⟨S128x4x8832, .f32⟩
  | 7 => ⟨S128x4x512, .f32⟩
  | 8 => ⟨S128x4x512, .f32⟩
  | 9 => ⟨S128x4x512, .f32⟩
  | 10 => ⟨S128x4x16, .f32⟩
  | 11 => ⟨S128x4x4x128, .f32⟩
  | 12 => ⟨S_, .f32⟩
  | 13 => ⟨S128x4x4x128, .f32⟩
  | 14 => ⟨S128x4x4x128, .f32⟩
  | 15 => ⟨S128x4x4x128, .f32⟩
  | 16 => ⟨S128x4x4x128, .f32⟩
  | 17 => ⟨S128x4x512, .f32⟩
  | 18 => ⟨S1x1x512, .f32⟩
  | 19 => ⟨S128x4x512, .f32⟩
  | 20 => ⟨S128x4x512, .f32⟩
  | 21 => ⟨S128x4x512, .f32⟩
  | 22 => ⟨S_, .f32⟩
  | 23 => ⟨S128x4x512, .f32⟩
  | 24 => ⟨S128x4x512, .f32⟩
  | 25 => ⟨S128x4x512, .f32⟩
  | 26 => ⟨S128x4x512, .f32⟩
  | 27 => ⟨S128x4x512, .i1⟩
  | 28 => ⟨S128x4x512, .f32⟩
  | 29 => ⟨S128x4x512, .f32⟩
  | 30 => ⟨S128x4x512, .f32⟩
  | 31 => ⟨S128x4x512, .f32⟩
  | 32 => ⟨S128x4x512, .f32⟩
  | 33 => ⟨S128x4x512, .f32⟩
  | 34 => ⟨S128x4x512, .f32⟩
  | 35 => ⟨S128x4x512, .f32⟩
  | 36 => ⟨S128x4x512, .f32⟩
  | 37 => ⟨S_, .f32⟩
  | 38 => ⟨S128x4x512, .f32⟩
  | 39 => ⟨S128x4x512, .f32⟩
  | 40 => ⟨S128x4x4x128, .f32⟩
  | 41 => ⟨S_, .i1⟩
  | 42 => ⟨S4x4, .i1⟩
  | 43 => ⟨S4x4, .i32⟩
  | 44 => ⟨S_, .i32⟩
  | 45 => ⟨S4x4, .i32⟩
  | 46 => ⟨S4x4, .i32⟩
  | 47 => ⟨S4x4, .i32⟩
  | 48 => ⟨S4x4, .i1⟩
  | 49 => ⟨S_, .i1⟩
  | 50 => ⟨S4x4, .i1⟩
  | 51 => ⟨S4x4, .i1⟩
  | 52 => ⟨S128x1x4x4x128, .f32⟩
  | 53 => ⟨S1x128x4x4x128, .f32⟩
  | 54 => ⟨S128x1x4x4x128, .f32⟩
  | 55 => ⟨S1x128x4x4x128, .f32⟩
  | 56 => ⟨S128x1x4x4x128, .f32⟩
  | 57 => ⟨S1x128x4x4x128, .f32⟩
  | 58 => ⟨S128x1x4x4x128, .f32⟩
  | 59 => ⟨S1x128x4x4x128, .f32⟩
  | 60 => ⟨S_, .f32⟩
  | 61 => ⟨S1x128x4x4x128, .f32⟩
  | 62 => ⟨S_, .i32⟩
  | 63 => ⟨S1x128x4x4x128, .f32⟩
  | 64 => ⟨S1x128x4x4x128, .f32⟩
  | 65 => ⟨S1x128x4x4x128, .f32⟩
  | 66 => ⟨S1x128x4x4x128, .f32⟩
  | 67 => ⟨S4x4, .i1⟩
  | 68 => ⟨S_, .i32⟩
  | 69 => ⟨S128x4x128x128, .f32⟩
  | 70 => ⟨S1x128x4x4x128, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x128x4x4x128, .f32⟩
  | 78 => ⟨S128x4x4x128, .f32⟩
  | 79 => ⟨S_, .i32⟩
  | 80 => ⟨S_, .i32⟩
  | 81 => ⟨S_, .i32⟩
  | 82 => ⟨S_, .i32⟩
  | 83 => ⟨S1x128x4x4x128, .f32⟩
  | 84 => ⟨S128x4x4x128, .f32⟩
  | 85 => ⟨S_, .i32⟩
  | 86 => ⟨S_, .i32⟩
  | 87 => ⟨S_, .i32⟩
  | 88 => ⟨S_, .i32⟩
  | 89 => ⟨S1x128x4x4x128, .f32⟩
  | 90 => ⟨S128x4x4x128, .f32⟩
  | 91 => ⟨S_, .i32⟩
  | 92 => ⟨S_, .i32⟩
  | 93 => ⟨S_, .i32⟩
  | 94 => ⟨S_, .i32⟩
  | 95 => ⟨S1x128x4x4x128, .f32⟩
  | 96 => ⟨S128x4x4x128, .f32⟩
  | 97 => ⟨S_, .f32⟩
  | 98 => ⟨S_, .f32⟩
  | 99 => ⟨S128x4x4x128, .f32⟩
  | 100 => ⟨S128x4x4x128, .f32⟩
  | 101 => ⟨S128x4x4x128, .f32⟩
  | 102 => ⟨S128x4x4x128, .f32⟩
  | 103 => ⟨S128x4x4x128, .f32⟩
  | 104 => ⟨S128x4x4x128, .f32⟩
  | 105 => ⟨S128x4x4x4, .f32⟩
  | 106 => ⟨S_, .f32⟩
  | 107 => ⟨S_, .f32⟩
  | 108 => ⟨S128x4x4x4, .i1⟩
  | 109 => ⟨S128x4x4x4, .f32⟩
  | 110 => ⟨S128x4x4x4, .f32⟩
  | 111 => ⟨S128x4x128x4, .f32⟩
  | 112 => ⟨S128x4x4x128, .f32⟩
  | 113 => ⟨S128x4x128x4, .f32⟩
  | 114 => ⟨S128x4x4x128, .f32⟩
  | 115 => ⟨S128x4x4x128, .f32⟩
  | 116 => ⟨S128x1x4x128, .f32⟩
  | 117 => ⟨S128x4x128, .f32⟩
  | 118 => ⟨S128x4x128, .f32⟩
  | 119 => ⟨S128x4x128x1, .f32⟩
  | 120 => ⟨S128x4x128x128, .f32⟩
  | 121 => ⟨S128x4x128x128, .f32⟩
  | 122 => ⟨S128x1x4x128, .f32⟩
  | 123 => ⟨S128x4x4x128, .f32⟩
  | 124 => ⟨S128x4x4x128, .f32⟩
  | 125 => ⟨S128x4x4x128, .f32⟩
  | 126 => ⟨S128x4x4x128, .f32⟩
  | 127 => ⟨S128x4x128x128, .f32⟩
  | _ => ⟨S1024x8832, .f32⟩

abbrev hbmTy0_1 (i : Nat) : BufTy := match i % 128 with
  | 0 => ⟨S128x4x128x128, .f32⟩
  | 1 => ⟨S1x128x4x4x128, .f32⟩
  | 2 => ⟨S_, .i32⟩
  | 3 => ⟨S_, .i32⟩
  | 4 => ⟨S_, .i32⟩
  | 5 => ⟨S_, .i32⟩
  | 6 => ⟨S1x128x4x4x128, .f32⟩
  | 7 => ⟨S_, .i32⟩
  | 8 => ⟨S_, .i32⟩
  | 9 => ⟨S128x1x4x4x128, .f32⟩
  | 10 => ⟨S128x4x4x128, .f32⟩
  | 11 => ⟨S128x8x8832, .f32⟩
  | 12 => ⟨S128x4x512, .f32⟩
  | 13 => ⟨S128x4x4x128, .f32⟩
  | 14 => ⟨S_, .f32⟩
  | 15 => ⟨S128x4x4, .f32⟩
  | 16 => ⟨S128x4x4x1, .f32⟩
  | 17 => ⟨S_, .f32⟩
  | 18 => ⟨S128x4x4x1, .f32⟩
  | 19 => ⟨S128x4x4x1, .f32⟩
  | 20 => ⟨S_, .f32⟩
  | 21 => ⟨S128x4x4x1, .f32⟩
  | 22 => ⟨S128x4x4x1, .f32⟩
  | 23 => ⟨S128x4x4x1, .f32⟩
  | 24 => ⟨S128x4x4x128, .f32⟩
  | 25 => ⟨S128x4x4x128, .f32⟩
  | 26 => ⟨S1x1x1x128, .f32⟩
  | 27 => ⟨S128x4x4x128, .f32⟩
  | 28 => ⟨S128x4x4x128, .f32⟩
  | 29 => ⟨S128x4x4x128, .f32⟩
  | 30 => ⟨S128x4x4x128, .f32⟩
  | 31 => ⟨S128x4x4x128, .f32⟩
  | 32 => ⟨S_, .f32⟩
  | 33 => ⟨S128x4x4x128, .f32⟩
  | 34 => ⟨S128x4x4x128, .f32⟩
  | 35 => ⟨S_, .f32⟩
  | 36 => ⟨S128x4x4x128, .f32⟩
  | 37 => ⟨S128x4x4x128, .f32⟩
  | 38 => ⟨S128x4x4x128, .f32⟩
  | 39 => ⟨S128x4x4x128, .f32⟩
  | 40 => ⟨S128x4x512, .f32⟩
  | 41 => ⟨S_, .i32⟩
  | 42 => ⟨S_, .f32⟩
  | 43 => ⟨S128x8x512, .f32⟩
  | 44 => ⟨S1024x512, .f32⟩
  | 45 => ⟨S1024x512, .bf16⟩
  | _ => ⟨S1024x8832, .f32⟩

abbrev hbmTy (i : Nat) : BufTy := match i / 128 with
  | 0 => hbmTy0_0 i
  | 1 => hbmTy0_1 i
  | _ => ⟨S1024x8832, .f32⟩

abbrev bufTy : (tb : Table) → Fin (tcTables nBuf tb) → BufTy
  | .hbm, ⟨i, _⟩ => hbmTy i
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_1 : Ref sig .tc := ⟨.hbm, 60, rfl⟩
abbrev main_v29 : Ref sig .tc := ⟨.hbm, 61, rfl⟩
abbrev main_c_2 : Ref sig .tc := ⟨.hbm, 62, rfl⟩
abbrev main_v30_0 : Ref sig .tc := ⟨.hbm, 63, rfl⟩
abbrev main_v30_1 : Ref sig .tc := ⟨.hbm, 64, rfl⟩
abbrev main_v30_2 : Ref sig .tc := ⟨.hbm, 65, rfl⟩
abbrev main_v30_3 : Ref sig .tc := ⟨.hbm, 66, rfl⟩
abbrev main_v30_4 : Ref sig .tc := ⟨.hbm, 67, rfl⟩
abbrev main_v30_5 : Ref sig .tc := ⟨.hbm, 68, rfl⟩
abbrev main_v30_6 : Ref sig .tc := ⟨.hbm, 69, rfl⟩
abbrev main_v30_7 : Ref sig .tc := ⟨.hbm, 70, rfl⟩
abbrev main_while0c_c_14 : Ref sig .tc := ⟨.hbm, 71, rfl⟩
abbrev main_while0c_v55 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v55 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v56 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v57 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v58 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_cst_14 : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_v2 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_call8_v0 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_v85 : Ref sig .tc := ⟨.hbm, 134, rfl⟩
abbrev main_while0b_c_15 : Ref sig .tc := ⟨.hbm, 135, rfl⟩
abbrev main_while0b_v86 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_cst_3 : Ref sig .tc := ⟨.hbm, 142, rfl⟩
abbrev main_v36 : Ref sig .tc := ⟨.hbm, 143, rfl⟩
abbrev main_v37 : Ref sig .tc := ⟨.hbm, 144, rfl⟩
abbrev main_cst_4 : Ref sig .tc := ⟨.hbm, 145, rfl⟩
abbrev main_v38 : Ref sig .tc := ⟨.hbm, 146, rfl⟩
abbrev main_v39 : Ref sig .tc := ⟨.hbm, 147, rfl⟩
abbrev main_cst_5 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_call9_v0 : Ref sig .tc := ⟨.hbm, 158, rfl⟩
abbrev main_call9_v1 : Ref sig .tc := ⟨.hbm, 159, rfl⟩
abbrev main_call9_cst : Ref sig .tc := ⟨.hbm, 160, rfl⟩
abbrev main_call9_v2 : Ref sig .tc := ⟨.hbm, 161, rfl⟩
abbrev main_call9_v3 : Ref sig .tc := ⟨.hbm, 162, rfl⟩
abbrev main_call9_cst_0 : Ref sig .tc := ⟨.hbm, 163, rfl⟩
abbrev main_call9_v4 : Ref sig .tc := ⟨.hbm, 164, rfl⟩
abbrev main_call9_v5 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_c_6 : Ref sig .tc := ⟨.hbm, 169, rfl⟩
abbrev main_call10_v0 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩

abbrev nD : Nat := 1
abbrev τ : Topo := Topo.v7x

variable {F : FTy → Type} [FloatOps F]

abbrev main_while0_count : Scf.Loop 32 := ⟨0#32, 1#32, 1#32⟩
-- ==== Proof.Gla.Spec.lean ====
/-
  THE MATHEMATICS OF THE CHUNKED GATED-LINEAR-ATTENTION RECURRENCE, over the extended reals and named by no program:
  what one chunk of 64 rows computes from its gate, query, key and value rows and from the state before it, and the
  state after any number of chunks of one sequence. Both programs' modules are stated against these definitions.
-/
module

public import Idealize.ShloMosaic.Lib.Pointwise

@[expose] public section

set_option maxRecDepth 16384

noncomputable section

namespace Cert.Gla

open Idealize.ShloMosaic

/-- One row block of 64 rows over the 512 flat columns (head `d / 128`, channel `d % 128`). -/
abbrev Rows := Fin 64 → Fin 512 → EReal
/-- The recurrent state: head, key channel, value channel. -/
abbrev State := Fin 4 → Fin 128 → Fin 128 → EReal

/-- The flat column of channel `k` of head `h`. -/
abbrev col (h : Fin 4) (k : Fin 128) : Fin 512 := ⟨128 * h.val + k.val, by omega⟩
/-- The row of the stacked sequences that chunk `t` holds at place `r`. -/
abbrev row (t : Fin 256) (r : Fin 64) : Fin 16384 := ⟨64 * t.val + r.val, by omega⟩
/-- Chunk `i` of sequence `b`. -/
abbrev chunk (b : Fin 8) (i : ℕ) (hi : i < 32) : Fin 256 := ⟨32 * b.val + i, by omega⟩

/-- The log-decay of a gate's logit `z`: minus the softplus of `-z`, times the constant one sixteenth. -/
def gate (z : EReal) : EReal :=
  (0 - (max (0 - z) 0 + Ideal.log1p (Ideal.exp (0 - max (0 - z) (-(0 - z)))))) * Ideal.ofBits .f32 0x3D800000#32

/-- The log-decays of a block summed from its first row to row `r`. -/
def cum (la : Rows) : Rows := fun r d => ∑ s : Fin 64, if s ≤ r then la s d else 0
/-- The log-decays of a block summed over all its rows. -/
def tot (la : Rows) (d : Fin 512) : EReal := ∑ s : Fin 64, la s d

/-- The scaled queries, decayed from the block's start. -/
def qdec (la q : Rows) : Rows := fun r d => q r d * Ideal.ofBits .f32 0x3DB504F3#32 * Ideal.exp (cum la r d)
/-- The keys, with the decay from the block's start taken back. -/
def kinv (la k : Rows) : Rows := fun r d => k r d * Ideal.exp (0 - cum la r d)
/-- The keys, decayed to the block's end. -/
def kend (la k : Rows) : Rows := fun r d => k r d * Ideal.exp (tot la d - cum la r d)

/-- The output rows before the norm: attention within the block to the rows not later, plus the queries against the
    state before the block. -/
def outRaw (la q k v : Rows) (S : State) (h : Fin 4) (r : Fin 64) (x : Fin 128) : EReal :=
  (∑ s : Fin 64, if s ≤ r then (∑ c : Fin 128, qdec la q r (col h c) * kinv la k s (col h c)) * v s (col h x) else 0)
    + ∑ c : Fin 128, qdec la q r (col h c) * S h c x

/-- The state after the block: the one before decayed over the block, plus every row's key against its value. -/
def next (la k v : Rows) (S : State) : State := fun h c x =>
  S h c x * Ideal.exp (tot la (col h c)) + ∑ s : Fin 64, kend la k s (col h c) * v s (col h x)

/-- A head's row `o` over the root of its mean square, times the gain, times `z` over one plus `exp (-z)`. -/
def normed (o : Fin 128 → EReal) (g z : EReal) (x : Fin 128) : EReal :=
  o x * Ideal.rsqrt (Ideal.div (∑ c : Fin 128, o c * o c) (Ideal.ofBits .f32 0x43000000#32) + Ideal.ofBits .f32 0x358637BD#32)
    * g * (z * Ideal.div 1 (1 + Ideal.exp (0 - z)))

section Arrays
variable (U : (⟨2, ![16384, 8832]⟩ : Shape).Idx → EReal) (W : (⟨2, ![16, 512]⟩ : Shape).Idx → EReal)
  (bias : (⟨1, ![512]⟩ : Shape).Idx → EReal) (gain : (⟨1, ![128]⟩ : Shape).Idx → EReal)

/-- The gate's logit of row `p` and column `d`: the 16 low-rank columns against the gate's weights, plus the bias. -/
def logit (p : Fin 16384) (d : Fin 512) : EReal :=
  (∑ x : Fin 16, U (ix2 p ⟨8704 + x.val, by omega⟩) * W (ix2 x d)) + bias (ix1 d)
/-- Chunk `t`'s log-decays. -/
def laOf (t : Fin 256) : Rows := fun r d => gate (logit U W bias (row t r) d)
/-- Chunk `t`'s queries, -/
def qOf (t : Fin 256) : Rows := fun r d => U (ix2 (row t r) ⟨d.val, by omega⟩)
/-- keys, -/
def kOf (t : Fin 256) : Rows := fun r d => U (ix2 (row t r) ⟨512 + d.val, by omega⟩)
/-- and values. -/
def vOf (t : Fin 256) : Rows := fun r d => U (ix2 (row t r) ⟨1024 + d.val, by omega⟩)

/-- The state of sequence `b` after its first `i` chunks (zero before the first). -/
def stateAt (b : Fin 8) : ℕ → State
  | 0 => fun _ _ _ => 0
  | i + 1 => if hi : i < 32 then
      next (laOf U W bias (chunk b i hi)) (kOf U (chunk b i hi)) (vOf U (chunk b i hi)) (stateAt b i)
    else stateAt b i

/-- Chunk `t`'s output row before the norm. -/
def rawOf (t : Fin 256) (h : Fin 4) (r : Fin 64) (x : Fin 128) : EReal :=
  outRaw (laOf U W bias t) (qOf U t) (kOf U t) (vOf U t) (stateAt U W bias ⟨t.val / 32, by omega⟩ (t.val % 32)) h r x

/-- Chunk `t`'s output row. -/
def yOf (t : Fin 256) (h : Fin 4) (r : Fin 64) (x : Fin 128) : EReal :=
  normed (rawOf U W bias t h r) (gain (ix1 x)) (U (ix2 (row t r) ⟨1536 + (col h x).val, by omega⟩)) x

end Arrays

end Cert.Gla
-- ==== Proof.Gla.Gate.lean ====
/-
  SCALAR FACTS over the extended reals that the two programs' arithmetic differs by: a factor split into a part and the
  remainder, a masked sum so split, and the log-decay's sign.
-/
module

public import proofs.«01_k».proof.Proof.Gla.Spec

@[expose] public section

set_option maxRecDepth 16384

noncomputable section

namespace Cert.Gla

open Idealize.ShloMosaic

/-- A selection by "row at least column" over the 64 rows, as an `if`. -/
theorem select_ge (r s : Fin 64) (a b : EReal) :
    Scalar.select (IntOp.cmpi .sge (BitVec.ofNat 32 r.val) (BitVec.ofNat 32 s.val)) a b = if s ≤ r then a else b := by
  have key : ∀ r s : Fin 64, (IntOp.cmpi .sge (BitVec.ofNat 32 r.val) (BitVec.ofNat 32 s.val) = 1) = (s ≤ r) := by
    intro r s
    exact propext ((by decide +kernel :
      ∀ r s : Fin 64, (IntOp.cmpi .sge (BitVec.ofNat 32 r.val) (BitVec.ofNat 32 s.val) = 1) ↔ (s ≤ r)) r s)
  unfold Scalar.select
  simp only [key r s]

/-- A sum with a term `⊥` is `⊥`. -/
theorem sum_eq_bot {n : ℕ} (f : Fin n → EReal) (i : Fin n) (hi : f i = ⊥) : ∑ j, f j = ⊥ := by
  rw [← Finset.add_sum_erase Finset.univ f (Finset.mem_univ i), hi, EReal.bot_add]

/-- A masked sum of terms below `⊤`, plus the same sum of each term's difference from itself, is the sum. -/
theorem sum_add_rest {n : ℕ} (p : Fin n → Prop) [DecidablePred p] (f : Fin n → EReal) (hf : ∀ i, f i ≠ ⊤) :
    (∑ i, if p i then f i else 0) + (∑ i, if p i then f i - f i else 0) = ∑ i, if p i then f i else 0 := by
  by_cases h : ∃ i, p i ∧ f i = ⊥
  · obtain ⟨i, hp, hb⟩ := h
    rw [sum_eq_bot (fun i => if p i then f i else 0) i (by simp only [hp, if_true, hb]), EReal.bot_add]
  · have e : ∑ i, (if p i then f i - f i else 0) = 0 := Finset.sum_eq_zero fun i _ => ?_
    · rw [e, add_zero]
    split
    · next hp => exact EReal.sub_self (hf i) (fun hb => h ⟨i, hp, hb⟩)
    · rfl

/-- The unmasked form. -/
theorem sum_add_rest_all {n : ℕ} (f : Fin n → EReal) (hf : ∀ i, f i ≠ ⊤) :
    (∑ i, f i) + (∑ i, (f i - f i)) = ∑ i, f i := by
  simpa using sum_add_rest (fun _ => True) f hf

/-- A product sum of which both factors are split: the two remainder sums vanish where each weight is zero or both
    factors are finite. -/
theorem dot_add_rest {n : ℕ} (a w : Fin n → EReal)
    (h : ∀ x, w x = 0 ∨ ((a x ≠ ⊤ ∧ a x ≠ ⊥) ∧ w x ≠ ⊤ ∧ w x ≠ ⊥)) :
    (∑ x, a x * w x) + ((∑ x, a x * (w x - w x)) + ∑ x, (a x - a x) * w x) = ∑ x, a x * w x := by
  have e1 : ∑ x, a x * (w x - w x) = 0 := Finset.sum_eq_zero fun x _ => by
    rcases h x with h | h
    · rw [h]; simp
    · rw [EReal.sub_self h.2.1 h.2.2, mul_zero]
  have e2 : ∑ x, (a x - a x) * w x = 0 := Finset.sum_eq_zero fun x _ => by
    rcases h x with h | h
    · rw [h, mul_zero]
    · rw [EReal.sub_self h.1.1 h.1.2, zero_mul]
  rw [e1, e2, add_zero, add_zero]

/-- The constant one sixteenth. -/
theorem sixteenth : Ideal.ofBits .f32 0x3D800000#32 = ((1 / 16 : ℝ) : EReal) := by
  simp [Ideal.ofBits, Ideal.ieee]
  rw [← EReal.coe_mul]
  norm_num

/-- The logarithm of a positive real is not `⊥`. -/
theorem log_pos_ne_bot (x : ℝ) (h : 0 < x) : Ideal.log ((x : ℝ) : EReal) ≠ ⊥ := by
  show (if x ≤ 0 then (⊥ : EReal) else ((Real.log x : ℝ) : EReal)) ≠ ⊥
  rw [if_neg h.not_ge]
  exact EReal.coe_ne_bot _

/-- `log (1 + exp w)` is not `⊥`. -/
theorem log1p_exp_ne_bot (w : EReal) : Ideal.log1p (Ideal.exp w) ≠ ⊥ := by
  induction w using EReal.rec with
  | bot =>
    show Ideal.log (1 + (0 : EReal)) ≠ ⊥
    rw [add_zero]
    exact log_pos_ne_bot 1 one_pos
  | top =>
    show Ideal.log (((1 : ℝ) : EReal) + ⊤) ≠ ⊥
    rw [EReal.coe_add_top]
    exact top_ne_bot
  | coe x =>
    show Ideal.log (((1 : ℝ) : EReal) + ((Real.exp x : ℝ) : EReal)) ≠ ⊥
    rw [← EReal.coe_add]
    exact log_pos_ne_bot _ (by positivity)

/-- A log-decay is not `⊤`. -/
theorem gate_ne_top (z : EReal) : gate z ≠ ⊤ := by
  unfold gate
  rw [sixteenth]
  have hs : max (0 - z) 0 + Ideal.log1p (Ideal.exp (0 - max (0 - z) (-(0 - z)))) ≠ ⊥ := by
    rw [Ne, EReal.add_eq_bot_iff]
    rintro (h | h)
    · exact absurd (h ▸ le_max_right (0 - z) 0) (by simp)
    · exact log1p_exp_ne_bot _ h
  generalize max (0 - z) 0 + Ideal.log1p (Ideal.exp (0 - max (0 - z) (-(0 - z)))) = s at hs
  induction s using EReal.rec with
  | bot => exact absurd rfl hs
  | top => rw [zero_sub, EReal.neg_top, EReal.bot_mul_coe_of_pos (by norm_num)]; simp
  | coe x => rw [zero_sub, ← EReal.coe_neg, ← EReal.coe_mul]; exact EReal.coe_ne_top _

end Cert.Gla
-- ==== Proof.Gla.Payload.lean ====
/-
  ONE GRID POINT'S ARITHMETIC AT AN INDEX: what the kernel's body stores for each head, from its blocks' values, is the
  recurrence's step of Gla/Spec.lean. The body keeps each head's state transposed (value channel, key channel).
-/
module

public import proofs.«01_k».proof.Proof.Gen.KernelIdeal.Skeleton
public import proofs.«01_k».proof.Proof.Gla.Gate

@[expose] public section

set_option maxRecDepth 16384

noncomputable section

namespace Cert.Gla

open Idealize.ShloMosaic Cert.KernelIdeal Cert.KernelIdeal.Gen

theorem col0 (k : Fin 128) : col 0 k = ⟨k.val, by omega⟩ := Fin.ext (by simp [col])
theorem col1 (k : Fin 128) : col 1 k = ⟨128 + k.val, by omega⟩ := Fin.ext (by simp [col])
theorem col2 (k : Fin 128) : col 2 k = ⟨256 + k.val, by omega⟩ := Fin.ext (by simp [col])
theorem col3 (k : Fin 128) : col 3 k = ⟨384 + k.val, by omega⟩ := Fin.ext (by simp [col])

/-- The minus sign before the gate's logit, from the block of small columns, the padded weights and the bias. -/
theorem pay9_apply (x : Vec Ideal S64x128 .f32) (w : Vec Ideal S128x512 .f32) (b : Vec Ideal S1x512 .f32) (r : Fin 64) (d : Fin 512)
    (h : ∀ e : Fin 128, w (ix2 e d) = 0 ∨ ((x (ix2 r e) ≠ ⊤ ∧ x (ix2 r e) ≠ ⊥) ∧ w (ix2 e d) ≠ ⊤ ∧ w (ix2 e d) ≠ ⊥)) :
    k0_pay9 x w b (ix2 r d) = 0 - ((∑ e : Fin 128, x (ix2 r e) * w (ix2 e d)) + b (ix2 0 d)) := by
  pointwise [k0_pay9]
  rw [dot_add_rest (fun e : Fin 128 => x (ix2 r e)) (fun e => w (ix2 e d)) h]

/-- The block's log-decays: the gate of its logits. -/
theorem pay12_apply (x : Vec Ideal S64x128 .f32) (w : Vec Ideal S128x512 .f32) (b : Vec Ideal S1x512 .f32) (r : Fin 64) (d : Fin 512)
    (z : EReal) (hz : k0_pay9 x w b (ix2 r d) = 0 - z) :
    k0_pay12 (k0_pay10 x w b) (k0_pay11 x w b) (ix2 r d) = gate z := by
  pointwise [k0_pay12, k0_pay10, k0_pay11]
  rw [hz]
  simp only [Ideal.absf_def]
  rfl

section Blocks
variable (v34 v39 : FVec Ideal S64x512 .f32) (la : Rows) (hla : ∀ r d, k0_pay12 v34 v39 (ix2 r d) = la r d)
  (hne : ∀ r d, la r d ≠ ⊤)
include hla hne

/-- The running sums of the log-decays. -/
theorem pay13_apply (r : Fin 64) (d : Fin 512) : k0_pay13 k0_pay8 v34 v39 (ix2 r d) = cum la r d := by
  pointwise [k0_pay13, k0_pay8, k0_pay6]
  simp only [hla, select_ge]
  exact sum_add_rest (fun s => s ≤ r) (fun s => la s d) (fun s => hne s d)

/-- The sums of the log-decays over the block. -/
theorem pay14_apply (r : Fin 64) (d : Fin 512) : k0_pay14 k0_pay7 v34 v39 (ix2 r d) = tot la d := by
  pointwise [k0_pay14, k0_pay7]
  simp only [hla]
  exact sum_add_rest_all (fun s => la s d) (fun s => hne s d)

/-- The decayed queries. -/
theorem pay15_apply (x : Vec Ideal S64x512 .f32) (q : Rows) (hq : ∀ r d, x (ix2 r d) = q r d) (r : Fin 64) (d : Fin 512) :
    k0_pay15 k0_pay8 v34 v39 x (ix2 r d) = qdec la q r d := by
  pointwise [k0_pay15]
  rw [pay13_apply v34 v39 la hla hne, hq]
  rfl

/-- The keys without the decay from the start. -/
theorem pay16_apply (x : Vec Ideal S64x512 .f32) (k : Rows) (hk : ∀ r d, x (ix2 r d) = k r d) (r : Fin 64) (d : Fin 512) :
    k0_pay16 k0_pay8 v34 v39 x (ix2 r d) = kinv la k r d := by
  pointwise [k0_pay16]
  rw [pay13_apply v34 v39 la hla hne, hk]
  rfl

/-- The keys decayed to the end. -/
theorem pay17_apply (x : Vec Ideal S64x512 .f32) (k : Rows) (hk : ∀ r d, x (ix2 r d) = k r d) (r : Fin 64) (d : Fin 512) :
    k0_pay17 k0_pay7 k0_pay8 v34 v39 x (ix2 r d) = kend la k r d := by
  pointwise [k0_pay17]
  rw [pay13_apply v34 v39 la hla hne, pay14_apply v34 v39 la hla hne, hk]
  rfl

/-- The block's whole decay. -/
theorem pay18_apply (r : Fin 64) (d : Fin 512) :
    k0_pay18 k0_pay7 v34 v39 (ix2 r d) = Ideal.exp (tot la d) := by
  pointwise [k0_pay18]
  rw [pay14_apply v34 v39 la hla hne]

end Blocks

section Heads
variable (la q k v : Rows) (S : State) (vv : Vec Ideal S64x512 .f32) (qd kd ke de : FVec Ideal S64x512 .f32)
  (gain : FVec Ideal S1x128 .f32) (z : Vec Ideal S64x128 .f32)
  (hv : ∀ r d, vv (ix2 r d) = v r d) (hqd : ∀ r d, qd (ix2 r d) = qdec la q r d) (hkd : ∀ r d, kd (ix2 r d) = kinv la k r d)
  (hke : ∀ r d, ke (ix2 r d) = kend la k r d) (hde : ∀ r d, de (ix2 r d) = Ideal.exp (tot la d))
  (g : Fin 128 → EReal) (hg : ∀ x, gain (ix2 0 x) = g x)

section Next
include hv hke hde
/-- Head 0's stored state. -/
theorem next0 (st : Vec Ideal S1x128x128 .f32) (hst : ∀ x c, st (ix3 0 x c) = S 0 c x) (x c : Fin 128) :
    k0_pay23 vv ke de st (ix3 0 x c) = next la k v S 0 c x := by
  pointwise [k0_pay23, k0_pay22]
  simp only [next, hst, col0, hde, hv, hke]
  exact congrArg₂ (· + ·) rfl (Finset.sum_congr rfl fun s _ => mul_comm _ _)
/-- Head 1's. -/
theorem next1 (st : Vec Ideal S1x128x128 .f32) (hst : ∀ x c, st (ix3 0 x c) = S 1 c x) (x c : Fin 128) :
    k0_pay29 vv ke de st (ix3 0 x c) = next la k v S 1 c x := by
  pointwise [k0_pay29, k0_pay27]
  simp only [next, hst, col1, hde, hv, hke]
  exact congrArg₂ (· + ·) rfl (Finset.sum_congr rfl fun s _ => mul_comm _ _)
/-- Head 2's. -/
theorem next2 (st : Vec Ideal S1x128x128 .f32) (hst : ∀ x c, st (ix3 0 x c) = S 2 c x) (x c : Fin 128) :
    k0_pay37 (k0_pay34 de st) (k0_pay35 ke) (k0_pay36 vv) (ix3 0 x c) = next la k v S 2 c x := by
  pointwise [k0_pay37, k0_pay34, k0_pay35, k0_pay36, k0_pay32]
  simp only [next, hst, col2, hde, hv, hke]
  exact congrArg₂ (· + ·) rfl (Finset.sum_congr rfl fun s _ => mul_comm _ _)
/-- Head 3's. -/
theorem next3 (st : Vec Ideal S1x128x128 .f32) (hst : ∀ x c, st (ix3 0 x c) = S 3 c x) (x c : Fin 128) :
    k0_pay41 vv ke de st (ix3 0 x c) = next la k v S 3 c x := by
  pointwise [k0_pay41, k0_pay40]
  simp only [next, hst, col3, hde, hv, hke]
  exact congrArg₂ (· + ·) rfl (Finset.sum_congr rfl fun s _ => mul_comm _ _)
end Next

/-- Head 0's scores within the block. -/
theorem pay20_apply (v34 v39 : FVec Ideal S64x512 .f32) (hla : ∀ r d, k0_pay12 v34 v39 (ix2 r d) = la r d)
    (hne : ∀ r d, la r d ≠ ⊤) (x y : Vec Ideal S64x512 .f32) (hq : ∀ r d, x (ix2 r d) = q r d) (hk : ∀ r d, y (ix2 r d) = k r d)
    (r s : Fin 64) :
    k0_pay20 k0_pay8 v34 v39 x y (ix2 r s) = ∑ c : Fin 128, qdec la q r (col 0 c) * kinv la k s (col 0 c) := by
  pointwise [k0_pay20]
  simp only [← col0]
  simp only [pay15_apply v34 v39 la hla hne x q hq, pay16_apply v34 v39 la hla hne y k hk]

section Out
include hv hqd hkd hg
/-- Head 0's stored output. -/
theorem out0 (p20 : FVec Ideal S64x64 .f32)
    (h20 : ∀ r s, p20 (ix2 r s) = ∑ c : Fin 128, qdec la q r (col 0 c) * kinv la k s (col 0 c))
    (st : Vec Ideal S1x128x128 .f32) (hst : ∀ x c, st (ix3 0 x c) = S 0 c x) (r : Fin 64) (x : Fin 128) :
    k0_pay26 (k0_pay24 k0_pay6 vv qd gain p20 k0_pay21 st) z (k0_pay25 z) (ix2 r x)
      = normed (outRaw la q k v S 0 r) (g x) (z (ix2 r x)) x := by
  pointwise [k0_pay26, k0_pay24, k0_pay25, k0_pay21, k0_pay22, k0_pay6]
  simp only [normed, outRaw, select_ge, hst, col0, hqd, h20, hv, hg]
/-- Head 1's. -/
theorem out1 (st : Vec Ideal S1x128x128 .f32) (hst : ∀ x c, st (ix3 0 x c) = S 1 c x) (r : Fin 64) (x : Fin 128) :
    k0_pay31 gain (k0_pay28 k0_pay6 vv qd kd st) (k0_pay30 k0_pay6 vv qd kd st) z (ix2 r x)
      = normed (outRaw la q k v S 1 r) (g x) (z (ix2 r x)) x := by
  have e : ∀ r x, k0_pay28 k0_pay6 vv qd kd st (ix2 r x) = outRaw la q k v S 1 r x := fun r x => by
    pointwise [k0_pay28, k0_pay27, k0_pay6]
    simp only [outRaw, select_ge, hst, col1, hqd, hkd, hv]
  pointwise [k0_pay31, k0_pay30]
  simp only [normed, e, hg]
/-- Head 2's. -/
theorem out2 (st : Vec Ideal S1x128x128 .f32) (hst : ∀ x c, st (ix3 0 x c) = S 2 c x) (r : Fin 64) (x : Fin 128) :
    k0_pay38 gain (k0_pay33 k0_pay6 vv qd kd st) z (ix2 r x)
      = normed (outRaw la q k v S 2 r) (g x) (z (ix2 r x)) x := by
  have e : ∀ r x, k0_pay33 k0_pay6 vv qd kd st (ix2 r x) = outRaw la q k v S 2 r x := fun r x => by
    pointwise [k0_pay33, k0_pay32, k0_pay6]
    simp only [outRaw, select_ge, hst, col2, hqd, hkd, hv]
  pointwise [k0_pay38]
  simp only [normed, e, hg]
/-- Head 3's. -/
theorem out3 (st : Vec Ideal S1x128x128 .f32) (hst : ∀ x c, st (ix3 0 x c) = S 3 c x) (r : Fin 64) (x : Fin 128) :
    k0_pay42 qd gain (k0_pay39 k0_pay6 vv qd kd) st z (ix2 r x)
      = normed (outRaw la q k v S 3 r) (g x) (z (ix2 r x)) x := by
  pointwise [k0_pay42, k0_pay40, k0_pay39, k0_pay6]
  simp only [normed, outRaw, select_ge, hst, col3, hqd, hkd, hv, hg]
end Out

end Heads

end Cert.Gla
-- ==== Proof.Gla.Blocks.lean ====
/-
  A GRID POINT'S BLOCKS, read off the arguments: point `t` has rows `64 t … 64 t + 63` of the projected inputs, the
  query, key, value and output-gate columns and the block of small columns; the gate's weights stand over zero rows.
-/
module

public import proofs.«01_k».proof.Proof.Gen.KernelIdeal.Value
public import proofs.«01_k».proof.Proof.Gla.Payload
public import Idealize.ShloMosaic.Lib.Pipeline.ValueKit

@[expose] public section

set_option maxRecDepth 16384

noncomputable section

namespace Cert.Gla

open Idealize.ShloMosaic Idealize.ShloMosaic.TcCoe Cert.KernelIdeal Cert.KernelIdeal.Gen Cert.KernelIdeal.Value

variable (m : (ℓ : Loc nD τ sig) → Buf (Elt Ideal) ℓ)

/-- The projected inputs of core `c`, -/
abbrev argU (c : Dev nD) : (⟨2, ![16384, 8832]⟩ : Shape).Idx → EReal := m ((c : Thread nD τ).loc main_arg0)
/-- the gate's weights, -/
abbrev argW (c : Dev nD) : (⟨2, ![16, 512]⟩ : Shape).Idx → EReal := m ((c : Thread nD τ).loc main_arg1)
/-- its bias, -/
abbrev argB (c : Dev nD) : (⟨1, ![512]⟩ : Shape).Idx → EReal := m ((c : Thread nD τ).loc main_arg2)
/-- and the norm's gain. -/
abbrev argG (c : Dev nD) : (⟨1, ![128]⟩ : Shape).Idx → EReal := m ((c : Thread nD τ).loc main_arg3)

/-- A grid point as a chunk's number. -/
abbrev pt (t : Fin cfg0.N) : Fin 256 := ⟨t.val, lt_of_lt_of_eq t.isLt N_0⟩

/-- The windows' block indices at each point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 68] ∧ win0_5.index t = ![0, 0] ∧ win0_6.index t = ![0, 0]
    ∧ win0_7.index t = ![0, 0] :=
  (by decide +kernel : ∀ t : Fin grid0.N, _)

/-- The query block, -/
theorem blk0 (c : Dev nD) (t : Fin cfg0.N) (r : Fin 64) (d : Fin 512) :
    X0_0 m c t (ix2 r d) = qOf (argU m c) (pt t) r d := by
  unfold X0_0 Pipeline.Window.fill
  rw [dif_pos (moved0_0 t _)]
  show _ = argU m c (ix2 _ _)
  blk_point [iblk, V, idx t]
/-- the key block, -/
theorem blk1 (c : Dev nD) (t : Fin cfg0.N) (r : Fin 64) (d : Fin 512) :
    X0_1 m c t (ix2 r d) = kOf (argU m c) (pt t) r d := by
  unfold X0_1 Pipeline.Window.fill
  rw [dif_pos (moved0_1 t _)]
  show _ = argU m c (ix2 _ _)
  blk_point [iblk, V, idx t]
/-- the value block, -/
theorem blk2 (c : Dev nD) (t : Fin cfg0.N) (r : Fin 64) (d : Fin 512) :
    X0_2 m c t (ix2 r d) = vOf (argU m c) (pt t) r d := by
  unfold X0_2 Pipeline.Window.fill
  rw [dif_pos (moved0_2 t _)]
  show _ = argU m c (ix2 _ _)
  blk_point [iblk, V, idx t]
/-- the output gate's block, -/
theorem blk3 (c : Dev nD) (t : Fin cfg0.N) (r : Fin 64) (d : Fin 512) :
    X0_3 m c t (ix2 r d) = argU m c (ix2 (row (pt t) r) ⟨1536 + d.val, by omega⟩) := by
  unfold X0_3 Pipeline.Window.fill
  rw [dif_pos (moved0_3 t _)]
  show _ = argU m c (ix2 _ _)
  blk_point [iblk, V, idx t]
/-- the small columns, -/
theorem blk4 (c : Dev nD) (t : Fin cfg0.N) (r : Fin 64) (d : Fin 128) :
    iblk m c 4 t (ix2 r d) = argU m c (ix2 (row (pt t) r) ⟨8704 + d.val, by omega⟩) := by
  blk_point [iblk, V, idx t]
/-- the gate's weights over zero rows, -/
theorem blk5 (c : Dev nD) (t : Fin cfg0.N) (r : Fin 128) (d : Fin 512) :
    (iblk m c 5 t (ix2 r d) : EReal) = if h : r.val < 16 then argW m c (ix2 ⟨r.val, h⟩ d) else (0 : EReal) := by
  have e : iblk m c 5 t (ix2 r d) = V m c main_v0 (ix2 r d) := by
    blk_ext [iblk, idx t]
  rw [e]
  simp only [V, hostOps0, hostOps0_1, hostOps0_2, List.flatten_cons, List.flatten_nil, List.append_nil, List.cons_append, List.nil_append]
  entry_read
  show pad S128x512 ![0, 0] ![112, 0] ![0, 0] (m (c, Proc.tc.devRef main_arg1)) (sitofp (F := Ideal) FTy.f32 (constantI S_ 32 0#32))
    pads_S16x512_S128x512_01120_000 h_S_ (ix2 r d) = _
  have hr := r.isLt
  have hd := d.isLt
  by_cases h : r.val < 16
  · rw [dif_pos h, pad_apply, dif_pos (by
      intro a
      match a with
      | ⟨0, _⟩ => exact ⟨Nat.zero_le _, Nat.mod_one _, by show (r.val - 0) / 1 < 16; omega⟩
      | ⟨1, _⟩ => exact ⟨Nat.zero_le _, Nat.mod_one _, by show (d.val - 0) / 1 < 512; omega⟩)]
    refine congrArg (m (c, Proc.tc.devRef main_arg1)) (funext fun a => ?_)
    match a with
    | ⟨0, _⟩ => exact Fin.ext (by show (r.val - 0) / 1 = r.val; omega)
    | ⟨1, _⟩ => exact Fin.ext (by show (d.val - 0) / 1 = d.val; omega)
  · rw [dif_neg h, pad_apply, dif_neg (by
      intro hh
      have h2 : (r.val - 0) / 1 < 16 := (hh (0 : Fin 2)).2.2
      omega)]
    pointwise
    simp [FloatOps.sitofp]
/-- the bias as a row, -/
theorem blk6 (c : Dev nD) (t : Fin cfg0.N) (d : Fin 512) : iblk m c 6 t (ix2 0 d) = argB m c (ix1 d) := by
  have e : iblk m c 6 t (ix2 0 d) = V m c main_v1 (ix2 0 d) := by
    blk_ext [iblk, idx t]
  rw [e]
  simp only [V, hostOps0, hostOps0_1, hostOps0_2, List.flatten_cons, List.flatten_nil, List.append_nil, List.cons_append, List.nil_append]
  entry_read
  pointwise
/-- and the gain as a row. -/
theorem blk7 (c : Dev nD) (t : Fin cfg0.N) (d : Fin 128) : iblk m c 7 t (ix2 0 d) = argG m c (ix1 d) := by
  have e : iblk m c 7 t (ix2 0 d) = V m c main_v2 (ix2 0 d) := by
    blk_ext [iblk, idx t]
  rw [e]
  simp only [V, hostOps0, hostOps0_1, hostOps0_2, List.flatten_cons, List.flatten_nil, List.append_nil, List.cons_append, List.nil_append]
  entry_read
  pointwise

/-- The gate's low-rank columns and its weights are finite. -/
def GateFinite (U : (⟨2, ![16384, 8832]⟩ : Shape).Idx → EReal) (W : (⟨2, ![16, 512]⟩ : Shape).Idx → EReal) : Prop :=
  (∀ (p : Fin 16384) (x : Fin 16), U (ix2 p ⟨8704 + x.val, by omega⟩) ≠ ⊤ ∧ U (ix2 p ⟨8704 + x.val, by omega⟩) ≠ ⊥)
    ∧ ∀ (x : Fin 16) (d : Fin 512), W (ix2 x d) ≠ ⊤ ∧ W (ix2 x d) ≠ ⊥

/-- A sum over 128 of which only the first 16 terms are not zero. -/
theorem sum_first (f : Fin 128 → EReal) (h : ∀ x : Fin 128, ¬ x.val < 16 → f x = 0) :
    ∑ x, f x = ∑ x : Fin 16, f ⟨x.val, by omega⟩ := by
  rw [Fin.sum_univ_add (a := 16) (b := 112) f]
  rw [Finset.sum_eq_zero (f := fun i : Fin 112 => f (Fin.natAdd 16 i)) fun i _ => h _ (by simp), add_zero]
  rfl

/-- The log-decays that the body computes from a point's blocks are the chunk's. -/
theorem blk_la (c : Dev nD) (hfin : GateFinite (argU m c) (argW m c)) (t : Fin cfg0.N) (r : Fin 64) (d : Fin 512) :
    k0_pay12 (F := Ideal) (k0_pay10 (iblk m c 4 t) (iblk m c 5 t) (iblk m c 6 t)) (k0_pay11 (iblk m c 4 t) (iblk m c 5 t) (iblk m c 6 t)) (ix2 r d)
      = laOf (argU m c) (argW m c) (argB m c) (pt t) r d := by
  refine pay12_apply _ _ _ r d _ ((pay9_apply _ _ _ r d fun e => ?_).trans ?_)
  · by_cases h : e.val < 16
    · refine Or.inr ⟨?_, ?_⟩
      · rw [blk4]; exact hfin.1 (row (pt t) r) ⟨e.val, h⟩
      · rw [blk5, dif_pos h]; exact hfin.2 ⟨e.val, h⟩ d
    · exact Or.inl (by rw [blk5, dif_neg h])
  · rw [blk6, logit, sum_first _ fun x hx => by rw [blk5, dif_neg hx, mul_zero]]
    refine congrArg (fun s => 0 - (s + _)) (Finset.sum_congr rfl fun x _ => ?_)
    rw [blk4, blk5, dif_pos x.isLt]

end Cert.Gla
-- ==== Proof.Gla.Body.lean ====
/-
  ONE GRID POINT: the output block and the carried state that the body leaves, from the state it finds — the
  recurrence's step of Gla/Spec.lean at the point's chunk — at a sequence's first point (the state reset to zero), at a
  middle point and at its last (which also writes the final state).
-/
module

public import proofs.«01_k».proof.Proof.Gla.Blocks
public import Idealize.ShloMosaic.Lib.Pipeline.ReadBack

@[expose] public section

set_option maxRecDepth 16384

noncomputable section

namespace Cert.Gla

open Idealize.ShloMosaic Idealize.ShloMosaic.TcCoe Cert.KernelIdeal Cert.KernelIdeal.Gen Cert.KernelIdeal.Value

variable (m : (ℓ : Loc nD τ sig) → Buf (Elt Ideal) ℓ)

/-- What the body leaves after a point: the output block, the final state's block, the carried state. -/
abbrev Left := Vec Ideal S64x512 .bf16 × Vec Ideal S1x4x128x128 .f32 × Vec Ideal S4x128x128 .f32

/-- A carried array holds a state, each head transposed. -/
def Holds (st : Vec Ideal S4x128x128 .f32) (S : State) : Prop := ∀ (h : Fin 4) (x c : Fin 128), st (ix3 h x c) = S h c x

/-- A head's slice of a carried array that holds a state. -/
theorem Holds.ld {st : Vec Ideal S4x128x128 .f32} {S : State} (H : Holds st S) (h : Fin 4) (off : Fin 3 → ℕ)
    (e : off = ![h.val, 0, 0]) (inb) (x c : Fin 128) :
    View.ld st (Rect.unit off ![1, 128, 128] inb) (ix3 0 x c) = S h c x := by
  subst e
  rw [← H h x c]
  pointwise

/-- What a sequence's first point resets the carried state to holds the zero state. -/
theorem zero_holds : Holds (k0_pay5 (F := Ideal)) (fun _ _ _ => 0) := by
  intro h x e
  pointwise [k0_pay5]

/-- Pieces stored before pieces that hold the index do not matter there. -/
theorem canon_append_of_cover {sh : Shape} {e : EltTy} (L L' : List (View.Piece (Elt Ideal) sh e)) (y : sh.Idx)
    (h : ∃ p ∈ L, y ∈ p.1.set) : View.canon (L ++ L') y = View.canon L y := by
  induction L with
  | nil => obtain ⟨p, hp, _⟩ := h; exact absurd hp List.not_mem_nil
  | cons p L ih =>
    by_cases hy : y ∈ p.1.set
    · obtain ⟨x, rfl⟩ := p.1.exists_idx_of_mem hy
      rw [show p.1.idx x = p.1.emb x from rfl]
      exact (View.canon_cons_emb p.1 p.2 (L ++ L') x).trans (View.canon_cons_emb p.1 p.2 L x).symm
    · obtain ⟨q, hq, hyq⟩ := h
      rw [List.cons_append, View.canon_cons_of_not_mem _ _ hy, View.canon_cons_of_not_mem _ _ hy]
      rcases List.mem_cons.mp hq with rfl | hq
      · exact absurd hyq hy
      · exact ih ⟨q, hq, hyq⟩

section Point
variable (c : Dev nD) (t : Fin cfg0.N)

/-- The state after the point's chunk. -/
abbrev nextAt (S : State) : State :=
  next (laOf (argU m c) (argW m c) (argB m c) (pt t)) (kOf (argU m c) (pt t)) (vOf (argU m c) (pt t)) S
/-- The chunk's output from the state before it. -/
abbrev outAt (S : State) (h : Fin 4) (r : Fin 64) (x : Fin 128) : EReal :=
  normed (outRaw (laOf (argU m c) (argW m c) (argB m c) (pt t)) (qOf (argU m c) (pt t)) (kOf (argU m c) (pt t))
    (vOf (argU m c) (pt t)) S h r) (argG m c (ix1 x)) (argU m c (ix2 (row (pt t) r) ⟨1536 + (col h x).val, by omega⟩)) x

theorem p19 (x : Fin 128) : k0_pay19 (F := Ideal) (iblk m c 7 t) (ix2 0 x) = argG m c (ix1 x) := by
  pointwise [k0_pay19]
  exact blk7 m c t x
/-- A head's slice of the output gate's block. -/
theorem ldz (h : Fin 4) (off : Fin 2 → ℕ) (e : off = ![0, 128 * h.val]) (inb) (r : Fin 64) (x : Fin 128) :
    View.ld (X0_3 m c t) (Rect.unit off ![64, 128] inb) (ix2 r x)
      = argU m c (ix2 (row (pt t) r) ⟨1536 + (col h x).val, by omega⟩) := by
  subst e
  rw [← blk3 m c t r (col h x)]
  pointwise

variable (hfin : GateFinite (argU m c) (argW m c))
include hfin

theorem p15 (r : Fin 64) (d : Fin 512) :
    k0_pay15 (F := Ideal) k0_pay8 (k0_pay10 (iblk m c 4 t) (iblk m c 5 t) (iblk m c 6 t))
      (k0_pay11 (iblk m c 4 t) (iblk m c 5 t) (iblk m c 6 t)) (X0_0 m c t) (ix2 r d)
      = qdec (laOf (argU m c) (argW m c) (argB m c) (pt t)) (qOf (argU m c) (pt t)) r d :=
  pay15_apply _ _ _ (blk_la m c hfin t) (fun _ _ => gate_ne_top _) _ _ (blk0 m c t) r d
theorem p16 (r : Fin 64) (d : Fin 512) :
    k0_pay16 (F := Ideal) k0_pay8 (k0_pay10 (iblk m c 4 t) (iblk m c 5 t) (iblk m c 6 t))
      (k0_pay11 (iblk m c 4 t) (iblk m c 5 t) (iblk m c 6 t)) (X0_1 m c t) (ix2 r d)
      = kinv (laOf (argU m c) (argW m c) (argB m c) (pt t)) (kOf (argU m c) (pt t)) r d :=
  pay16_apply _ _ _ (blk_la m c hfin t) (fun _ _ => gate_ne_top _) _ _ (blk1 m c t) r d
theorem p17 (r : Fin 64) (d : Fin 512) :
    k0_pay17 (F := Ideal) k0_pay7 k0_pay8 (k0_pay10 (iblk m c 4 t) (iblk m c 5 t) (iblk m c 6 t))
      (k0_pay11 (iblk m c 4 t) (iblk m c 5 t) (iblk m c 6 t)) (X0_1 m c t) (ix2 r d)
      = kend (laOf (argU m c) (argW m c) (argB m c) (pt t)) (kOf (argU m c) (pt t)) r d :=
  pay17_apply _ _ _ (blk_la m c hfin t) (fun _ _ => gate_ne_top _) _ _ (blk1 m c t) r d
theorem p18 (r : Fin 64) (d : Fin 512) :
    k0_pay18 (F := Ideal) k0_pay7 (k0_pay10 (iblk m c 4 t) (iblk m c 5 t) (iblk m c 6 t))
      (k0_pay11 (iblk m c 4 t) (iblk m c 5 t) (iblk m c 6 t)) (ix2 r d)
      = Ideal.exp (tot (laOf (argU m c) (argW m c) (argB m c) (pt t)) d) :=
  pay18_apply _ _ _ (blk_la m c hfin t) (fun _ _ => gate_ne_top _) r d
theorem p20 (r s : Fin 64) :
    k0_pay20 (F := Ideal) k0_pay8 (k0_pay10 (iblk m c 4 t) (iblk m c 5 t) (iblk m c 6 t))
      (k0_pay11 (iblk m c 4 t) (iblk m c 5 t) (iblk m c 6 t)) (X0_0 m c t) (X0_1 m c t) (ix2 r s)
      = ∑ e : Fin 128, qdec (laOf (argU m c) (argW m c) (argB m c) (pt t)) (qOf (argU m c) (pt t)) r (col 0 e)
          * kinv (laOf (argU m c) (argW m c) (argB m c) (pt t)) (kOf (argU m c) (pt t)) s (col 0 e) :=
  pay20_apply _ _ _ _ _ (blk_la m c hfin t) (fun _ _ => gate_ne_top _) _ _ (blk0 m c t) (blk1 m c t) r s
variable (acc : Left) (S : State)

/-- The carried state after a middle point, -/
theorem state_B (h0 : ¬t.val % 32 = 0) (h1 : ¬t.val % 32 = 31) (hS : Holds acc.2.2 S) :
    Holds (stAt0 m c t.val t.isLt acc).2.2 (nextAt m c t S) := by
  intro h x e
  rw [stAt0_B m c t acc h0 h1]
  frame_open
  simp (disch := decide) only [↓ View.readCov_skip, ↓ View.readCov_cons_toLoadRect, ↓ View.readCov_fill]
  frame_out
  simp only [read_unread_whole]
  canon_tiles y g
  all_goals idx_vars y
  · obtain rfl : h = 3 := Fin.ext (by simp at g0; omega)
    obtain rfl : x = y1 := Fin.ext (by simpa using g1)
    obtain rfl : e = y2 := Fin.ext (by simpa using g2)
    obtain rfl : y0 = 0 := Subsingleton.elim _ _
    exact next3 _ _ _ S _ _ _ (blk2 m c t) (p17 m c t hfin) (p18 m c t hfin) _ (hS.ld 3 _ rfl _) x e
  · obtain rfl : h = 2 := Fin.ext (by simp at g0; omega)
    obtain rfl : x = y1 := Fin.ext (by simpa using g1)
    obtain rfl : e = y2 := Fin.ext (by simpa using g2)
    obtain rfl : y0 = 0 := Subsingleton.elim _ _
    exact next2 _ _ _ S _ _ _ (blk2 m c t) (p17 m c t hfin) (p18 m c t hfin) _ (hS.ld 2 _ rfl _) x e
  · obtain rfl : h = 1 := Fin.ext (by simp at g0; omega)
    obtain rfl : x = y1 := Fin.ext (by simpa using g1)
    obtain rfl : e = y2 := Fin.ext (by simpa using g2)
    obtain rfl : y0 = 0 := Subsingleton.elim _ _
    exact next1 _ _ _ S _ _ _ (blk2 m c t) (p17 m c t hfin) (p18 m c t hfin) _ (hS.ld 1 _ rfl _) x e
  · obtain rfl : h = 0 := Fin.ext (by simp at g0; omega)
    obtain rfl : x = y1 := Fin.ext (by simpa using g1)
    obtain rfl : e = y2 := Fin.ext (by simpa using g2)
    obtain rfl : y0 = 0 := Subsingleton.elim _ _
    exact next0 _ _ _ S _ _ _ (blk2 m c t) (p17 m c t hfin) (p18 m c t hfin) _ (hS.ld 0 _ rfl _) x e

/-- and the output block. -/
theorem out_B (h0 : ¬t.val % 32 = 0) (h1 : ¬t.val % 32 = 31) (hS : Holds acc.2.2 S) (h : Fin 4) (r : Fin 64) (x : Fin 128) :
    (stAt0 m c t.val t.isLt acc).1 (ix2 r (col h x)) = outAt m c t S h r x := by
  rw [stAt0_B m c t acc h0 h1]
  frame_open
  simp (disch := decide) only [↓ View.readCov_skip, ↓ View.readCov_cons_toLoadRect, ↓ View.readCov_fill]
  frame_out
  simp only [read_unread_whole]
  canon_tiles y g
  all_goals idx_vars y
  · obtain rfl : h = 3 := Fin.ext (by simp at g1; omega)
    obtain rfl : x = y1 := Fin.ext (by simp at g1; omega)
    obtain rfl : r = y0 := Fin.ext (by simpa using g0)
    refine (out3 _ (qOf (argU m c) (pt t)) (kOf (argU m c) (pt t)) _ S _ _ _ _ _ (blk2 m c t) (p15 m c t hfin) (p16 m c t hfin) _ (p19 m c t) _ (hS.ld 3 _ rfl _) r x).trans ?_
    rw [ldz m c t 3 ![0, 384] rfl]
  · obtain rfl : h = 2 := Fin.ext (by simp at g1; omega)
    obtain rfl : x = y1 := Fin.ext (by simp at g1; omega)
    obtain rfl : r = y0 := Fin.ext (by simpa using g0)
    refine (out2 _ (qOf (argU m c) (pt t)) (kOf (argU m c) (pt t)) _ S _ _ _ _ _ (blk2 m c t) (p15 m c t hfin) (p16 m c t hfin) _ (p19 m c t) _ (hS.ld 2 _ rfl _) r x).trans ?_
    rw [ldz m c t 2 ![0, 256] rfl]
  · obtain rfl : h = 1 := Fin.ext (by simp at g1; omega)
    obtain rfl : x = y1 := Fin.ext (by simp at g1; omega)
    obtain rfl : r = y0 := Fin.ext (by simpa using g0)
    refine (out1 _ (qOf (argU m c) (pt t)) (kOf (argU m c) (pt t)) _ S _ _ _ _ _ (blk2 m c t) (p15 m c t hfin) (p16 m c t hfin) _ (p19 m c t) _ (hS.ld 1 _ rfl _) r x).trans ?_
    rw [ldz m c t 1 ![0, 128] rfl]
  · obtain rfl : h = 0 := Fin.ext (by simp at g1; omega)
    obtain rfl : x = y1 := Fin.ext (by simp at g1; omega)
    obtain rfl : r = y0 := Fin.ext (by simpa using g0)
    refine (out0 _ (qOf (argU m c) (pt t)) (kOf (argU m c) (pt t)) _ S _ _ _ _ _ (blk2 m c t) (p15 m c t hfin) (p16 m c t hfin) _ (p19 m c t) _ (p20 m c t hfin) _ (hS.ld 0 _ rfl _) r x).trans ?_
    rw [ldz m c t 0 ![0, 0] rfl]

/-- The carried state after a sequence's last point, -/
theorem state_C (h0 : ¬t.val % 32 = 0) (h1 : t.val % 32 = 31) (hS : Holds acc.2.2 S) :
    Holds (stAt0 m c t.val t.isLt acc).2.2 (nextAt m c t S) := by
  intro h x e
  rw [stAt0_C m c t acc h0 h1]
  frame_open
  simp (disch := decide) only [↓ View.readCov_skip, ↓ View.readCov_cons_toLoadRect, ↓ View.readCov_fill]
  frame_out
  simp only [read_unread_whole]
  canon_tiles y g
  all_goals idx_vars y
  · obtain rfl : h = 3 := Fin.ext (by simp at g0; omega)
    obtain rfl : x = y1 := Fin.ext (by simpa using g1)
    obtain rfl : e = y2 := Fin.ext (by simpa using g2)
    obtain rfl : y0 = 0 := Subsingleton.elim _ _
    exact next3 _ _ _ S _ _ _ (blk2 m c t) (p17 m c t hfin) (p18 m c t hfin) _ (hS.ld 3 _ rfl _) x e
  · obtain rfl : h = 2 := Fin.ext (by simp at g0; omega)
    obtain rfl : x = y1 := Fin.ext (by simpa using g1)
    obtain rfl : e = y2 := Fin.ext (by simpa using g2)
    obtain rfl : y0 = 0 := Subsingleton.elim _ _
    exact next2 _ _ _ S _ _ _ (blk2 m c t) (p17 m c t hfin) (p18 m c t hfin) _ (hS.ld 2 _ rfl _) x e
  · obtain rfl : h = 1 := Fin.ext (by simp at g0; omega)
    obtain rfl : x = y1 := Fin.ext (by simpa using g1)
    obtain rfl : e = y2 := Fin.ext (by simpa using g2)
    obtain rfl : y0 = 0 := Subsingleton.elim _ _
    exact next1 _ _ _ S _ _ _ (blk2 m c t) (p17 m c t hfin) (p18 m c t hfin) _ (hS.ld 1 _ rfl _) x e
  · obtain rfl : h = 0 := Fin.ext (by simp at g0; omega)
    obtain rfl : x = y1 := Fin.ext (by simpa using g1)
    obtain rfl : e = y2 := Fin.ext (by simpa using g2)
    obtain rfl : y0 = 0 := Subsingleton.elim _ _
    exact next0 _ _ _ S _ _ _ (blk2 m c t) (p17 m c t hfin) (p18 m c t hfin) _ (hS.ld 0 _ rfl _) x e

/-- the output block, -/
theorem out_C (h0 : ¬t.val % 32 = 0) (h1 : t.val % 32 = 31) (hS : Holds acc.2.2 S) (h : Fin 4) (r : Fin 64) (x : Fin 128) :
    (stAt0 m c t.val t.isLt acc).1 (ix2 r (col h x)) = outAt m c t S h r x := by
  rw [stAt0_C m c t acc h0 h1]
  frame_open
  simp (disch := decide) only [↓ View.readCov_skip, ↓ View.readCov_cons_toLoadRect, ↓ View.readCov_fill]
  frame_out
  simp only [read_unread_whole]
  canon_tiles y g
  all_goals idx_vars y
  · obtain rfl : h = 3 := Fin.ext (by simp at g1; omega)
    obtain rfl : x = y1 := Fin.ext (by simp at g1; omega)
    obtain rfl : r = y0 := Fin.ext (by simpa using g0)
    refine (out3 _ (qOf (argU m c) (pt t)) (kOf (argU m c) (pt t)) _ S _ _ _ _ _ (blk2 m c t) (p15 m c t hfin) (p16 m c t hfin) _ (p19 m c t) _ (hS.ld 3 _ rfl _) r x).trans ?_
    rw [ldz m c t 3 ![0, 384] rfl]
  · obtain rfl : h = 2 := Fin.ext (by simp at g1; omega)
    obtain rfl : x = y1 := Fin.ext (by simp at g1; omega)
    obtain rfl : r = y0 := Fin.ext (by simpa using g0)
    refine (out2 _ (qOf (argU m c) (pt t)) (kOf (argU m c) (pt t)) _ S _ _ _ _ _ (blk2 m c t) (p15 m c t hfin) (p16 m c t hfin) _ (p19 m c t) _ (hS.ld 2 _ rfl _) r x).trans ?_
    rw [ldz m c t 2 ![0, 256] rfl]
  · obtain rfl : h = 1 := Fin.ext (by simp at g1; omega)
    obtain rfl : x = y1 := Fin.ext (by simp at g1; omega)
    obtain rfl : r = y0 := Fin.ext (by simpa using g0)
    refine (out1 _ (qOf (argU m c) (pt t)) (kOf (argU m c) (pt t)) _ S _ _ _ _ _ (blk2 m c t) (p15 m c t hfin) (p16 m c t hfin) _ (p19 m c t) _ (hS.ld 1 _ rfl _) r x).trans ?_
    rw [ldz m c t 1 ![0, 128] rfl]
  · obtain rfl : h = 0 := Fin.ext (by simp at g1; omega)
    obtain rfl : x = y1 := Fin.ext (by simp at g1; omega)
    obtain rfl : r = y0 := Fin.ext (by simpa using g0)
    refine (out0 _ (qOf (argU m c) (pt t)) (kOf (argU m c) (pt t)) _ S _ _ _ _ _ (blk2 m c t) (p15 m c t hfin) (p16 m c t hfin) _ (p19 m c t) _ (p20 m c t hfin) _ (hS.ld 0 _ rfl _) r x).trans ?_
    rw [ldz m c t 0 ![0, 0] rfl]

/-- and the final state's block. -/
theorem final_C (h0 : ¬t.val % 32 = 0) (h1 : t.val % 32 = 31) (hS : Holds acc.2.2 S) (b : Fin 1) (h : Fin 4) (e x : Fin 128) :
    (stAt0 m c t.val t.isLt acc).2.1 (ix4 b h e x) = nextAt m c t S h e x := by
  rw [stAt0_C m c t acc h0 h1]
  frame_open
  simp (disch := decide) only [↓ View.readCov_skip, ↓ View.readCov_cons_toLoadRect, ↓ View.readCov_fill]
  frame_out
  simp only [read_unread_whole]
  canon_tiles y g
  all_goals idx_vars y
  · obtain rfl : h = 3 := Fin.ext (by simp at g1; omega)
    obtain rfl : e = y2 := Fin.ext (by simpa using g2)
    obtain rfl : x = y3 := Fin.ext (by simpa using g3)
    obtain rfl : y0 = 0 := Subsingleton.elim _ _
    obtain rfl : y1 = 0 := Subsingleton.elim _ _
    pointwise [k0_pay4]
    exact next3 _ _ _ S _ _ _ (blk2 m c t) (p17 m c t hfin) (p18 m c t hfin) _ (hS.ld 3 _ rfl _) x e
  · obtain rfl : h = 2 := Fin.ext (by simp at g1; omega)
    obtain rfl : e = y2 := Fin.ext (by simpa using g2)
    obtain rfl : x = y3 := Fin.ext (by simpa using g3)
    obtain rfl : y0 = 0 := Subsingleton.elim _ _
    obtain rfl : y1 = 0 := Subsingleton.elim _ _
    pointwise [k0_pay3]
    exact next2 _ _ _ S _ _ _ (blk2 m c t) (p17 m c t hfin) (p18 m c t hfin) _ (hS.ld 2 _ rfl _) x e
  · obtain rfl : h = 1 := Fin.ext (by simp at g1; omega)
    obtain rfl : e = y2 := Fin.ext (by simpa using g2)
    obtain rfl : x = y3 := Fin.ext (by simpa using g3)
    obtain rfl : y0 = 0 := Subsingleton.elim _ _
    obtain rfl : y1 = 0 := Subsingleton.elim _ _
    pointwise [k0_pay2]
    exact next1 _ _ _ S _ _ _ (blk2 m c t) (p17 m c t hfin) (p18 m c t hfin) _ (hS.ld 1 _ rfl _) x e
  · obtain rfl : h = 0 := Fin.ext (by simp at g1; omega)
    obtain rfl : e = y2 := Fin.ext (by simpa using g2)
    obtain rfl : x = y3 := Fin.ext (by simpa using g3)
    obtain rfl : y0 = 0 := Subsingleton.elim _ _
    obtain rfl : y1 = 0 := Subsingleton.elim _ _
    pointwise [k0_pay1]
    exact next0 _ _ _ S _ _ _ (blk2 m c t) (p17 m c t hfin) (p18 m c t hfin) _ (hS.ld 0 _ rfl _) x e

/-- The carried state after a sequence's first point, -/
theorem state_A (h0 : t.val % 32 = 0) (h1 : ¬t.val % 32 = 31) :
    Holds (stAt0 m c t.val t.isLt acc).2.2 (nextAt m c t (fun _ _ _ => 0)) := by
  intro h x e
  rw [stAt0_A m c t acc h0 h1]
  frame_open
  simp (disch := decide) only [↓ View.readCov_skip, ↓ View.readCov_cons_toLoadRect, ↓ View.readCov_fill]
  frame_out
  refine (canon_append_of_cover [_, _, _, _] [_] _ (View.cover_of_tiled_head _ _ _ (by rfl) _)).trans ?_
  canon_tiles y g
  all_goals idx_vars y
  · obtain rfl : h = 3 := Fin.ext (by simp at g0; omega)
    obtain rfl : x = y1 := Fin.ext (by simpa using g1)
    obtain rfl : e = y2 := Fin.ext (by simpa using g2)
    obtain rfl : y0 = 0 := Subsingleton.elim _ _
    exact next3 _ _ _ (fun _ _ _ => 0) _ _ _ (blk2 m c t) (p17 m c t hfin) (p18 m c t hfin) _ (Holds.ld zero_holds 3 _ rfl _) x e
  · obtain rfl : h = 2 := Fin.ext (by simp at g0; omega)
    obtain rfl : x = y1 := Fin.ext (by simpa using g1)
    obtain rfl : e = y2 := Fin.ext (by simpa using g2)
    obtain rfl : y0 = 0 := Subsingleton.elim _ _
    exact next2 _ _ _ (fun _ _ _ => 0) _ _ _ (blk2 m c t) (p17 m c t hfin) (p18 m c t hfin) _ (Holds.ld zero_holds 2 _ rfl _) x e
  · obtain rfl : h = 1 := Fin.ext (by simp at g0; omega)
    obtain rfl : x = y1 := Fin.ext (by simpa using g1)
    obtain rfl : e = y2 := Fin.ext (by simpa using g2)
    obtain rfl : y0 = 0 := Subsingleton.elim _ _
    exact next1 _ _ _ (fun _ _ _ => 0) _ _ _ (blk2 m c t) (p17 m c t hfin) (p18 m c t hfin) _ (Holds.ld zero_holds 1 _ rfl _) x e
  · obtain rfl : h = 0 := Fin.ext (by simp at g0; omega)
    obtain rfl : x = y1 := Fin.ext (by simpa using g1)
    obtain rfl : e = y2 := Fin.ext (by simpa using g2)
    obtain rfl : y0 = 0 := Subsingleton.elim _ _
    exact next0 _ _ _ (fun _ _ _ => 0) _ _ _ (blk2 m c t) (p17 m c t hfin) (p18 m c t hfin) _ (Holds.ld zero_holds 0 _ rfl _) x e

/-- and the output block. -/
theorem out_A (h0 : t.val % 32 = 0) (h1 : ¬t.val % 32 = 31) (h : Fin 4) (r : Fin 64) (x : Fin 128) :
    (stAt0 m c t.val t.isLt acc).1 (ix2 r (col h x)) = outAt m c t (fun _ _ _ => 0) h r x := by
  rw [stAt0_A m c t acc h0 h1]
  frame_open
  simp (disch := decide) only [↓ View.readCov_skip, ↓ View.readCov_cons_toLoadRect, ↓ View.readCov_fill]
  frame_out
  canon_tiles y g
  all_goals idx_vars y
  · obtain rfl : h = 3 := Fin.ext (by simp at g1; omega)
    obtain rfl : x = y1 := Fin.ext (by simp at g1; omega)
    obtain rfl : r = y0 := Fin.ext (by simpa using g0)
    refine (out3 _ (qOf (argU m c) (pt t)) (kOf (argU m c) (pt t)) _ (fun _ _ _ => 0) _ _ _ _ _ (blk2 m c t) (p15 m c t hfin) (p16 m c t hfin) _ (p19 m c t) _ (Holds.ld zero_holds 3 _ rfl _) r x).trans ?_
    rw [ldz m c t 3 ![0, 384] rfl]
  · obtain rfl : h = 2 := Fin.ext (by simp at g1; omega)
    obtain rfl : x = y1 := Fin.ext (by simp at g1; omega)
    obtain rfl : r = y0 := Fin.ext (by simpa using g0)
    refine (out2 _ (qOf (argU m c) (pt t)) (kOf (argU m c) (pt t)) _ (fun _ _ _ => 0) _ _ _ _ _ (blk2 m c t) (p15 m c t hfin) (p16 m c t hfin) _ (p19 m c t) _ (Holds.ld zero_holds 2 _ rfl _) r x).trans ?_
    rw [ldz m c t 2 ![0, 256] rfl]
  · obtain rfl : h = 1 := Fin.ext (by simp at g1; omega)
    obtain rfl : x = y1 := Fin.ext (by simp at g1; omega)
    obtain rfl : r = y0 := Fin.ext (by simpa using g0)
    refine (out1 _ (qOf (argU m c) (pt t)) (kOf (argU m c) (pt t)) _ (fun _ _ _ => 0) _ _ _ _ _ (blk2 m c t) (p15 m c t hfin) (p16 m c t hfin) _ (p19 m c t) _ (Holds.ld zero_holds 1 _ rfl _) r x).trans ?_
    rw [ldz m c t 1 ![0, 128] rfl]
  · obtain rfl : h = 0 := Fin.ext (by simp at g1; omega)
    obtain rfl : x = y1 := Fin.ext (by simp at g1; omega)
    obtain rfl : r = y0 := Fin.ext (by simpa using g0)
    refine (out0 _ (qOf (argU m c) (pt t)) (kOf (argU m c) (pt t)) _ (fun _ _ _ => 0) _ _ _ _ _ (blk2 m c t) (p15 m c t hfin) (p16 m c t hfin) _ (p19 m c t) _ (p20 m c t hfin) _ (Holds.ld zero_holds 0 _ rfl _) r x).trans ?_
    rw [ldz m c t 0 ![0, 0] rfl]

end Point

end Cert.Gla
-- ==== Proof.Gla.Kernel.lean ====
/-
  THE KERNEL'S RESULTS: by induction over the grid's points the carried state is the recurrence's, so the output array is
  the gated, normed recurrence of every chunk and the state array the state after 32 chunks.
-/
module

public import proofs.«01_k».proof.Proof.Gla.Body

@[expose] public section

set_option maxRecDepth 16384

noncomputable section

namespace Cert.Gla

open Idealize.ShloMosaic Idealize.ShloMosaic.TcCoe Cert.KernelIdeal Cert.KernelIdeal.Gen Cert.KernelIdeal.Value

/-- The state after chunk `t` of its sequence is the step from the state before it. -/
theorem stateAt_step (U : (⟨2, ![16384, 8832]⟩ : Shape).Idx → EReal) (W : (⟨2, ![16, 512]⟩ : Shape).Idx → EReal)
    (bias : (⟨1, ![512]⟩ : Shape).Idx → EReal) (t : Fin 256) :
    stateAt U W bias ⟨t.val / 32, by omega⟩ (t.val % 32 + 1)
      = next (laOf U W bias t) (kOf U t) (vOf U t) (stateAt U W bias ⟨t.val / 32, by omega⟩ (t.val % 32)) := by
  have hi : t.val % 32 < 32 := Nat.mod_lt _ (by decide)
  have e : chunk ⟨t.val / 32, by omega⟩ (t.val % 32) hi = t := Fin.ext (by simp only [chunk]; omega)
  rw [stateAt, dif_pos hi, e]

variable (m : (ℓ : Loc nD τ sig) → Buf (Elt Ideal) ℓ)
variable (c : Dev nD) (hfin : GateFinite (argU m c) (argW m c))

/-- The state before chunk `t`. -/
abbrev before (t : Fin 256) : State := stateAt (argU m c) (argW m c) (argB m c) ⟨t.val / 32, by omega⟩ (t.val % 32)

include hfin

/-- The carried state after a point, from the one before it. -/
theorem carried_step (t : Fin cfg0.N) (acc : Left) (h : ¬ t.val % 32 = 0 → Holds acc.2.2 (before m c (pt t))) :
    Holds (stAt0 m c t.val t.isLt acc).2.2
      (stateAt (argU m c) (argW m c) (argB m c) ⟨(pt t).val / 32, by omega⟩ ((pt t).val % 32 + 1)) := by
  rw [stateAt_step]
  by_cases h0 : t.val % 32 = 0
  · have e : (pt t).val % 32 = 0 := h0
    rw [e]
    exact state_A m c t hfin acc h0 (by omega)
  · by_cases h1 : t.val % 32 = 31
    · exact state_C m c t hfin acc _ h0 h1 (h h0)
    · exact state_B m c t hfin acc _ h0 h1 (h h0)

/-- The output block after a point. -/
theorem out_step (t : Fin cfg0.N) (acc : Left) (h : ¬ t.val % 32 = 0 → Holds acc.2.2 (before m c (pt t)))
    (hd : Fin 4) (r : Fin 64) (x : Fin 128) :
    (stAt0 m c t.val t.isLt acc).1 (ix2 r (col hd x)) = yOf (argU m c) (argW m c) (argB m c) (argG m c) (pt t) hd r x := by
  by_cases h0 : t.val % 32 = 0
  · have e : (pt t).val % 32 = 0 := h0
    unfold yOf rawOf
    rw [e]
    exact out_A m c t hfin acc h0 (by omega) hd r x
  · by_cases h1 : t.val % 32 = 31
    · exact out_C m c t hfin acc _ h0 h1 (h h0) hd r x
    · exact out_B m c t hfin acc _ h0 h1 (h h0) hd r x

/-- Every point's contents are the body's step from contents that hold the state before it. -/
theorem outs_step : ∀ (n : ℕ) (hn : n < cfg0.N), ∃ acc : Left,
    outsAt0 m c n hn = stAt0 m c n hn acc ∧ (¬ n % 32 = 0 → Holds acc.2.2 (before m c (pt ⟨n, hn⟩)))
  | 0, hn => ⟨junk0, outsAt0_zero m c hn, fun h => absurd rfl h⟩
  | n + 1, hn => by
    refine ⟨_, outsAt0_succ m c n hn, fun h => ?_⟩
    obtain ⟨acc, e, hacc⟩ := outs_step n (Nat.lt_of_succ_lt hn)
    have := carried_step m c hfin ⟨n, Nat.lt_of_succ_lt hn⟩ acc hacc
    rw [e]
    have e1 : (n + 1) / 32 = n / 32 := by omega
    have e2 : (n + 1) % 32 = n % 32 + 1 := by omega
    simp only [before, pt, e1, e2]
    exact this

/-- The output array. -/
theorem kernel_y (t : Fin 256) (h : Fin 4) (r : Fin 64) (x : Fin 128) :
    G8 m c (ix2 (row t r) (col h x)) = yOf (argU m c) (argW m c) (argB m c) (argG m c) t h r x := by
  have hN : cfg0.N = 256 := N_0
  have hp : pt8Of (ix2 (row t r) (col h x)) = t.val := by
    show 1 * ((64 * t.val + r.val) / 64 - 0) + 1 * ((128 * h.val + x.val) / 512 - 0) = t.val
    omega
  have hl : loc8Of (ix2 (row t r) (col h x)) = ix2 r (col h x) := by
    funext a
    match a with
    | ⟨0, _⟩ => exact Fin.ext (by show (64 * t.val + r.val) % 64 = r.val; omega)
    | ⟨1, _⟩ => exact Fin.ext (by show (128 * h.val + x.val) % 512 = 128 * h.val + x.val; omega)
  have ht : t.val < cfg0.N := by omega
  unfold G8
  rw [dif_pos (by rw [hp]; exact ht), hl, fold0_congr m c _ _ _ (show 0 + t.val < cfg0.N by omega) hp, ← outsAt0_sweep m c t.val ht]
  obtain ⟨acc, e, hacc⟩ := outs_step m c hfin t.val ht
  rw [e]
  exact out_step m c hfin ⟨t.val, ht⟩ acc hacc h r x

/-- The state array. -/
theorem kernel_S (b : Fin 8) (h : Fin 4) (e x : Fin 128) :
    G9 m c (ix4 b h e x) = stateAt (argU m c) (argW m c) (argB m c) b 32 h e x := by
  have hN : cfg0.N = 256 := N_0
  have hp : pt9Of (ix4 b h e x) = 32 * b.val + 31 := by
    show 32 * (1 * (b.val / 1 - 0) + 1 * (h.val / 4 - 0) + 1 * (e.val / 128 - 0) + 1 * (x.val / 128 - 0)) + 31 = _
    omega
  have hl : loc9Of (ix4 b h e x) = ix4 0 h e x := by
    funext a
    match a with
    | ⟨0, _⟩ => exact Fin.ext (by show b.val % 1 = 0; omega)
    | ⟨1, _⟩ => exact Fin.ext (by show h.val % 4 = h.val; omega)
    | ⟨2, _⟩ => exact Fin.ext (by show e.val % 128 = e.val; omega)
    | ⟨3, _⟩ => exact Fin.ext (by show x.val % 128 = x.val; omega)
  have ht : 32 * b.val + 31 < cfg0.N := by omega
  unfold G9
  rw [dif_pos (by rw [hp]; exact ht), hl, fold0_congr m c _ _ _ (show 0 + (32 * b.val + 31) < cfg0.N by omega) hp, ← outsAt0_sweep m c _ ht]
  obtain ⟨acc, e', hacc⟩ := outs_step m c hfin _ ht
  rw [e', final_C m c ⟨_, ht⟩ hfin acc _ (by show ¬ (32 * b.val + 31) % 32 = 0; omega) (by show (32 * b.val + 31) % 32 = 31; omega)
    (hacc (by omega)) 0 h e x]
  have hs := stateAt_step (argU m c) (argW m c) (argB m c) (pt ⟨32 * b.val + 31, ht⟩)
  have e1 : (32 * b.val + 31) / 32 = b.val := by omega
  have e2 : (32 * b.val + 31) % 32 = 31 := by omega
  simp only [pt, e1, e2] at hs
  rw [hs]
  simp only [nextAt, before, pt, e1, e2]

end Cert.Gla
-- ==== Proof.Gla.Cumsum.lean ====
/-
  THE HOST'S RUNNING SUM ALONG A CHUNK'S ROWS: its window of 64 rows, padded low by 63, ends at the row asked for, so
  the sum over the window is the sum over the rows not later.
-/
module

public import Idealize.ShloMosaic.Lib.Pointwise

@[expose] public section

set_option maxRecDepth 16384

noncomputable section

namespace Cert.Gla

open Idealize.ShloMosaic

/-- Adding a list's terms one by one onto `a` is `a` plus their sum. -/
theorem foldl_add_sum {ι : Type} (g : ι → EReal) (l : List ι) (a : EReal) :
    l.foldl (fun r n => r + g n) a = a + (l.map g).sum := by
  induction l generalizing a with
  | nil => simp
  | cons n l ih => rw [List.foldl_cons, ih, List.map_cons, List.sum_cons, add_assoc]

/-- The window's indices are its 64 rows. -/
def windowRows : (⟨4, ![1, 64, 1, 1]⟩ : Shape).Idx ≃ Fin 64 where
  toFun y := y 1
  invFun w := ix4 (0 : Fin 1) w (0 : Fin 1) (0 : Fin 1)
  left_inv y := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

/-- The window at row `r` holds 63 - r rows of padding, then the rows up to `r`. -/
theorem sum_window (r : Fin 64) (f : Fin 64 → EReal) :
    (∑ w : Fin 64, if h : 63 ≤ r.val + w.val then f ⟨r.val + w.val - 63, by omega⟩ else 0)
      = ∑ s : Fin 64, if s ≤ r then f s else 0 := by
  have e : ∀ s : Fin 64, (if s ≤ r then f s else 0)
      = ∑ w : Fin 64, if w.val = s.val + 63 - r.val then (if s ≤ r then f s else 0) else 0 := by
    intro s
    by_cases hs : s ≤ r
    · have hs' : s.val ≤ r.val := hs
      rw [Finset.sum_eq_single (⟨s.val + 63 - r.val, by omega⟩ : Fin 64)]
      · rw [if_pos rfl]
      · intro w _ hw
        exact if_neg fun h => hw (Fin.ext h)
      · intro h
        exact absurd (Finset.mem_univ _) h
    · simp only [if_neg hs, ite_self, Finset.sum_const_zero]
  rw [Finset.sum_congr rfl fun s _ => e s, Finset.sum_comm]
  refine Finset.sum_congr rfl fun w _ => ?_
  by_cases h : 63 ≤ r.val + w.val
  · rw [dif_pos h, Finset.sum_eq_single (⟨r.val + w.val - 63, by omega⟩ : Fin 64)]
    · rw [if_pos (by show w.val = r.val + w.val - 63 + 63 - r.val; omega),
        if_pos (by show r.val + w.val - 63 ≤ r.val; omega)]
    · intro s _ hs
      by_cases hw : w.val = s.val + 63 - r.val
      · exact absurd (Fin.ext (by show s.val = r.val + w.val - 63; omega)) hs
      · exact if_neg hw
    · intro h
      exact absurd (Finset.mem_univ _) h
  · rw [dif_neg h, Finset.sum_eq_zero]
    intro s _
    by_cases hw : w.val = s.val + 63 - r.val
    · rw [if_pos hw, if_neg (by show ¬ s.val ≤ r.val; omega)]
    · exact if_neg hw

/-- Folding a sum over a shape's places in row-major order is the sum over its indices. -/
theorem fold_places (W : Shape) (g : W.Idx → EReal) :
    (List.finRange W.numel).foldl (fun r n => r + g (W.rowMajor.symm n)) 0 = ∑ y : W.Idx, g y := by
  rw [foldl_add_sum, zero_add, ← Fin.sum_univ_def]
  exact Equiv.sum_comp W.rowMajor.symm g

/-- The host's window sum from zero, as the sum over the window's places. -/
theorem window_sum {s t : Shape} (window strides lo hi : Fin s.rank → Nat) (h : s.ReduceWindows window strides lo hi t)
    (x : s.Idx → EReal) (j : t.Idx) :
    Ideal.hostReduceWindowAdd window strides lo hi h x 0 j = ∑ y : (⟨s.rank, window⟩ : Shape).Idx,
      if hin : ∀ a, lo a ≤ (j (a.cast h.1.symm)).val * strides a + (y a).val
          ∧ (j (a.cast h.1.symm)).val * strides a + (y a).val - lo a < s.size a then
        x (fun a => ⟨(j (a.cast h.1.symm)).val * strides a + (y a).val - lo a, (hin a).2⟩) else 0 := by
  unfold Ideal.hostReduceWindowAdd Host.reduceWindow
  refine Eq.trans ?_ (fold_places ⟨s.rank, window⟩ fun y =>
    if hin : ∀ a, lo a ≤ (j (a.cast h.1.symm)).val * strides a + (y a).val
        ∧ (j (a.cast h.1.symm)).val * strides a + (y a).val - lo a < s.size a then
      x (fun a => ⟨(j (a.cast h.1.symm)).val * strides a + (y a).val - lo a, (hin a).2⟩) else 0)
  dsimp only
  congr 1
  funext r n
  congr 1
  congr 1

/-- The host's running sum at row `r`: the sum over the rows not later. -/
theorem cumsum_rows (x : (⟨4, ![8, 64, 4, 128]⟩ : Shape).Idx → EReal)
    (hw : (⟨4, ![8, 64, 4, 128]⟩ : Shape).ReduceWindows ![1, 64, 1, 1] ![1, 1, 1, 1] ![0, 63, 0, 0] ![0, 0, 0, 0] ⟨4, ![8, 64, 4, 128]⟩)
    (b : Fin 8) (r : Fin 64) (h : Fin 4) (k : Fin 128) :
    Ideal.hostReduceWindowAdd ![1, 64, 1, 1] ![1, 1, 1, 1] ![0, 63, 0, 0] ![0, 0, 0, 0] hw x 0 (ix4 b r h k)
      = ∑ s : Fin 64, if s ≤ r then x (ix4 b s h k) else 0 := by
  rw [← sum_window r fun s => x (ix4 b s h k), window_sum]
  change (∑ y : (⟨4, ![1, 64, 1, 1]⟩ : Shape).Idx, _) = _
  rw [← Equiv.sum_comp windowRows.symm]
  refine Finset.sum_congr rfl fun w _ => ?_
  dsimp only
  by_cases hc : 63 ≤ r.val + w.val
  · rw [dif_pos hc]
    rw [dif_pos]
    swap
    · intro a
      match a with
      | ⟨0, _⟩ => exact ⟨Nat.zero_le _, by show b.val * 1 + 0 - 0 < 8; omega⟩
      | ⟨1, _⟩ => exact ⟨by show 63 ≤ r.val * 1 + w.val; omega, by show r.val * 1 + w.val - 63 < 64; omega⟩
      | ⟨2, _⟩ => exact ⟨Nat.zero_le _, by show h.val * 1 + 0 - 0 < 4; omega⟩
      | ⟨3, _⟩ => exact ⟨Nat.zero_le _, by show k.val * 1 + 0 - 0 < 128; omega⟩
    refine congrArg x (funext fun a => Fin.ext ?_)
    match a with
    | ⟨0, _⟩ => show b.val * 1 + 0 - 0 = b.val; omega
    | ⟨1, _⟩ => show r.val * 1 + w.val - 63 = r.val + w.val - 63; omega
    | ⟨2, _⟩ => show h.val * 1 + 0 - 0 = h.val; omega
    | ⟨3, _⟩ => show k.val * 1 + 0 - 0 = k.val; omega
  · rw [dif_neg hc, dif_neg]
    intro hin
    have h1 : 63 ≤ r.val * 1 + w.val := (hin 1).1
    omega

end Cert.Gla
-- ==== Proof.Gla.RefStep.lean ====
/-
  ONE TRIP OF THE REFERENCE'S LOOP at an index: trip `i` reads chunk `i` of every sequence off the carried arrays, its
  state is `next` of the state before, and it writes chunk `i`'s output rows, `outRaw`, over the outputs.
-/
module

public import proofs.«01_k».proof.Proof.Gen.ReferenceIdeal.Run
public import proofs.«01_k».proof.Proof.Gla.Cumsum
public import proofs.«01_k».proof.Proof.Gla.Gate

@[expose] public section

set_option maxRecDepth 16384

noncomputable section

namespace Cert.Gla.Ref

open Idealize.ShloMosaic Idealize.ShloMosaic.TcCoe Cert.ReferenceIdeal Cert.ReferenceIdeal.Gen Cert.ReferenceIdeal.Value

/-- A slice of one chunk at a start that is the chunk's number. -/
theorem slice_at (x : (⟨5, ![32, 8, 64, 4, 128]⟩ : Shape).Idx → EReal) (start : Fin 5 → Int)
    (hs : (⟨5, ![32, 8, 64, 4, 128]⟩ : Shape).Slices (fun _ => 0) ⟨5, ![1, 8, 64, 4, 128]⟩) (i : Fin 32)
    (h0 : start 0 = i.val) (h1 : start 1 = 0) (h2 : start 2 = 0) (h3 : start 3 = 0) (h4 : start 4 = 0)
    (b : Fin 8) (r : Fin 64) (h : Fin 4) (k : Fin 128) :
    Host.dynamicSlice ⟨5, ![1, 8, 64, 4, 128]⟩ x start hs (ix5 (0 : Fin 1) b r h k) = x (ix5 i b r h k) := by
  unfold Host.dynamicSlice
  refine congrArg x (funext fun a => Fin.ext ?_)
  match a with
  | ⟨0, _⟩ => show (min (max (start 0) 0) ((32 - 1 : ℕ) : Int)).toNat + 0 = i.val; rw [h0]; omega
  | ⟨1, _⟩ => show (min (max (start 1) 0) ((8 - 8 : ℕ) : Int)).toNat + b.val = b.val; rw [h1]; omega
  | ⟨2, _⟩ => show (min (max (start 2) 0) ((64 - 64 : ℕ) : Int)).toNat + r.val = r.val; rw [h2]; omega
  | ⟨3, _⟩ => show (min (max (start 3) 0) ((4 - 4 : ℕ) : Int)).toNat + h.val = h.val; rw [h3]; omega
  | ⟨4, _⟩ => show (min (max (start 4) 0) ((128 - 128 : ℕ) : Int)).toNat + k.val = k.val; rw [h4]; omega

/-- An update of one chunk at a start that is the chunk's number: the update in that chunk, the operand elsewhere. -/
theorem update_at (x : (⟨5, ![32, 8, 64, 4, 128]⟩ : Shape).Idx → EReal) (upd : (⟨5, ![1, 8, 64, 4, 128]⟩ : Shape).Idx → EReal)
    (start : Fin 5 → Int) (hs : (⟨5, ![32, 8, 64, 4, 128]⟩ : Shape).Slices (fun _ => 0) ⟨5, ![1, 8, 64, 4, 128]⟩) (i j : Fin 32)
    (h0 : start 0 = i.val) (h1 : start 1 = 0) (h2 : start 2 = 0) (h3 : start 3 = 0) (h4 : start 4 = 0)
    (b : Fin 8) (r : Fin 64) (h : Fin 4) (k : Fin 128) :
    Host.dynamicUpdateSlice x upd start hs (ix5 j b r h k)
      = if j = i then upd (ix5 (0 : Fin 1) b r h k) else x (ix5 j b r h k) := by
  have c0 : (min (max (start 0) 0) ((32 - 1 : ℕ) : Int)).toNat = i.val := by rw [h0]; omega
  have c1 : (min (max (start 1) 0) ((8 - 8 : ℕ) : Int)).toNat = 0 := by rw [h1]; rfl
  have c2 : (min (max (start 2) 0) ((64 - 64 : ℕ) : Int)).toNat = 0 := by rw [h2]; rfl
  have c3 : (min (max (start 3) 0) ((4 - 4 : ℕ) : Int)).toNat = 0 := by rw [h3]; rfl
  have c4 : (min (max (start 4) 0) ((128 - 128 : ℕ) : Int)).toNat = 0 := by rw [h4]; rfl
  rw [Host.dynamicUpdateSlice_apply]
  by_cases hj : j = i
  · subst hj
    rw [if_pos rfl, dif_pos]
    swap
    · intro a
      match a with
      | ⟨0, _⟩ => show (min (max (start 0) 0) ((32 - 1 : ℕ) : Int)).toNat ≤ j.val ∧ j.val < (min (max (start 0) 0) ((32 - 1 : ℕ) : Int)).toNat + 1; omega
      | ⟨1, _⟩ => show (min (max (start 1) 0) ((8 - 8 : ℕ) : Int)).toNat ≤ b.val ∧ b.val < (min (max (start 1) 0) ((8 - 8 : ℕ) : Int)).toNat + 8; omega
      | ⟨2, _⟩ => show (min (max (start 2) 0) ((64 - 64 : ℕ) : Int)).toNat ≤ r.val ∧ r.val < (min (max (start 2) 0) ((64 - 64 : ℕ) : Int)).toNat + 64; omega
      | ⟨3, _⟩ => show (min (max (start 3) 0) ((4 - 4 : ℕ) : Int)).toNat ≤ h.val ∧ h.val < (min (max (start 3) 0) ((4 - 4 : ℕ) : Int)).toNat + 4; omega
      | ⟨4, _⟩ => show (min (max (start 4) 0) ((128 - 128 : ℕ) : Int)).toNat ≤ k.val ∧ k.val < (min (max (start 4) 0) ((128 - 128 : ℕ) : Int)).toNat + 128; omega
    refine congrArg upd (funext fun a => Fin.ext ?_)
    match a with
    | ⟨0, _⟩ => show j.val - (min (max (start 0) 0) ((32 - 1 : ℕ) : Int)).toNat = 0; omega
    | ⟨1, _⟩ => show b.val - (min (max (start 1) 0) ((8 - 8 : ℕ) : Int)).toNat = b.val; omega
    | ⟨2, _⟩ => show r.val - (min (max (start 2) 0) ((64 - 64 : ℕ) : Int)).toNat = r.val; omega
    | ⟨3, _⟩ => show h.val - (min (max (start 3) 0) ((4 - 4 : ℕ) : Int)).toNat = h.val; omega
    | ⟨4, _⟩ => show k.val - (min (max (start 4) 0) ((128 - 128 : ℕ) : Int)).toNat = k.val; omega
  · rw [if_neg hj, dif_neg]
    intro hin
    have h : (min (max (start 0) 0) ((32 - 1 : ℕ) : Int)).toNat ≤ j.val ∧ j.val < (min (max (start 0) 0) ((32 - 1 : ℕ) : Int)).toNat + 1 := hin 0
    exact hj (Fin.ext (by omega))

/-- A trip's number, read signed. -/
theorem toInt_trip : ∀ i : Fin 32, (BitVec.ofNat 32 i.val).toInt = i.val := by decide

variable (X : Valuation τ sig (Elt Ideal)) (i : Fin 32)
  (hc : X (Proc.devRef .tc main_v30_5) = fun _ => BitVec.ofNat 32 i.val)

/-- The trip's start of each carried array. -/
abbrev start : Fin 5 → Int := fun k => (((![X (Proc.devRef .tc main_v30_5), constantI S_ 32 0#32, constantI S_ 32 0#32,
  constantI S_ 32 0#32, constantI S_ 32 0#32] : Fin 5 → (⟨S_, .i32⟩ : BufTy).Contents (Elt Ideal))) k (Shape.Idx.first h_S_)).toInt

/-- Chunk `i` of a carried array, as rows over the flat columns of sequence `b`. -/
def rows (x : (⟨5, ![32, 8, 64, 4, 128]⟩ : Shape).Idx → EReal) (b : Fin 8) : Rows :=
  fun r d => x (ix5 i b r ⟨d.val / 128, by omega⟩ ⟨d.val % 128, by omega⟩)

theorem rows_col (x : (⟨5, ![32, 8, 64, 4, 128]⟩ : Shape).Idx → EReal) (b : Fin 8) (r : Fin 64) (h : Fin 4) (k : Fin 128) :
    rows i x b r (col h k) = x (ix5 i b r h k) := by
  unfold rows
  congr 1
  have e1 : (⟨(col h k).val / 128, by omega⟩ : Fin 4) = h := Fin.ext (by show (128 * h.val + k.val) / 128 = h.val; omega)
  have e2 : (⟨(col h k).val % 128, by omega⟩ : Fin 128) = k := Fin.ext (by show (128 * h.val + k.val) % 128 = k.val; omega)
  rw [e1, e2]

include hc in
theorem start0 : start X 0 = i.val := by
  show ((X (Proc.devRef .tc main_v30_5)) (Shape.Idx.first h_S_)).toInt = _
  rw [hc]
  exact toInt_trip i

include hc in
/-- The trip's chunk of any carried array. -/
theorem chunk_at (x : (⟨5, ![32, 8, 64, 4, 128]⟩ : Shape).Idx → EReal) (b : Fin 8) (r : Fin 64) (h : Fin 4) (k : Fin 128) :
    shapeCast S8x64x4x128 (Host.dynamicSlice S1x8x64x4x128 x (start X) sliceFits_S32x8x64x4x128_S1x8x64x4x128)
        shapeCasts_S1x8x64x4x128_S8x64x4x128 (ix4 b r h k) = rows i x b r (col h k) := by
  rw [rows_col, ← slice_at x (start X) sliceFits_S32x8x64x4x128_S1x8x64x4x128 i (start0 X i hc) rfl rfl rfl rfl b r h k]
  generalize Host.dynamicSlice S1x8x64x4x128 x (start X) sliceFits_S32x8x64x4x128_S1x8x64x4x128 = y
  pointwise

include hc

/-- The trip's keys, -/
theorem keys (b : Fin 8) (r : Fin 64) (h : Fin 4) (k : Fin 128) :
    (res_main_while0b_v54 X (ix4 b r h k) : EReal) = rows i (X (Proc.devRef .tc main_v30_1)) b r (col h k) :=
  chunk_at X i hc _ b r h k

/-- values, -/
theorem vals (b : Fin 8) (r : Fin 64) (h : Fin 4) (k : Fin 128) :
    (res_main_while0b_v55 X (ix4 b r h k) : EReal) = rows i (X (Proc.devRef .tc main_v30_2)) b r (col h k) :=
  chunk_at X i hc _ b r h k

/-- log-decays summed up to a row, -/
theorem cums (b : Fin 8) (r : Fin 64) (h : Fin 4) (k : Fin 128) :
    (res_main_while0b_v57 X (ix4 b r h k) : EReal) = cum (rows i (X (Proc.devRef .tc main_v30_3)) b) r (col h k) := by
  unfold res_main_while0b_v57 cum
  have e : ∀ s, _ := fun s => chunk_at X i hc (X (Proc.devRef .tc main_v30_3)) b s h k
  simp only [← e]
  generalize shapeCast S8x64x4x128 (Host.dynamicSlice S1x8x64x4x128 (X (Proc.devRef .tc main_v30_3)) (start X)
    sliceFits_S32x8x64x4x128_S1x8x64x4x128) shapeCasts_S1x8x64x4x128_S8x64x4x128 = y
  rw [← cumsum_rows y reduceWindows_S8x64x4x128_S8x64x4x128_w1s1p0_0_w64s1p63_0_w1s1p0_0_w1s1p0_0 b r h k]
  unfold Host.reduceWindowAdd
  have hz : broadcastInDim S_ ![] bcast_S_S_ (constant (F := Ideal) S_ .f32 0x00000000#32) (Shape.Idx.first h_S_) = (0 : EReal) :=
    Ideal.ofBits_zero .f32
  rw [hz]
  rfl

/-- their sums over the chunk, -/
theorem tots (b : Fin 8) (h : Fin 4) (k : Fin 128) :
    (res_main_while0b_v71 X (ix3 b h k) : EReal) = tot (rows i (X (Proc.devRef .tc main_v30_3)) b) (col h k) := by
  unfold res_main_while0b_v71
  have e := cums X i hc b (63 : Fin 64) h k
  have e' : cum (rows i (X (Proc.devRef .tc main_v30_3)) b) (63 : Fin 64) (col h k)
      = tot (rows i (X (Proc.devRef .tc main_v30_3)) b) (col h k) :=
    Finset.sum_congr rfl fun s _ => if_pos (show s.val ≤ 63 by omega)
  rw [e'] at e
  pointwise
  exact e

/-- and scaled queries, decayed from the chunk's start. -/
theorem queries (q : Rows) (b : Fin 8)
    (hq : ∀ r d, rows i (X (Proc.devRef .tc main_v30_0)) b r d = q r d * Ideal.ofBits .f32 0x3DB504F3#32)
    (r : Fin 64) (h : Fin 4) (k : Fin 128) :
    (res_main_while0b_v59 X (ix4 b r h k) : EReal) = qdec (rows i (X (Proc.devRef .tc main_v30_3)) b) q r (col h k) := by
  unfold res_main_while0b_v59 qdec
  have e1 := cums X i hc b r h k
  have e2 := chunk_at X i hc (X (Proc.devRef .tc main_v30_0)) b r h k
  exact congrArg₂ (· * ·) (e2.trans (hq r (col h k))) (congrArg Ideal.exp e1)

/-- THE TRIP'S STATE: `next` of the state before, over chunk `i`'s log-decays, keys and values. -/
theorem state_step (b : Fin 8) (h : Fin 4) (k x : Fin 128) :
    (step_main_v30_6 X (ix4 b h k x) : EReal)
      = next (rows i (X (Proc.devRef .tc main_v30_3)) b) (rows i (X (Proc.devRef .tc main_v30_1)) b)
        (rows i (X (Proc.devRef .tc main_v30_2)) b) (fun h c x => X (Proc.devRef .tc main_v30_6) (ix4 b h c x)) h k x := by
  unfold step_main_v30_6
  simp only [id_eq]
  pointwise
  simp only [keys X i hc, vals X i hc, cums X i hc, tots X i hc]
  rfl

/-- THE TRIP'S OUTPUTS: chunk `i`'s rows are `outRaw`, the others stay. -/
theorem outs_step (q : Rows) (b : Fin 8)
    (hq : ∀ r d, rows i (X (Proc.devRef .tc main_v30_0)) b r d = q r d * Ideal.ofBits .f32 0x3DB504F3#32)
    (hm : ∀ r s : Fin 64, X (Proc.devRef .tc main_v30_4) (ix2 r s) = if s ≤ r then (1#1 : BitVec 1) else 0#1)
    (j : Fin 32) (r : Fin 64) (h : Fin 4) (x : Fin 128) :
    (step_main_v30_7 X (ix5 j b r h x) : EReal)
      = if j = i then outRaw (rows i (X (Proc.devRef .tc main_v30_3)) b) q (rows i (X (Proc.devRef .tc main_v30_1)) b)
          (rows i (X (Proc.devRef .tc main_v30_2)) b) (fun h c x => X (Proc.devRef .tc main_v30_6) (ix4 b h c x)) h r x
        else X (Proc.devRef .tc main_v30_7) (ix5 j b r h x) := by
  unfold step_main_v30_7
  refine (update_at _ _ (start X) updateFits_S32x8x64x4x128_S1x8x64x4x128 i j (start0 X i hc) rfl rfl rfl rfl b r h x).trans ?_
  refine if_congr Iff.rfl ?_ rfl
  simp only [id_eq]
  pointwise
  simp only [keys X i hc, vals X i hc, cums X i hc, queries X i hc q b hq, hm]
  unfold outRaw
  refine congrArg₂ (· + ·) (Finset.sum_congr rfl fun s _ => ?_) (Finset.sum_congr rfl fun c _ => mul_comm _ _)
  by_cases hs : s ≤ r
  · rw [if_pos hs, if_pos hs]
    refine (mul_comm _ _).trans (congrArg₂ (· * ·) (Finset.sum_congr rfl fun c _ => ?_) rfl)
    unfold kinv
    rw [zero_sub]
  · rw [if_neg hs, if_neg hs]
    exact if_neg (by decide)

end Cert.Gla.Ref
-- ==== Proof.Gla.RefEntry.lean ====
/-
  WHAT THE REFERENCE'S LOOP BEGINS WITH, at an index: the scaled queries, keys, values and log-decays cut into chunks,
  the mask of the rows not later, a zero state and zero outputs.
-/
module

public import proofs.«01_k».proof.Proof.Gla.RefStep

@[expose] public section

set_option maxRecDepth 16384

noncomputable section

namespace Cert.Gla.Ref

open Idealize.ShloMosaic Idealize.ShloMosaic.TcCoe Idealize.ShloMosaic.StableHlo Cert.ReferenceIdeal Cert.ReferenceIdeal.Value

variable (m : (ℓ : Loc nD τ sig) → Buf (Elt Ideal) ℓ)

/-- The projected inputs of core `c`, -/
abbrev argU (c : Dev nD) : (⟨2, ![16384, 8832]⟩ : Shape).Idx → EReal := m ((c : Thread nD τ).loc main_arg0)
/-- the gate's weights, -/
abbrev argW (c : Dev nD) : (⟨2, ![16, 512]⟩ : Shape).Idx → EReal := m ((c : Thread nD τ).loc main_arg1)
/-- its bias, -/
abbrev argB (c : Dev nD) : (⟨1, ![512]⟩ : Shape).Idx → EReal := m ((c : Thread nD τ).loc main_arg2)
/-- and the norm's gain. -/
abbrev argG (c : Dev nD) : (⟨1, ![128]⟩ : Shape).Idx → EReal := m ((c : Thread nD τ).loc main_arg3)

/-- The word of sixteen. -/
theorem sixteen : Ideal.ofBits .f32 0x41800000#32 = ((16 : ℝ) : EReal) := by
  simp [Ideal.ofBits, Ideal.ieee]
  rw [← EReal.coe_mul]
  norm_num

/-- Divided by sixteen is times one sixteenth. -/
theorem div_sixteen (x : EReal) : Ideal.div x (Ideal.ofBits .f32 0x41800000#32) = x * Ideal.ofBits .f32 0x3D800000#32 := by
  rw [sixteen, sixteenth]
  unfold Ideal.div
  rw [if_neg (by exact_mod_cast (by norm_num : (16 : ℝ) ≠ 0)), ← EReal.coe_inv]
  norm_num

/-- The reference's log-decay of a logit `z` is the kernel's: no value differs from itself, and the sixteenth is a division. -/
theorem gate_eq (z : EReal) :
    Ideal.div (-(if -z ≠ -z then -z else max (-z) 0 + Ideal.log1p (Ideal.exp (-FloatOps.absf (F := Ideal) (φ := .f32) (-z)))))
      (Ideal.ofBits .f32 0x41800000#32) = gate z := by
  rw [if_neg (fun h => h rfl), div_sixteen, Ideal.absf_def]
  unfold gate
  simp only [zero_sub]

section Entry
variable (c : Dev nD) (i : Fin 32) (b : Fin 8)

/-- A row of a chunk, as the reference's reshapes count it. -/
theorem row_chunk (r : Fin 64) (h : b.val * 2048 + (i.val * 64 + r.val) < 16384) :
    (⟨b.val * 2048 + (i.val * 64 + r.val), h⟩ : Fin 16384) = row (chunk b i.val i.isLt) r :=
  Fin.ext (by show b.val * 2048 + (i.val * 64 + r.val) = 64 * (32 * b.val + i.val) + r.val; omega)

/-- The scaled queries cut into chunks, of any array of scaled query rows. -/
theorem scaled_at (A : FVec Ideal S8x2048x4x128 .f32) (r : Fin 64) (h : Fin 4) (k : Fin 128) :
    transpose S32x8x64x4x128 [1, 0, 2, 3, 4] (shapeCast S8x32x64x4x128
        (mulf A (broadcastInDim S8x2048x4x128 ![] Gen.bcast_S_S8x2048x4x128 (constant S_ FTy.f32 0x3DB504F3#32)))
        Gen.shapeCasts_S8x2048x4x128_S8x32x64x4x128) Gen.transposes_S8x32x64x4x128_S32x8x64x4x128_1_0_2_3_4 (ix5 i b r h k)
      = A (ix4 b (⟨i.val * 64 + r.val, by omega⟩ : Fin 2048) h k) * Ideal.ofBits .f32 0x3DB504F3#32 := by
  pointwise

/-- A query row over the heads, of the projected inputs. -/
theorem query_at (A : FVec Ideal S16384x8832 .f32) (p : Fin 2048) (h : Fin 4) (k : Fin 128) :
    shapeCast S8x2048x4x128 (extractStridedSlice S8x2048x512 ![0, 0, 0]
        (shapeCast S8x2048x8832 A Gen.shapeCasts_S16384x8832_S8x2048x8832) Gen.slices_S8x2048x8832_S8x2048x512_0_0_0)
        Gen.shapeCasts_S8x2048x512_S8x2048x4x128 (ix4 b p h k)
      = A (ix2 (⟨b.val * 2048 + p.val, by omega⟩ : Fin 16384) (⟨h.val * 128 + k.val, by omega⟩ : Fin 8832)) := by
  pointwise

/-- The scaled queries, -/
theorem entry_q :
    rows i (entryContents preI m c (Proc.devRef .tc main_v30_0)) b
      = fun r d => qOf (argU m c) (chunk b i.val i.isLt) r d * Ideal.ofBits .f32 0x3DB504F3#32 := by
  funext r d
  unfold rows qOf
  rw [← row_chunk i b r (by omega)]
  have e : (⟨d.val, by omega⟩ : Fin 8832) = ⟨d.val / 128 * 128 + d.val % 128, by omega⟩ := Fin.ext (by show d.val = d.val / 128 * 128 + d.val % 128; omega)
  rw [e]
  refine Eq.trans ?_ (congrArg (· * Ideal.ofBits .f32 0x3DB504F3#32)
    (query_at b (argU m c) ⟨i.val * 64 + r.val, by omega⟩ ⟨d.val / 128, by omega⟩ ⟨d.val % 128, by omega⟩))
  refine Eq.trans ?_ (scaled_at i b _ r ⟨d.val / 128, by omega⟩ ⟨d.val % 128, by omega⟩)
  simp only [entryContents, afterL_cons, afterL_nil]
  after_reads_simp
  rfl

/-- the keys, -/
theorem entry_k :
    rows i (entryContents preI m c (Proc.devRef .tc main_v30_1)) b = kOf (argU m c) (chunk b i.val i.isLt) := by
  funext r d
  unfold rows kOf
  rw [← row_chunk i b r (by omega)]
  simp only [entryContents, afterL_cons, afterL_nil]
  after_reads_simp
  simp only [id_eq, TRef.ofBuf_toBuf, TRef.ofBuf, TRef.toBuf, cast_eq]
  pointwise

/-- the values, -/
theorem entry_v :
    rows i (entryContents preI m c (Proc.devRef .tc main_v30_2)) b = vOf (argU m c) (chunk b i.val i.isLt) := by
  funext r d
  unfold rows vOf
  rw [← row_chunk i b r (by omega)]
  simp only [entryContents, afterL_cons, afterL_nil]
  after_reads_simp
  simp only [id_eq, TRef.ofBuf_toBuf, TRef.ofBuf, TRef.toBuf, cast_eq]
  pointwise

/-- the log-decays, -/
theorem entry_la :
    rows i (entryContents preI m c (Proc.devRef .tc main_v30_3)) b
      = laOf (argU m c) (argW m c) (argB m c) (chunk b i.val i.isLt) := by
  funext r d
  unfold rows laOf
  rw [← row_chunk i b r (by omega), ← gate_eq]
  unfold logit
  simp only [entryContents, afterL_cons, afterL_nil]
  after_reads_simp
  simp only [id_eq, TRef.ofBuf_toBuf, TRef.ofBuf, TRef.toBuf, cast_eq]
  pointwise

end Entry

/-- The mask: a row sees the rows not later. -/
theorem entry_mask (c : Dev nD) (r s : Fin 64) :
    entryContents preI m c (Proc.devRef .tc main_v30_4) (ix2 r s) = if s ≤ r then (1#1 : BitVec 1) else 0#1 := by
  have key : ∀ r s : Fin 64, Scalar.select (IntOp.cmpi CmpIPredicate.sge (IntOp.addi (BitVec.ofNat 32 r.val) 0#32) (BitVec.ofNat 32 s.val)) 1#1 0#1
      = if s ≤ r then (1#1 : BitVec 1) else 0#1 := by decide +kernel
  rw [← key]
  simp only [entryContents, afterL_cons, afterL_nil]
  after_reads_simp
  simp only [id_eq, TRef.ofBuf_toBuf, TRef.ofBuf, TRef.toBuf, cast_eq]
  pointwise

/-- The state before the first chunk. -/
theorem entry_S (c : Dev nD) (b : Fin 8) (h : Fin 4) (k x : Fin 128) :
    entryContents preI m c (Proc.devRef .tc main_v30_6) (ix4 b h k x) = (0 : EReal) := by
  simp only [entryContents, afterL_cons, afterL_nil]
  after_reads_simp
  simp only [id_eq, TRef.ofBuf_toBuf, TRef.ofBuf, TRef.toBuf, cast_eq]
  pointwise

end Cert.Gla.Ref
-- ==== Proof.Gla.RefFold.lean ====
/-
  THE REFERENCE'S LOOP, trip by trip, and what stands after it: before trip `i` the carried state is the state after
  `i` chunks and the outputs hold the rows of the chunks before `i`; then the norm, the gain and the output gate.
-/
module

public import proofs.«01_k».proof.Proof.Gla.RefEntry

@[expose] public section

set_option maxRecDepth 16384

noncomputable section

namespace Cert.Gla.Ref

open Idealize.ShloMosaic Idealize.ShloMosaic.TcCoe Idealize.ShloMosaic.StableHlo Cert.ReferenceIdeal Cert.ReferenceIdeal.Value

variable (m : (ℓ : Loc nD τ sig) → Buf (Elt Ideal) ℓ) (c : Dev nD)

/-- The buffers before trip `n`. -/
abbrev before (n : ℕ) : Valuation τ sig (Elt Ideal) := STEP^[n] (entryContents preI m c)

theorem before_succ (n : ℕ) : before m c (n + 1) = STEP (before m c n) := Function.iterate_succ_apply' _ _ _

/-- The scaled queries stay, -/
theorem before_0 : ∀ n, before m c n (Proc.devRef .tc main_v30_0) = entryContents preI m c (Proc.devRef .tc main_v30_0)
  | 0 => rfl
  | n + 1 => by rw [before_succ, STEP_main_v30_0, before_0 n]
/-- the keys, -/
theorem before_1 : ∀ n, before m c n (Proc.devRef .tc main_v30_1) = entryContents preI m c (Proc.devRef .tc main_v30_1)
  | 0 => rfl
  | n + 1 => by rw [before_succ, STEP_main_v30_1, before_1 n]
/-- the values, -/
theorem before_2 : ∀ n, before m c n (Proc.devRef .tc main_v30_2) = entryContents preI m c (Proc.devRef .tc main_v30_2)
  | 0 => rfl
  | n + 1 => by rw [before_succ, STEP_main_v30_2, before_2 n]
/-- the log-decays, -/
theorem before_3 : ∀ n, before m c n (Proc.devRef .tc main_v30_3) = entryContents preI m c (Proc.devRef .tc main_v30_3)
  | 0 => rfl
  | n + 1 => by rw [before_succ, STEP_main_v30_3, before_3 n]
/-- and the mask. -/
theorem before_4 : ∀ n, before m c n (Proc.devRef .tc main_v30_4) = entryContents preI m c (Proc.devRef .tc main_v30_4)
  | 0 => rfl
  | n + 1 => by rw [before_succ, STEP_main_v30_4, before_4 n]

/-- The counter is the trip's number. -/
theorem before_5 : ∀ n, before m c n (Proc.devRef .tc main_v30_5) = fun _ => BitVec.ofNat 32 n
  | 0 => ctr_entry m c
  | n + 1 => by
    rw [before_succ, STEP_main_v30_5]
    unfold step_main_v30_5
    rw [before_5 n]
    funext j
    exact BitVec.ofNat_add_ofNat n 1

/-- The state before trip `n`. -/
theorem state_at (b : Fin 8) : ∀ n, n ≤ 32 → ∀ (h : Fin 4) (k x : Fin 128),
    before m c n (Proc.devRef .tc main_v30_6) (ix4 b h k x) = stateAt (argU m c) (argW m c) (argB m c) b n h k x
  | 0, _ => fun h k x => entry_S m c b h k x
  | n + 1, hn => fun h k x => by
    rw [before_succ, STEP_main_v30_6]
    refine (state_step (before m c n) ⟨n, hn⟩ (before_5 m c n) b h k x).trans ?_
    rw [before_1, before_2, before_3, entry_la, entry_k, entry_v]
    have e : (fun h c' x => before m c n (Proc.devRef .tc main_v30_6) (ix4 b h c' x))
        = stateAt (argU m c) (argW m c) (argB m c) b n := by
      funext h k x
      exact state_at b n (by omega) h k x
    rw [e]
    show _ = (if hi : n < 32 then _ else _ : State) h k x
    rw [dif_pos (show n < 32 from hn)]

/-- The outputs before trip `n`: the chunks before `n` are written. -/
theorem outs_at (b : Fin 8) : ∀ n, n ≤ 32 → ∀ (j : Fin 32), j.val < n → ∀ (r : Fin 64) (h : Fin 4) (x : Fin 128),
    before m c n (Proc.devRef .tc main_v30_7) (ix5 j b r h x)
      = rawOf (argU m c) (argW m c) (argB m c) (chunk b j.val j.isLt) h r x
  | 0, _ => fun j hj => absurd hj (Nat.not_lt_zero _)
  | n + 1, hn => fun j hj r h x => by
    rw [before_succ, STEP_main_v30_7]
    refine (outs_step (before m c n) ⟨n, hn⟩ (before_5 m c n) (qOf (argU m c) (chunk b n hn)) b
      (fun r d => by rw [before_0, entry_q]) (fun r s => by rw [before_4, entry_mask]) j r h x).trans ?_
    by_cases hj' : j = ⟨n, hn⟩
    · subst hj'
      rw [if_pos rfl, before_1, before_2, before_3, entry_la, entry_k, entry_v]
      have e : (fun h c' x => before m c n (Proc.devRef .tc main_v30_6) (ix4 b h c' x))
          = stateAt (argU m c) (argW m c) (argB m c) b n := by
        funext h k x
        exact state_at m c b n (by omega) h k x
      rw [e]
      unfold rawOf
      have e1 : (⟨(chunk b n hn).val / 32, by omega⟩ : Fin 8) = b := Fin.ext (by show (32 * b.val + n) / 32 = b.val; omega)
      have e2 : (chunk b n hn).val % 32 = n := by show (32 * b.val + n) % 32 = n; omega
      rw [e1, e2]
    · rw [if_neg hj']
      exact outs_at b n (by omega) j (by have : j.val ≠ n := fun h => hj' (Fin.ext h); omega) r h x

/-- The arguments stay. -/
theorem arg_U (n : ℕ) : before m c n (Proc.devRef .tc main_arg0) = argU m c := iter_main_arg0 m c n
theorem arg_G (n : ℕ) : before m c n (Proc.devRef .tc main_arg3) = argG m c := iter_main_arg3 m c n

/-- What stands after the loop, at a row and a column: the norm of the head's output row, the gain and the output gate. -/
theorem out_point (X : Valuation τ sig (Elt Ideal)) (p : Fin 16384) (d : Fin 512) :
    out_main_v52 X (ix2 p d) = normed (fun x => X (Proc.devRef .tc main_v30_7) (ix5 (⟨p.val % 2048 / 64, by omega⟩ : Fin 32)
        (⟨p.val / 2048, by omega⟩ : Fin 8) (⟨p.val % 2048 % 64, by omega⟩ : Fin 64) (⟨d.val / 128, by omega⟩ : Fin 4) x))
      (X (Proc.devRef .tc main_arg3) (ix1 (⟨d.val % 128, by omega⟩ : Fin 128)))
      (X (Proc.devRef .tc main_arg0) (ix2 p (⟨1536 + d.val, by omega⟩ : Fin 8832))) ⟨d.val % 128, by omega⟩ := by
  unfold out_main_v52 normed
  rw [zero_sub]
  pointwise

/-- The same at a chunk, a row, a head and a channel. -/
theorem out_at (X : Valuation τ sig (Elt Ideal)) (t : Fin 256) (h : Fin 4) (r : Fin 64) (x : Fin 128) (o : Fin 128 → EReal)
    (hO : ∀ x, X (Proc.devRef .tc main_v30_7) (ix5 (⟨t.val % 32, by omega⟩ : Fin 32) (⟨t.val / 32, by omega⟩ : Fin 8) r h x) = o x) :
    out_main_v52 X (ix2 (row t r) (col h x)) = normed o (X (Proc.devRef .tc main_arg3) (ix1 x))
      (X (Proc.devRef .tc main_arg0) (ix2 (row t r) (⟨1536 + (col h x).val, by omega⟩ : Fin 8832))) x := by
  have a1 : (⟨(row t r).val % 2048 / 64, by omega⟩ : Fin 32) = ⟨t.val % 32, by omega⟩ := Fin.ext (by show (64 * t.val + r.val) % 2048 / 64 = t.val % 32; omega)
  have a2 : (⟨(row t r).val / 2048, by omega⟩ : Fin 8) = ⟨t.val / 32, by omega⟩ := Fin.ext (by show (64 * t.val + r.val) / 2048 = t.val / 32; omega)
  have a3 : (⟨(row t r).val % 2048 % 64, by omega⟩ : Fin 64) = r := Fin.ext (by show (64 * t.val + r.val) % 2048 % 64 = r.val; omega)
  have a4 : (⟨(col h x).val / 128, by omega⟩ : Fin 4) = h := Fin.ext (by show (128 * h.val + x.val) / 128 = h.val; omega)
  have a5 : (⟨(col h x).val % 128, by omega⟩ : Fin 128) = x := Fin.ext (by show (128 * h.val + x.val) % 128 = x.val; omega)
  refine (out_point X (row t r) (col h x)).trans ?_
  rw [a1, a2, a3, a4, a5]
  rw [show (fun x => X (Proc.devRef .tc main_v30_7) (ix5 (⟨t.val % 32, by omega⟩ : Fin 32) (⟨t.val / 32, by omega⟩ : Fin 8) r h x)) = o from funext hO]

/-- THE REFERENCE'S OUTPUT, at a chunk, a row, a head and a channel. -/
theorem ref_y (t : Fin 256) (h : Fin 4) (r : Fin 64) (x : Fin 128) :
    out_main_v52 (before m c 32) (ix2 (row t r) (col h x)) = yOf (argU m c) (argW m c) (argB m c) (argG m c) t h r x := by
  have hO : ∀ x, before m c 32 (Proc.devRef .tc main_v30_7) (ix5 (⟨t.val % 32, by omega⟩ : Fin 32) (⟨t.val / 32, by omega⟩ : Fin 8) r h x)
      = rawOf (argU m c) (argW m c) (argB m c) t h r x := fun x => by
    refine (outs_at m c ⟨t.val / 32, by omega⟩ 32 le_rfl ⟨t.val % 32, by omega⟩ (by show t.val % 32 < 32; omega) r h x).trans ?_
    have e : chunk ⟨t.val / 32, by omega⟩ (t.val % 32) (by omega) = t :=
      Fin.ext (by show 32 * (t.val / 32) + t.val % 32 = t.val; omega)
    rw [e]
  refine (out_at (before m c 32) t h r x _ hO).trans ?_
  rw [arg_U, arg_G]
  rfl

/-- The reference's last state. -/
theorem ref_S (b : Fin 8) (h : Fin 4) (k x : Fin 128) :
    before m c 32 (Proc.devRef .tc main_v30_6) (ix4 b h k x) = stateAt (argU m c) (argW m c) (argB m c) b 32 h k x :=
  state_at m c b 32 le_rfl h k x

end Cert.Gla.Ref
-- ==== Proof.Gla.Pre.lean ====
/-
  WHAT THE PRECONDITION SAYS: each entry of the 16 small columns and of the gate's weights is of absolute value below
  infinity, so it is neither `⊤` nor `⊥`.
-/
module

public import proofs.«01_k».proof.Pre_gate_finite
public import proofs.«01_k».proof.Proof.Gla.Blocks
public import Idealize.ShloMosaic.Lib.ReduceAll

@[expose] public section

set_option maxRecDepth 16384

noncomputable section

namespace Cert.Gla

open Idealize.ShloMosaic

/-- The precondition's side conditions. -/
theorem preFacts : Cert.Pre_gate_finite.Facts where
  slices_S16384x8832_S16384x16_0_8704 := by decide
  bcast_S_S16384x16 := by decide
  reducesTo_S16384x16_S_d0_1 := by decide
  h_S_ := by decide
  bcast_S_S16x512 := by decide
  reducesTo_S16x512_S_d0_1 := by decide

/-- The word of infinity. -/
theorem infinity : Ideal.ofBits .f32 0x7F800000#32 = ⊤ := by
  simp [Ideal.ofBits, Ideal.ieee]

/-- An absolute value below infinity is of a value that is not infinite. -/
theorem finite_of_abs (x : EReal) (h : max x (-x) < ⊤) : x ≠ ⊤ ∧ x ≠ ⊥ := by
  refine ⟨?_, ?_⟩
  · rintro rfl
    exact absurd h (by simp)
  · rintro rfl
    exact absurd h (by simp)

/-- The comparison the precondition makes. -/
theorem finite_of_less (x : EReal)
    (e : BitVec.ofBool (decide (FloatOps.absf (F := Ideal) (φ := .f32) x < Ideal.ofBits .f32 0x7F800000#32)) = 1#1) : x ≠ ⊤ ∧ x ≠ ⊥ := by
  rw [infinity, Ideal.absf_def] at e
  refine finite_of_abs x ?_
  by_contra hn
  rw [decide_eq_false hn] at e
  exact absurd e (by decide)

/-- The precondition gives that the gate's inputs and weights are not infinite. -/
theorem finite_of_pre (hF : Cert.Pre_gate_finite.Facts) (U : (⟨2, ![16384, 8832]⟩ : Shape).Idx → EReal) (W : (⟨2, ![16, 512]⟩ : Shape).Idx → EReal)
    (bias : (⟨1, ![512]⟩ : Shape).Idx → EReal) (gain : (⟨1, ![128]⟩ : Shape).Idx → EReal)
    (h : Cert.Pre_gate_finite.fn (F := Ideal) U W bias gain = fun _ => 1#1) : GateFinite U W := by
  have h0 := congrFun h ix0
  unfold Cert.Pre_gate_finite.fn at h0
  dsimp only at h0
  obtain ⟨hu, hw⟩ := IntOp.andi_eq_one.1 h0
  have hs : Subsingleton Cert.Pre_gate_finite.S_.Idx := ⟨fun a b => funext fun x => x.elim0⟩
  refine ⟨fun p x => ?_, fun x d => ?_⟩
  · have e := Host.reduce_andi_all _ _ _ _ _ hu (ix2 p x)
    pointwise at e
    exact finite_of_less _ e
  · have e := Host.reduce_andi_all _ _ _ _ _ hw (ix2 x d)
    pointwise at e
    exact finite_of_less _ e

end Cert.Gla
-- ==== Proof.Layer.Spec.lean ====
/-
  WHAT THE TWO MATRIX STAGES OF THE LAYER COMPUTE, over the extended reals: the norm of a row, the modulated input
  projection with its columns in the order that the kernels read, and the output stage's merge and feed-forward block.
-/
module

public import Idealize.ShloMosaic.Lib.Pointwise

@[expose] public section

set_option maxRecDepth 16384

noncomputable section

namespace Cert.Layer

open Idealize.ShloMosaic

/-- A row of the model's width. -/
abbrev Row := Fin 1024 → EReal

/-- A row over the root of its mean square plus the small constant, times the gain. -/
def rms (v g : Row) : Row := fun d =>
  v d * Ideal.rsqrt (Ideal.div (∑ k : Fin 1024, v k * v k) (Ideal.ofBits .f32 0x44800000#32) + Ideal.ofBits .f32 0x358637BD#32) * g d

/-- A normed row, scaled and shifted. -/
def modulated (v g sc sh : Row) : Row := fun d => rms v g d * (1 + sc d) + sh d

/-- The columns of the input projection in the order that the kernels read, the unused ones zero. -/
def place (f : Fin 8736 → EReal) (n : Fin 8832) : EReal :=
  if _ : n.val < 512 then f ⟨n.val, by omega⟩
  else if _ : n.val - 512 < 512 then f ⟨512 + (n.val - 512), by omega⟩
  else if _ : n.val - 1024 < 512 then f ⟨1024 + (n.val - 1024), by omega⟩
  else if _ : n.val - 1536 < 512 then f ⟨1536 + (n.val - 1536), by omega⟩
  else if _ : n.val - 2048 < 1536 then f ⟨3608 + (n.val - 2048), by omega⟩
  else if _ : n.val - 3584 < 512 then f ⟨5152 + (n.val - 3584), by omega⟩
  else if _ : n.val - 4096 < 3072 then f ⟨5664 + (n.val - 4096), by omega⟩
  else if _ : n.val - 7168 < 1024 then f ⟨2576 + (n.val - 7168), by omega⟩
  else if _ : n.val - 8192 < 512 then f ⟨2064 + (n.val - 8192), by omega⟩
  else if _ : n.val - 8704 < 16 then f ⟨2048 + (n.val - 8704), by omega⟩
  else if _ : n.val - 8720 < 8 then f ⟨3600 + (n.val - 8720), by omega⟩
  else if _ : n.val - 8728 < 4 then f ⟨5144 + (n.val - 8728), by omega⟩
  else if _ : n.val - 8732 < 4 then f ⟨5148 + (n.val - 8732), by omega⟩
  else 0

/-- One more piece before the rest: still one entry of the columns at each place, or none. -/
theorem entry_or_none {p : Prop} [Decidable p] (a : p → Fin 8736) (rest : (Fin 8736 → EReal) → EReal)
    (hr : (∃ j, ∀ f, rest f = f j) ∨ ∀ f, rest f = 0) :
    (∃ j, ∀ f : Fin 8736 → EReal, (if h : p then f (a h) else rest f) = f j)
      ∨ ∀ f : Fin 8736 → EReal, (if h : p then f (a h) else rest f) = 0 := by
  by_cases h : p
  · exact Or.inl ⟨a h, fun f => dif_pos h⟩
  · simp only [dif_neg h]
    exact hr

/-- Each place has one entry of the columns, or none. -/
theorem place_entry (n : Fin 8832) : (∃ j, ∀ f, place f n = f j) ∨ ∀ f, place f n = 0 := by
  unfold place
  iterate 13 refine entry_or_none _ _ ?_
  exact Or.inr fun _ => rfl

/-- A product with placed columns is the placed product. -/
theorem sum_place (h : Row) (w : Fin 1024 → Fin 8736 → EReal) (n : Fin 8832) :
    ∑ k, h k * place (w k) n = place (fun j => ∑ k, h k * w k j) n := by
  obtain ⟨j, hj⟩ | hz := place_entry n
  · simp only [hj]
  · simp only [hz, mul_zero, Finset.sum_const_zero]

/-- The input projection of row `l` of sequence `b`, its columns placed. -/
def proj (X : (⟨3, ![8, 2048, 1024]⟩ : Shape).Idx → EReal) (M : (⟨2, ![8, 6144]⟩ : Shape).Idx → EReal)
    (g : (⟨1, ![1024]⟩ : Shape).Idx → EReal) (W : (⟨3, ![1, 1024, 8736]⟩ : Shape).Idx → EReal) (b : Fin 8) (l : Fin 2048)
    (n : Fin 8832) : EReal :=
  place (fun j => ∑ k, modulated (fun d => X (ix3 b l d)) (fun d => g (ix1 d)) (fun d => M (ix2 b ⟨1024 + d.val, by omega⟩))
      (fun d => M (ix2 b ⟨d.val, by omega⟩)) k * W (ix3 0 k j)) n

/-- The whole input projection, by the flat row. -/
def projAll (X : (⟨3, ![8, 2048, 1024]⟩ : Shape).Idx → EReal) (M : (⟨2, ![8, 6144]⟩ : Shape).Idx → EReal)
    (g : (⟨1, ![1024]⟩ : Shape).Idx → EReal) (W : (⟨3, ![1, 1024, 8736]⟩ : Shape).Idx → EReal) :
    (⟨2, ![16384, 8832]⟩ : Shape).Idx → EReal := fun i =>
  proj X M g W ⟨(i 0).val / 2048, Nat.div_lt_of_lt_mul (i 0).isLt⟩ ⟨(i 0).val % 2048, Nat.mod_lt _ (by decide)⟩ (i 1)

end Cert.Layer
-- ==== Proof.Layer.OutSpec.lean ====
/-
  WHAT THE OUTPUT STAGE COMPUTES for one row, over the extended reals: the three gated branches merged and projected, the
  normed residual, and the gated feed-forward block with its normed residual.
-/
module

public import proofs.«01_k».proof.Proof.Layer.Spec

@[expose] public section

set_option maxRecDepth 16384

noncomputable section

namespace Cert.Layer

open Idealize.ShloMosaic

/-- The logistic function as both programs compute it. -/
def gate (z : EReal) : EReal := Ideal.div 1 (1 + Ideal.exp (-z))

/-- One branch of a row: gated, after its projection. -/
def branch (z : Row) (y : Fin 512 → EReal) (w : Fin 512 → Row) : Row := fun e => gate (z e) * ∑ k, y k * w k e

/-- The three branches merged. -/
def merged (z0 z1 z2 : Row) (y0 y1 y2 : Fin 512 → EReal) (w0 w1 w2 : Fin 512 → Row) : Row := fun e =>
  branch z0 y0 w0 e + branch z1 y1 w1 e + branch z2 y2 w2 e

/-- A row through a square matrix. -/
def through (v : Row) (w : Fin 1024 → Row) : Row := fun d => ∑ e, v e * w e d

/-- A normed row added, gated, to the residual. -/
def resid (x v g gt : Row) : Row := fun d => x d + rms v g d * gt d

/-- A hidden entry of the feed-forward block. -/
def hidden (h : Row) (w : Fin 1024 → Fin 5632 → EReal) (j : Fin 2816) : EReal :=
  (∑ k, h k * w k ⟨j.val, by omega⟩) * gate (∑ k, h k * w k ⟨j.val, by omega⟩) * ∑ k, h k * w k ⟨2816 + j.val, by omega⟩

/-- The feed-forward block of a row. -/
def ffn (h : Row) (wi : Fin 1024 → Fin 5632 → EReal) (wo : Fin 2816 → Row) : Row := fun d => ∑ j, hidden h wi j * wo j d

/-- The feed-forward block with the hidden entries taken in two halves. -/
theorem ffn_halves (h : Row) (wi : Fin 1024 → Fin 5632 → EReal) (wo : Fin 2816 → Row) (d : Fin 1024) :
    ffn h wi wo d = (∑ j : Fin 1408, hidden h wi ⟨j.val, by omega⟩ * wo ⟨j.val, by omega⟩ d)
      + ∑ j : Fin 1408, hidden h wi ⟨1408 + j.val, by omega⟩ * wo ⟨1408 + j.val, by omega⟩ d :=
  Fin.sum_univ_add (a := 1408) (b := 1408) fun j => hidden h wi j * wo j d

section Whole
variable (X : (⟨3, ![8, 2048, 1024]⟩ : Shape).Idx → EReal) (Y0 Y1 Y2 : (⟨2, ![16384, 512]⟩ : Shape).Idx → EReal)
  (U : (⟨2, ![16384, 8832]⟩ : Shape).Idx → EReal) (M : (⟨2, ![8, 6144]⟩ : Shape).Idx → EReal)
  (g1 g2 g3 : (⟨1, ![1024]⟩ : Shape).Idx → EReal) (Wb : (⟨3, ![3, 512, 1024]⟩ : Shape).Idx → EReal)
  (Wo : (⟨2, ![1024, 1024]⟩ : Shape).Idx → EReal) (Wi : (⟨2, ![1024, 5632]⟩ : Shape).Idx → EReal)
  (Wf : (⟨2, ![2816, 1024]⟩ : Shape).Idx → EReal)

/-- The flat number of row `l` of sequence `b`. -/
abbrev flat (b : Fin 8) (l : Fin 2048) : Fin 16384 := ⟨b.val * 2048 + l.val, by omega⟩

/-- The column of the projected rows with branch `n`'s gate at `e`. -/
abbrev gcol (n : Fin 3) (e : Fin 1024) : Fin 8832 := ⟨4096 + (n.val * 1024 + e.val), by omega⟩

/-- The merged row, projected. -/
def mixed (b : Fin 8) (l : Fin 2048) : Row :=
  through
    (merged (fun e => U (ix2 (flat b l) (gcol 0 e))) (fun e => U (ix2 (flat b l) (gcol 1 e)))
      (fun e => U (ix2 (flat b l) (gcol 2 e))) (fun k => Y0 (ix2 (flat b l) k)) (fun k => Y1 (ix2 (flat b l) k))
      (fun k => Y2 (ix2 (flat b l) k)) (fun k e => Wb (ix3 0 k e)) (fun k e => Wb (ix3 1 k e)) (fun k e => Wb (ix3 2 k e)))
    (fun e d => Wo (ix2 e d))

/-- The row after the mixers. -/
def after1 (b : Fin 8) (l : Fin 2048) : Row :=
  resid (fun d => X (ix3 b l d)) (mixed Y0 Y1 Y2 U Wb Wo b l) (fun d => g1 (ix1 d)) (fun d => M (ix2 b ⟨2048 + d.val, by omega⟩))

/-- The row that the feed-forward block reads. -/
def before2 (b : Fin 8) (l : Fin 2048) : Row :=
  modulated (after1 X Y0 Y1 Y2 U M g1 Wb Wo b l) (fun d => g2 (ix1 d)) (fun d => M (ix2 b ⟨4096 + d.val, by omega⟩))
    (fun d => M (ix2 b ⟨3072 + d.val, by omega⟩))

/-- The row after the feed-forward block. -/
def after2 (b : Fin 8) (l : Fin 2048) : Row :=
  resid (after1 X Y0 Y1 Y2 U M g1 Wb Wo b l)
    (ffn (before2 X Y0 Y1 Y2 U M g1 g2 Wb Wo b l) (fun k j => Wi (ix2 k j)) (fun j d => Wf (ix2 j d)))
    (fun d => g3 (ix1 d)) (fun d => M (ix2 b ⟨5120 + d.val, by omega⟩))

/-- The whole result. -/
def outAll : (⟨3, ![8, 2048, 1024]⟩ : Shape).Idx → EReal := fun i =>
  after2 X Y0 Y1 Y2 U M g1 g2 g3 Wb Wo Wi Wf (i 0) (i 1) (i 2)

end Whole

end Cert.Layer
-- ==== Proof.Out.Payload.lean ====
/-
  THE OUTPUT STAGE'S BODY at an index of its block: each named value of the body is the row operation of
  Layer/OutSpec.lean at its operands' rows.
-/
module

public import proofs.«01_k».proof.Proof.Gen.Kernel2Ideal.Frame
public import proofs.«01_k».proof.Proof.Layer.OutSpec

@[expose] public section

set_option maxRecDepth 16384

noncomputable section

namespace Cert.Out

open Idealize.ShloMosaic Cert.Kernel2Ideal Cert.Kernel2Ideal.Gen Cert.Layer

/-- The first two branches. -/
theorem pay2_apply (z0 z1 : Vec Ideal S256x1024 .f32) (y0 y1 : Vec Ideal S256x512 .bf16) (w0 w1 : Vec Ideal S1x512x1024 .bf16)
    (r : Fin 256) (e : Fin 1024) :
    (k0_pay2 z0 y0 w0 z1 y1 w1 (ix2 r e) : EReal)
      = branch (fun e => z0 (ix2 r e)) (fun k => y0 (ix2 r k)) (fun k e => w0 (ix3 0 k e)) e
        + branch (fun e => z1 (ix2 r e)) (fun k => y1 (ix2 r k)) (fun k e => w1 (ix3 0 k e)) e := by
  pointwise [k0_pay2]
  simp only [zero_sub]
  rfl

/-- The row after the mixers. -/
theorem pay5_apply (v26 : FVec Ideal S256x1024 .f32) (z2 : Vec Ideal S256x1024 .f32) (y2 : Vec Ideal S256x512 .bf16)
    (w2 : Vec Ideal S1x512x1024 .bf16) (wo : Vec Ideal S1024x1024 .bf16) (x : Vec Ideal S1x256x1024 .f32)
    (g : Vec Ideal S1x1024 .f32) (gt : Vec Ideal S1x1x1024 .f32) (r : Fin 256) (d : Fin 1024) :
    (k0_pay5 v26 (k0_pay3 z2) k0_pay4 y2 w2 wo x g gt (ix2 r d) : EReal)
      = resid (fun d => x (ix3 0 r d))
          (through (fun e => v26 (ix2 r e) + branch (fun e => z2 (ix2 r e)) (fun k => y2 (ix2 r k)) (fun k e => w2 (ix3 0 k e)) e)
            (fun e d => wo (ix2 e d)))
          (fun d => g (ix2 0 d)) (fun d => gt (ix3 0 0 d)) d := by
  pointwise [k0_pay5, k0_pay3, k0_pay4]
  simp only [zero_sub]
  rfl

/-- The row that the feed-forward block reads. -/
theorem pay6_apply (x1 : FVec Ideal S256x1024 .f32) (g : Vec Ideal S1x1024 .f32) (sc sh : Vec Ideal S1x1x1024 .f32)
    (r : Fin 256) (d : Fin 1024) :
    (k0_pay6 x1 g sc sh (ix2 r d) : EReal)
      = modulated (fun d => x1 (ix2 r d)) (fun d => g (ix2 0 d)) (fun d => sc (ix3 0 0 d)) (fun d => sh (ix3 0 0 d)) d := by
  pointwise [k0_pay6]
  rfl

section Hidden
variable (x1 : FVec Ideal S256x1024 .f32) (g : Vec Ideal S1x1024 .f32) (sc sh : Vec Ideal S1x1x1024 .f32)
  (w : Vec Ideal S1024x1408 .bf16) (r : Fin 256) (j : Fin 1408)

/-- The hidden entries' first factor, -/
theorem pay7_apply :
    (k0_pay7 x1 g sc sh w (ix2 r j) : EReal) = ∑ k : Fin 1024, (k0_pay6 x1 g sc sh (ix2 r k) : EReal) * w (ix2 k j) := by
  unfold k0_pay7
  generalize k0_pay6 x1 g sc sh = h
  pointwise

/-- their last, -/
theorem pay8_apply :
    (k0_pay8 x1 g sc sh w (ix2 r j) : EReal) = ∑ k : Fin 1024, (k0_pay6 x1 g sc sh (ix2 r k) : EReal) * w (ix2 k j) := by
  unfold k0_pay8
  generalize k0_pay6 x1 g sc sh = h
  pointwise

/-- and the gate between them. -/
theorem pay9_apply : (k0_pay9 x1 g sc sh w (ix2 r j) : EReal) = gate (k0_pay7 x1 g sc sh w (ix2 r j)) := by
  unfold k0_pay9
  generalize k0_pay7 x1 g sc sh w = h
  pointwise
  simp only [zero_sub]
  rfl

end Hidden

/-- The feed-forward block's two halves, normed. -/
theorem pay10_apply (h : FVec Ideal S256x1024 .bf16) (a b s : FVec Ideal S256x1408 .f32) (wf wf' : Vec Ideal S1408x1024 .bf16)
    (wa wb : Vec Ideal S1024x1408 .bf16) (g : Vec Ideal S1x1024 .f32) (r : Fin 256) (d : Fin 1024) :
    (k0_pay10 h a b s wf wa wb wf' g (ix2 r d) : EReal)
      = rms (fun d => (∑ j : Fin 1408, (a (ix2 r j) * s (ix2 r j) * b (ix2 r j) : EReal) * wf (ix2 j d))
          + ∑ j : Fin 1408, ((∑ k : Fin 1024, (h (ix2 r k) : EReal) * wa (ix2 k j)) * gate (∑ k : Fin 1024, (h (ix2 r k) : EReal) * wa (ix2 k j))
            * ∑ k : Fin 1024, (h (ix2 r k) : EReal) * wb (ix2 k j)) * wf' (ix2 j d)) (fun d => g (ix2 0 d)) d := by
  pointwise [k0_pay10]
  simp only [zero_sub]
  rfl

/-- The result from the two residuals. -/
theorem pay1_apply (x1 f : FVec Ideal S256x1024 .f32) (gt : Vec Ideal S1x1x1024 .f32) (r : Fin 256) (d : Fin 1024) :
    (k0_pay1 x1 f gt (ix3 0 r d) : EReal) = x1 (ix2 r d) + f (ix2 r d) * gt (ix3 0 0 d) := by
  pointwise [k0_pay1]

end Cert.Out
-- ==== Proof.Out.Blocks.lean ====
/-
  THE OUTPUT STAGE'S BLOCKS: what each window holds at a grid point, and the parts of them that the body loads, as entries
  of the arguments.
-/
module

public import proofs.«01_k».proof.Proof.Gen.Kernel2Ideal.Value
public import proofs.«01_k».proof.Proof.Layer.OutSpec
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Out

open Idealize.ShloMosaic Idealize.ShloMosaic.TcCoe Cert.Kernel2Ideal Cert.Kernel2Ideal.Gen Cert.Kernel2Ideal.Value
open Cert.Layer

variable (m : (ℓ : Loc nD τ sig) → Buf (Elt Ideal) ℓ)

/-- The rows, -/
abbrev argX (c : Dev nD) : (⟨3, ![8, 2048, 1024]⟩ : Shape).Idx → EReal := m ((c : Thread nD τ).loc main_arg0)
/-- the three branches, -/
abbrev argY0 (c : Dev nD) : (⟨2, ![16384, 512]⟩ : Shape).Idx → EReal := m ((c : Thread nD τ).loc main_arg1)
/-- (the second) -/
abbrev argY1 (c : Dev nD) : (⟨2, ![16384, 512]⟩ : Shape).Idx → EReal := m ((c : Thread nD τ).loc main_arg2)
/-- (the third) -/
abbrev argY2 (c : Dev nD) : (⟨2, ![16384, 512]⟩ : Shape).Idx → EReal := m ((c : Thread nD τ).loc main_arg3)
/-- the projected rows, -/
abbrev argU (c : Dev nD) : (⟨2, ![16384, 8832]⟩ : Shape).Idx → EReal := m ((c : Thread nD τ).loc main_arg4)
/-- the modulation, -/
abbrev argM (c : Dev nD) : (⟨2, ![8, 6144]⟩ : Shape).Idx → EReal := m ((c : Thread nD τ).loc main_arg5)
/-- the gain after the mixers, -/
abbrev argG1 (c : Dev nD) : (⟨1, ![1024]⟩ : Shape).Idx → EReal := m ((c : Thread nD τ).loc main_arg6)
/-- before the feed-forward block -/
abbrev argG2 (c : Dev nD) : (⟨1, ![1024]⟩ : Shape).Idx → EReal := m ((c : Thread nD τ).loc main_arg7)
/-- and after it, -/
abbrev argG3 (c : Dev nD) : (⟨1, ![1024]⟩ : Shape).Idx → EReal := m ((c : Thread nD τ).loc main_arg8)
/-- the branches' weights, -/
abbrev argWb (c : Dev nD) : (⟨3, ![3, 512, 1024]⟩ : Shape).Idx → EReal := m ((c : Thread nD τ).loc main_arg9)
/-- the merge's weights -/
abbrev argWo (c : Dev nD) : (⟨2, ![1024, 1024]⟩ : Shape).Idx → EReal := m ((c : Thread nD τ).loc main_arg10)
/-- and the feed-forward block's, in -/
abbrev argWi (c : Dev nD) : (⟨2, ![1024, 5632]⟩ : Shape).Idx → EReal := m ((c : Thread nD τ).loc main_arg11)
/-- and out. -/
abbrev argWf (c : Dev nD) : (⟨2, ![2816, 1024]⟩ : Shape).Idx → EReal := m ((c : Thread nD τ).loc main_arg12)

/-- The windows' block indices at each point. -/
theorem idx : ∀ t : Fin cfg0.N, win0_0.index t = ![t.val / 8, t.val % 8, 0] ∧ win0_1.index t = ![t.val, 0]
    ∧ win0_2.index t = ![t.val, 0] ∧ win0_3.index t = ![t.val, 0] ∧ win0_4.index t = ![t.val, 4] ∧ win0_5.index t = ![t.val, 5]
    ∧ win0_6.index t = ![t.val, 6] ∧ win0_7.index t = ![t.val / 8, 0, 2] ∧ win0_8.index t = ![t.val / 8, 0, 3]
    ∧ win0_9.index t = ![t.val / 8, 0, 4] ∧ win0_10.index t = ![t.val / 8, 0, 5] ∧ win0_11.index t = ![0, 0]
    ∧ win0_12.index t = ![0, 0] ∧ win0_13.index t = ![0, 0] ∧ win0_14.index t = ![0, 0, 0] ∧ win0_15.index t = ![0, 0]
    ∧ win0_16.index t = ![0, 0] ∧ win0_17.index t = ![0, 0] ∧ win0_18.index t = ![t.val / 8, t.val % 8, 0] :=
  (by decide +kernel : ∀ t : Fin grid0.N, _)

/-- A grid point's number is below 64. -/
theorem lt_64 (t : Fin cfg0.N) : t.val < 64 := lt_of_lt_of_eq t.isLt N_0

/-- The sequence of a grid point -/
abbrev bOf (t : Fin cfg0.N) : Fin 8 := ⟨t.val / 8, by have := lt_64 t; omega⟩
/-- and the row of its block. -/
abbrev lOf (t : Fin cfg0.N) (r : Fin 256) : Fin 2048 := ⟨256 * (t.val % 8) + r.val, by omega⟩

variable (c : Dev nD) (t : Fin cfg0.N)

/-- The block of rows, -/
theorem blk0 (r : Fin 256) (d : Fin 1024) : iblk m c 0 t (ix3 0 r d) = argX m c (ix3 (bOf t) (lOf t r) d) := by
  have := lt_64 t
  blk_point [iblk, V, idx t]
/-- the branches, -/
theorem blk1 (r : Fin 256) (k : Fin 512) : iblk m c 1 t (ix2 r k) = argY0 m c (ix2 (flat (bOf t) (lOf t r)) k) := by
  have := lt_64 t
  blk_point [iblk, V, idx t]
theorem blk2 (r : Fin 256) (k : Fin 512) : iblk m c 2 t (ix2 r k) = argY1 m c (ix2 (flat (bOf t) (lOf t r)) k) := by
  have := lt_64 t
  blk_point [iblk, V, idx t]
theorem blk3 (r : Fin 256) (k : Fin 512) : iblk m c 3 t (ix2 r k) = argY2 m c (ix2 (flat (bOf t) (lOf t r)) k) := by
  have := lt_64 t
  blk_point [iblk, V, idx t]
/-- their gates, -/
theorem blk4 (r : Fin 256) (e : Fin 1024) : X0_4 m c t (ix2 r e) = argU m c (ix2 (flat (bOf t) (lOf t r)) (gcol 0 e)) := by
  have := lt_64 t
  unfold X0_4 Pipeline.Window.fill
  rw [dif_pos (moved0_4 t _)]
  show _ = argU m c (ix2 _ ⟨4096 + (0 * 1024 + e.val), _⟩)
  blk_point [iblk, V, idx t]
theorem blk5 (r : Fin 256) (e : Fin 1024) : X0_5 m c t (ix2 r e) = argU m c (ix2 (flat (bOf t) (lOf t r)) (gcol 1 e)) := by
  have := lt_64 t
  unfold X0_5 Pipeline.Window.fill
  rw [dif_pos (moved0_5 t _)]
  show _ = argU m c (ix2 _ ⟨4096 + (1 * 1024 + e.val), _⟩)
  blk_point [iblk, V, idx t]
theorem blk6 (r : Fin 256) (e : Fin 1024) : X0_6 m c t (ix2 r e) = argU m c (ix2 (flat (bOf t) (lOf t r)) (gcol 2 e)) := by
  have := lt_64 t
  unfold X0_6 Pipeline.Window.fill
  rw [dif_pos (moved0_6 t _)]
  show _ = argU m c (ix2 _ ⟨4096 + (2 * 1024 + e.val), _⟩)
  blk_point [iblk, V, idx t]

/-- The modulation: the first gate, -/
theorem blk7 (d : Fin 1024) : iblk m c 7 t (ix3 0 0 d) = argM m c (ix2 (bOf t) ⟨2048 + d.val, by omega⟩) := by
  have := lt_64 t
  have e : iblk m c 7 t (ix3 0 0 d) = V m c main_v0 (ix3 (bOf t) 0 ⟨2048 + d.val, by omega⟩) := by
    blk_ext [iblk, idx t]
  rw [e]
  simp only [V, hostOps0, List.flatten_cons, List.flatten_nil, List.append_nil, List.cons_append, List.nil_append]
  entry_read
  pointwise

/-- the shift, -/
theorem blk8 (d : Fin 1024) : iblk m c 8 t (ix3 0 0 d) = argM m c (ix2 (bOf t) ⟨3072 + d.val, by omega⟩) := by
  have := lt_64 t
  have e : iblk m c 8 t (ix3 0 0 d) = V m c main_v0 (ix3 (bOf t) 0 ⟨3072 + d.val, by omega⟩) := by
    blk_ext [iblk, idx t]
  rw [e]
  simp only [V, hostOps0, List.flatten_cons, List.flatten_nil, List.append_nil, List.cons_append, List.nil_append]
  entry_read
  pointwise

/-- the scale -/
theorem blk9 (d : Fin 1024) : iblk m c 9 t (ix3 0 0 d) = argM m c (ix2 (bOf t) ⟨4096 + d.val, by omega⟩) := by
  have := lt_64 t
  have e : iblk m c 9 t (ix3 0 0 d) = V m c main_v0 (ix3 (bOf t) 0 ⟨4096 + d.val, by omega⟩) := by
    blk_ext [iblk, idx t]
  rw [e]
  simp only [V, hostOps0, List.flatten_cons, List.flatten_nil, List.append_nil, List.cons_append, List.nil_append]
  entry_read
  pointwise

/-- and the second gate. -/
theorem blk10 (d : Fin 1024) : iblk m c 10 t (ix3 0 0 d) = argM m c (ix2 (bOf t) ⟨5120 + d.val, by omega⟩) := by
  have := lt_64 t
  have e : iblk m c 10 t (ix3 0 0 d) = V m c main_v0 (ix3 (bOf t) 0 ⟨5120 + d.val, by omega⟩) := by
    blk_ext [iblk, idx t]
  rw [e]
  simp only [V, hostOps0, List.flatten_cons, List.flatten_nil, List.append_nil, List.cons_append, List.nil_append]
  entry_read
  pointwise

/-- The gains: after the mixers, -/
theorem blk11 (d : Fin 1024) : iblk m c 11 t (ix2 0 d) = argG1 m c (ix1 d) := by
  have e : iblk m c 11 t (ix2 0 d) = V m c main_v5 (ix2 0 d) := by
    blk_ext [iblk, idx t]
  rw [e]
  simp only [V, hostOps0, List.flatten_cons, List.flatten_nil, List.append_nil, List.cons_append, List.nil_append]
  entry_read
  pointwise

/-- before the feed-forward block, -/
theorem blk12 (d : Fin 1024) : iblk m c 12 t (ix2 0 d) = argG2 m c (ix1 d) := by
  have e : iblk m c 12 t (ix2 0 d) = V m c main_v6 (ix2 0 d) := by
    blk_ext [iblk, idx t]
  rw [e]
  simp only [V, hostOps0, List.flatten_cons, List.flatten_nil, List.append_nil, List.cons_append, List.nil_append]
  entry_read
  pointwise

/-- after it. -/
theorem blk13 (d : Fin 1024) : iblk m c 13 t (ix2 0 d) = argG3 m c (ix1 d) := by
  have e : iblk m c 13 t (ix2 0 d) = V m c main_v7 (ix2 0 d) := by
    blk_ext [iblk, idx t]
  rw [e]
  simp only [V, hostOps0, List.flatten_cons, List.flatten_nil, List.append_nil, List.cons_append, List.nil_append]
  entry_read
  pointwise

/-- The weights: the branches', -/
theorem blk14 (n : Fin 3) (k : Fin 512) (e : Fin 1024) : (iblk m c 14 t (ix3 n k e) : EReal) = argWb m c (ix3 n k e) := by
  have e : iblk m c 14 t (ix3 n k e) = V m c main_v1 (ix3 n k e) := by
    blk_ext [iblk, idx t]
  rw [e]
  simp only [V, hostOps0, List.flatten_cons, List.flatten_nil, List.append_nil, List.cons_append, List.nil_append]
  entry_read
  pointwise

/-- the merge's, -/
theorem blk15 (e d : Fin 1024) : (iblk m c 15 t (ix2 e d) : EReal) = argWo m c (ix2 e d) := by
  have e : iblk m c 15 t (ix2 e d) = V m c main_v2 (ix2 e d) := by
    blk_ext [iblk, idx t]
  rw [e]
  simp only [V, hostOps0, List.flatten_cons, List.flatten_nil, List.append_nil, List.cons_append, List.nil_append]
  entry_read
  pointwise

/-- the feed-forward block's in -/
theorem blk16 (k : Fin 1024) (j : Fin 5632) : (iblk m c 16 t (ix2 k j) : EReal) = argWi m c (ix2 k j) := by
  have e : iblk m c 16 t (ix2 k j) = V m c main_v3 (ix2 k j) := by
    blk_ext [iblk, idx t]
  rw [e]
  simp only [V, hostOps0, List.flatten_cons, List.flatten_nil, List.append_nil, List.cons_append, List.nil_append]
  entry_read
  pointwise

/-- and out. -/
theorem blk17 (j : Fin 2816) (d : Fin 1024) : (iblk m c 17 t (ix2 j d) : EReal) = argWf m c (ix2 j d) := by
  have e : iblk m c 17 t (ix2 j d) = V m c main_v4 (ix2 j d) := by
    blk_ext [iblk, idx t]
  rw [e]
  simp only [V, hostOps0, List.flatten_cons, List.flatten_nil, List.append_nil, List.cons_append, List.nil_append]
  entry_read
  pointwise

/-- A branch's part of the weights' block, -/
theorem ldb (n : Fin 3) (off : Fin 3 → ℕ) (h : off = ![n.val, 0, 0]) (inb) (k : Fin 512) (e : Fin 1024) :
    (View.ld (iblk m c 14 t) (Rect.unit off ![1, 512, 1024] inb) (ix3 0 k e) : EReal) = argWb m c (ix3 n k e) := by
  subst h
  rw [← blk14 m c t n k e]
  pointwise
/-- columns of the feed-forward block's first weights -/
theorem ldi (o : ℕ) (off : Fin 2 → ℕ) (h : off = ![0, o]) (inb) (k : Fin 1024) (j : Fin 1408) (ho : o + j.val < 5632) :
    (View.ld (iblk m c 16 t) (Rect.unit off ![1024, 1408] inb) (ix2 k j) : EReal) = argWi m c (ix2 k ⟨o + j.val, ho⟩) := by
  subst h
  rw [← blk16 m c t k ⟨o + j.val, ho⟩]
  pointwise
/-- and rows of its second. -/
theorem ldf (o : ℕ) (off : Fin 2 → ℕ) (h : off = ![o, 0]) (inb) (j : Fin 1408) (d : Fin 1024) (ho : o + j.val < 2816) :
    (View.ld (iblk m c 17 t) (Rect.unit off ![1408, 1024] inb) (ix2 j d) : EReal) = argWf m c (ix2 ⟨o + j.val, ho⟩ d) := by
  subst h
  rw [← blk17 m c t ⟨o + j.val, ho⟩ d]
  pointwise

end Cert.Out
-- ==== Proof.Out.Body.lean ====
/-
  ONE GRID POINT OF THE OUTPUT STAGE: what the body leaves is the layer's output row at the point's rows.
-/
module

public import proofs.«01_k».proof.Proof.Gen.Kernel2Ideal.Value
public import proofs.«01_k».proof.Proof.Out.Payload
public import proofs.«01_k».proof.Proof.Out.Blocks
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Out

open Idealize.ShloMosaic Idealize.ShloMosaic.TcCoe Cert.Kernel2Ideal Cert.Kernel2Ideal.Gen Cert.Kernel2Ideal.Value
open Cert.Layer

variable (m : (ℓ : Loc nD τ sig) → Buf (Elt Ideal) ℓ)
variable (c : Dev nD) (t : Fin cfg0.N)

/-- The rows after the mixers, of the point's sequence, -/
abbrev x1At (r : Fin 256) : Row :=
  after1 (argX m c) (argY0 m c) (argY1 m c) (argY2 m c) (argU m c) (argM m c) (argG1 m c) (argWb m c) (argWo m c) (bOf t) (lOf t r)
/-- and those that the feed-forward block reads. -/
abbrev hAt (r : Fin 256) : Row :=
  before2 (argX m c) (argY0 m c) (argY1 m c) (argY2 m c) (argU m c) (argM m c) (argG1 m c) (argG2 m c) (argWb m c) (argWo m c)
    (bOf t) (lOf t r)

/-- The body's rows after the mixers. -/
def x1Blk : FVec Ideal S256x1024 .f32 :=
  k0_pay5
    (k0_pay2 (X0_4 m c t) (iblk m c 1 t)
      (View.ld (iblk m c 14 t) (Rect.unit ![0, 0, 0] ![1, 512, 1024] inb_S3x512x1024_S1x512x1024_0_0_0))
      (X0_5 m c t) (iblk m c 2 t)
      (View.ld (iblk m c 14 t) (Rect.unit ![1, 0, 0] ![1, 512, 1024] inb_S3x512x1024_S1x512x1024_1_0_0)))
    (k0_pay3 (X0_6 m c t)) k0_pay4 (iblk m c 3 t)
    (View.ld (iblk m c 14 t) (Rect.unit ![2, 0, 0] ![1, 512, 1024] inb_S3x512x1024_S1x512x1024_2_0_0))
    (iblk m c 15 t) (iblk m c 0 t) (iblk m c 11 t) (iblk m c 7 t)

theorem x1Blk_apply (r : Fin 256) (d : Fin 1024) : (x1Blk m c t (ix2 r d) : EReal) = x1At m c t r d := by
  unfold x1Blk
  rw [pay5_apply]
  simp only [pay2_apply, blk0, blk1, blk2, blk3, blk4, blk5, blk6, blk7, blk11, blk15]
  have w0 := ldb m c t 0 ![0, 0, 0] rfl inb_S3x512x1024_S1x512x1024_0_0_0
  have w1 := ldb m c t 1 ![1, 0, 0] rfl inb_S3x512x1024_S1x512x1024_1_0_0
  have w2 := ldb m c t 2 ![2, 0, 0] rfl inb_S3x512x1024_S1x512x1024_2_0_0
  simp only [w0, w1, w2]
  rfl

/-- The body's rows before the feed-forward block. -/
def hBlk : FVec Ideal S256x1024 .bf16 := k0_pay6 (x1Blk m c t) (iblk m c 12 t) (iblk m c 9 t) (iblk m c 8 t)

theorem hBlk_apply (r : Fin 256) (d : Fin 1024) : (hBlk m c t (ix2 r d) : EReal) = hAt m c t r d := by
  unfold hBlk
  rw [pay6_apply]
  simp only [x1Blk_apply, blk8, blk9, blk12]
  rfl

/-- The weights' columns that a hidden entry reads, both halves. -/
abbrev wiAt (k : Fin 1024) (j : Fin 5632) : EReal := argWi m c (ix2 k j)

/-- A first factor of the hidden entries, -/
theorem a_apply (r : Fin 256) (j : Fin 1408) :
    (k0_pay7 (x1Blk m c t) (iblk m c 12 t) (iblk m c 9 t) (iblk m c 8 t)
        (View.ld (iblk m c 16 t) (Rect.unit ![0, 0] ![1024, 1408] inb_S1024x5632_S1024x1408_0_0)) (ix2 r j) : EReal)
      = ∑ k, hAt m c t r k * wiAt m c k ⟨j.val, by omega⟩ := by
  rw [pay7_apply]
  refine Finset.sum_congr rfl fun k _ => ?_
  refine congrArg₂ (· * ·) (hBlk_apply m c t r k) ?_
  rw [ldi m c t 0 ![0, 0] rfl inb_S1024x5632_S1024x1408_0_0 k j (by omega)]
  exact congrArg (argWi m c) (congrArg (ix2 k) (Fin.ext (Nat.zero_add _)))

/-- and a last. -/
theorem b_apply (r : Fin 256) (j : Fin 1408) :
    (k0_pay8 (x1Blk m c t) (iblk m c 12 t) (iblk m c 9 t) (iblk m c 8 t)
        (View.ld (iblk m c 16 t) (Rect.unit ![0, 2816] ![1024, 1408] inb_S1024x5632_S1024x1408_0_2816)) (ix2 r j) : EReal)
      = ∑ k, hAt m c t r k * wiAt m c k ⟨2816 + j.val, by omega⟩ := by
  rw [pay8_apply]
  refine Finset.sum_congr rfl fun k _ => ?_
  refine congrArg₂ (· * ·) (hBlk_apply m c t r k) ?_
  exact ldi m c t 2816 ![0, 2816] rfl inb_S1024x5632_S1024x1408_0_2816 k j (by omega)

/-- The second half's columns. -/
theorem half_apply (o : ℕ) (inb) (r : Fin 256) (j : Fin 1408) (ho : o + j.val < 5632) :
    (∑ k : Fin 1024, (hBlk m c t (ix2 r k) : EReal) * View.ld (iblk m c 16 t) (Rect.unit ![0, o] ![1024, 1408] inb) (ix2 k j))
      = ∑ k, hAt m c t r k * wiAt m c k ⟨o + j.val, ho⟩ := by
  refine Finset.sum_congr rfl fun k _ => ?_
  exact congrArg₂ (· * ·) (hBlk_apply m c t r k) (ldi m c t o ![0, o] rfl inb k j ho)

/-- The feed-forward block's rows, before their norm. -/
theorem ffn_apply (r : Fin 256) (d : Fin 1024) :
    (∑ j : Fin 1408, (k0_pay7 (x1Blk m c t) (iblk m c 12 t) (iblk m c 9 t) (iblk m c 8 t)
          (View.ld (iblk m c 16 t) (Rect.unit ![0, 0] ![1024, 1408] inb_S1024x5632_S1024x1408_0_0)) (ix2 r j)
        * k0_pay9 (x1Blk m c t) (iblk m c 12 t) (iblk m c 9 t) (iblk m c 8 t)
          (View.ld (iblk m c 16 t) (Rect.unit ![0, 0] ![1024, 1408] inb_S1024x5632_S1024x1408_0_0)) (ix2 r j)
        * k0_pay8 (x1Blk m c t) (iblk m c 12 t) (iblk m c 9 t) (iblk m c 8 t)
          (View.ld (iblk m c 16 t) (Rect.unit ![0, 2816] ![1024, 1408] inb_S1024x5632_S1024x1408_0_2816)) (ix2 r j) : EReal)
        * View.ld (iblk m c 17 t) (Rect.unit ![0, 0] ![1408, 1024] inb_S2816x1024_S1408x1024_0_0) (ix2 j d))
      + (∑ j : Fin 1408, ((∑ k : Fin 1024, (hBlk m c t (ix2 r k) : EReal)
              * View.ld (iblk m c 16 t) (Rect.unit ![0, 1408] ![1024, 1408] inb_S1024x5632_S1024x1408_0_1408) (ix2 k j))
          * gate (∑ k : Fin 1024, (hBlk m c t (ix2 r k) : EReal)
              * View.ld (iblk m c 16 t) (Rect.unit ![0, 1408] ![1024, 1408] inb_S1024x5632_S1024x1408_0_1408) (ix2 k j))
          * ∑ k : Fin 1024, (hBlk m c t (ix2 r k) : EReal)
              * View.ld (iblk m c 16 t) (Rect.unit ![0, 4224] ![1024, 1408] inb_S1024x5632_S1024x1408_0_4224) (ix2 k j))
          * View.ld (iblk m c 17 t) (Rect.unit ![1408, 0] ![1408, 1024] inb_S2816x1024_S1408x1024_1408_0) (ix2 j d))
      = ffn (hAt m c t r) (wiAt m c) (fun j d => argWf m c (ix2 j d)) d := by
  rw [ffn_halves]
  refine congrArg₂ (· + ·) ?_ ?_
  · refine Finset.sum_congr rfl fun j _ => ?_
    rw [pay9_apply, a_apply, b_apply, ldf m c t 0 ![0, 0] rfl inb_S2816x1024_S1408x1024_0_0 j d (by omega)]
    refine congrArg₂ (· * ·) rfl (congrArg (argWf m c) (congrArg (fun x => ix2 x d) (Fin.ext (Nat.zero_add _))))
  · refine Finset.sum_congr rfl fun j _ => ?_
    rw [half_apply m c t 1408 _ r j (by omega), half_apply m c t 4224 _ r j (by omega),
      ldf m c t 1408 ![1408, 0] rfl inb_S2816x1024_S1408x1024_1408_0 j d (by omega)]
    have e : (⟨4224 + j.val, by omega⟩ : Fin 5632) = ⟨2816 + (1408 + j.val), by omega⟩ := Fin.ext (by show 4224 + j.val = 2816 + (1408 + j.val); omega)
    rw [e]
    rfl

/-- The body's normed feed-forward rows. -/
def fBlk : FVec Ideal S256x1024 .f32 :=
  k0_pay10 (hBlk m c t)
    (k0_pay7 (x1Blk m c t) (iblk m c 12 t) (iblk m c 9 t) (iblk m c 8 t)
      (View.ld (iblk m c 16 t) (Rect.unit ![0, 0] ![1024, 1408] inb_S1024x5632_S1024x1408_0_0)))
    (k0_pay8 (x1Blk m c t) (iblk m c 12 t) (iblk m c 9 t) (iblk m c 8 t)
      (View.ld (iblk m c 16 t) (Rect.unit ![0, 2816] ![1024, 1408] inb_S1024x5632_S1024x1408_0_2816)))
    (k0_pay9 (x1Blk m c t) (iblk m c 12 t) (iblk m c 9 t) (iblk m c 8 t)
      (View.ld (iblk m c 16 t) (Rect.unit ![0, 0] ![1024, 1408] inb_S1024x5632_S1024x1408_0_0)))
    (View.ld (iblk m c 17 t) (Rect.unit ![0, 0] ![1408, 1024] inb_S2816x1024_S1408x1024_0_0))
    (View.ld (iblk m c 16 t) (Rect.unit ![0, 1408] ![1024, 1408] inb_S1024x5632_S1024x1408_0_1408))
    (View.ld (iblk m c 16 t) (Rect.unit ![0, 4224] ![1024, 1408] inb_S1024x5632_S1024x1408_0_4224))
    (View.ld (iblk m c 17 t) (Rect.unit ![1408, 0] ![1408, 1024] inb_S2816x1024_S1408x1024_1408_0)) (iblk m c 13 t)

theorem fBlk_apply (r : Fin 256) (d : Fin 1024) :
    (fBlk m c t (ix2 r d) : EReal)
      = rms (ffn (hAt m c t r) (wiAt m c) (fun j d => argWf m c (ix2 j d))) (fun d => argG3 m c (ix1 d)) d := by
  unfold fBlk
  rw [pay10_apply]
  simp only [ffn_apply, blk13]

/-- What the body leaves is the result at the point's rows. -/
theorem body_eq (r : Fin 256) (d : Fin 1024) :
    (outsAt0 m c t (ix3 0 r d) : EReal)
      = outAll (argX m c) (argY0 m c) (argY1 m c) (argY2 m c) (argU m c) (argM m c) (argG1 m c) (argG2 m c) (argG3 m c)
          (argWb m c) (argWo m c) (argWi m c) (argWf m c) (ix3 (bOf t) (lOf t r) d) := by
  unfold outsAt0 out0_A_18
  frame_open
  simp (disch := decide) only [↓ View.readCov_skip, ↓ View.readCov_cons_toLoadRect, ↓ View.readCov_fill]
  frame_out
  show (k0_pay1 (x1Blk m c t) (fBlk m c t) (iblk m c 10 t) (ix3 0 r d) : EReal) = _
  rw [pay1_apply, x1Blk_apply, fBlk_apply, blk10]
  rfl

end Cert.Out
-- ==== Proof.Out.Kernel.lean ====
/-
  THE KERNEL'S OUTPUT STAGE: its points' blocks cover the array, so the whole array is the layer's output.
-/
module

public import proofs.«01_k».proof.Proof.Gen.Kernel2Ideal.Value
public import proofs.«01_k».proof.Proof.Out.Body
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Out

open Idealize.ShloMosaic Idealize.ShloMosaic.TcCoe Cert.Kernel2Ideal Cert.Kernel2Ideal.Gen Cert.Kernel2Ideal.Value
open Cert.Layer

variable (m : (ℓ : Loc nD τ sig) → Buf (Elt Ideal) ℓ)

/-- The block of the whole result at a grid point. -/
theorem body_point (c : Dev nD) (t : Fin cfg0.N) (r : Fin 256) (d : Fin 1024) (i : S8x2048x1024.Idx)
    (h0 : (i 0).val = t.val / 8) (h1 : (i 1).val = 256 * (t.val % 8) + r.val) (h2 : (i 2).val = d.val) :
    (outsAt0 m c t (ix3 0 r d) : EReal)
      = outAll (argX m c) (argY0 m c) (argY1 m c) (argY2 m c) (argU m c) (argM m c) (argG1 m c) (argG2 m c) (argG3 m c)
          (argWb m c) (argWo m c) (argWi m c) (argWf m c) i := by
  have e : i = ix3 (bOf t) (lOf t r) d := by
    rw [eq_ix3 i]
    exact congr (congr (congrArg ix3 (Fin.ext h0)) (Fin.ext h1)) (Fin.ext h2)
  rw [e]
  exact body_eq m c t r d

/-- The kernel's result array. -/
theorem kernel_out (c : Dev nD) :
    (dats m 0 c).arrAt 18 (cfgs 0).N
      = (outAll (argX m c) (argY0 m c) (argY1 m c) (argY2 m c) (argU m c) (argM m c) (argG1 m c) (argG2 m c) (argG3 m c)
          (argWb m c) (argWo m c) (argWi m c) (argWf m c) : S8x2048x1024.Idx → EReal) := by
  refine (dats m 0 c).arrAt_eq_of_covers 18 _ (by decide +kernel) fun t hf y => ?_
  have ht := lt_64 t
  have e0 : win0_18.index t 0 = t.val / 8 := by rw [(idx t).2.2.2.2.2.2.2.2.2.2.2.2.2.2.2.2.2.2]; rfl
  have e1 : win0_18.index t 1 = t.val % 8 := by rw [(idx t).2.2.2.2.2.2.2.2.2.2.2.2.2.2.2.2.2.2]; rfl
  have e2 : win0_18.index t 2 = 0 := by rw [(idx t).2.2.2.2.2.2.2.2.2.2.2.2.2.2.2.2.2.2]; rfl
  have h0 : ∀ y : S1x256x1024.Idx, ((((win0 18).blk t).view.emb y : S8x2048x1024.Idx) 0).val = t.val / 8 := fun y => by
    have : (y 0).val < 1 := (y 0).isLt
    blk_simp
    rw [e0]
  have h1 : ∀ y : S1x256x1024.Idx, ((((win0 18).blk t).view.emb y : S8x2048x1024.Idx) 1).val = 256 * (t.val % 8) + (y 1).val := fun y => by
    blk_simp
    rw [e1]; omega
  have h2 : ∀ y : S1x256x1024.Idx, ((((win0 18).blk t).view.emb y : S8x2048x1024.Idx) 2).val = (y 2).val := fun y => by
    blk_simp
    rw [e2]; omega
  rw [after0_18]
  idx_vars y
  obtain rfl : y0 = 0 := Subsingleton.elim _ _
  have key := body_point m c t y1 y2 _ (h0 (ix3 0 y1 y2)) (h1 (ix3 0 y1 y2)) (h2 (ix3 0 y1 y2))
  generalize outsAt0 m c t = A at key ⊢
  generalize outAll (argX m c) (argY0 m c) (argY1 m c) (argY2 m c) (argU m c) (argM m c) (argG1 m c) (argG2 m c) (argG3 m c)
    (argWb m c) (argWo m c) (argWi m c) (argWf m c) = G at key ⊢
  exact key

end Cert.Out
-- ==== Proof.Out.Ref.lean ====
/-
  THE REFERENCE'S OUTPUT STAGE at an index: each named value of the reference is the row operation of Layer/OutSpec.lean.
-/
module

public import proofs.«01_k».proof.Proof.Gen.Reference2Ideal.Run
public import proofs.«01_k».proof.Proof.Layer.OutSpec

@[expose] public section

set_option maxRecDepth 16384

noncomputable section

namespace Cert.Out.Ref

open Idealize.ShloMosaic Idealize.ShloMosaic.TcCoe Idealize.ShloMosaic.StableHlo
open Cert.Reference2Ideal Cert.Reference2Ideal.Gen Cert.Reference2Ideal.Value Cert.Layer

variable (V0 : Valuation τ sig (Elt Ideal))

/-- The rows, -/
abbrev inX : (⟨3, ![8, 2048, 1024]⟩ : Shape).Idx → EReal := V0 (Proc.devRef .tc main_arg0)
/-- the three branches, -/
abbrev inY0 : (⟨2, ![16384, 512]⟩ : Shape).Idx → EReal := V0 (Proc.devRef .tc main_arg1)
/-- (the second) -/
abbrev inY1 : (⟨2, ![16384, 512]⟩ : Shape).Idx → EReal := V0 (Proc.devRef .tc main_arg2)
/-- (the third) -/
abbrev inY2 : (⟨2, ![16384, 512]⟩ : Shape).Idx → EReal := V0 (Proc.devRef .tc main_arg3)
/-- the projected rows, -/
abbrev inU : (⟨2, ![16384, 8832]⟩ : Shape).Idx → EReal := V0 (Proc.devRef .tc main_arg4)
/-- the modulation, -/
abbrev inM : (⟨2, ![8, 6144]⟩ : Shape).Idx → EReal := V0 (Proc.devRef .tc main_arg5)
/-- the gain after the mixers, -/
abbrev inG1 : (⟨1, ![1024]⟩ : Shape).Idx → EReal := V0 (Proc.devRef .tc main_arg6)
/-- before the feed-forward block -/
abbrev inG2 : (⟨1, ![1024]⟩ : Shape).Idx → EReal := V0 (Proc.devRef .tc main_arg7)
/-- and after it, -/
abbrev inG3 : (⟨1, ![1024]⟩ : Shape).Idx → EReal := V0 (Proc.devRef .tc main_arg8)
/-- the branches' weights, -/
abbrev inWb : (⟨3, ![3, 512, 1024]⟩ : Shape).Idx → EReal := V0 (Proc.devRef .tc main_arg9)
/-- the merge's weights -/
abbrev inWo : (⟨2, ![1024, 1024]⟩ : Shape).Idx → EReal := V0 (Proc.devRef .tc main_arg10)
/-- and the feed-forward block's, in -/
abbrev inWi : (⟨2, ![1024, 5632]⟩ : Shape).Idx → EReal := V0 (Proc.devRef .tc main_arg11)
/-- and out. -/
abbrev inWf : (⟨2, ![2816, 1024]⟩ : Shape).Idx → EReal := V0 (Proc.devRef .tc main_arg12)

/-- The merged rows, projected. -/
theorem v27_apply (b : Fin 8) (l : Fin 2048) (d : Fin 1024) :
    (res_main_v27 V0 (ix3 b l d) : EReal) = mixed (inY0 V0) (inY1 V0) (inY2 V0) (inU V0) (inWb V0) (inWo V0) b l d := by
  unfold res_main_v27
  pointwise
  simp only [Fin.sum_univ_three]
  rfl

/-- The rows after the mixers. -/
theorem v43_apply (b : Fin 8) (l : Fin 2048) (d : Fin 1024) :
    (res_main_v43 V0 (ix3 b l d) : EReal)
      = after1 (inX V0) (inY0 V0) (inY1 V0) (inY2 V0) (inU V0) (inM V0) (inG1 V0) (inWb V0) (inWo V0) b l d := by
  have h := v27_apply V0 b l
  unfold res_main_v43 res_main_v0
  generalize res_main_v27 V0 = A at h ⊢
  pointwise
  simp only [h]
  rw [mul_comm]
  rfl

/-- The rows that the feed-forward block reads, through its first weights. -/
theorem v63_apply (b : Fin 8) (l : Fin 2048) (j : Fin 5632) :
    (res_main_v63 V0 (ix3 b l j) : EReal)
      = ∑ k, before2 (inX V0) (inY0 V0) (inY1 V0) (inY2 V0) (inU V0) (inM V0) (inG1 V0) (inG2 V0) (inWb V0) (inWo V0) b l k
          * inWi V0 (ix2 k j) := by
  have h := v43_apply V0 b l
  unfold res_main_v63 res_main_v0
  generalize res_main_v43 V0 = A at h ⊢
  pointwise
  simp only [h]
  rfl

/-- The feed-forward block's rows. -/
theorem v68_apply (b : Fin 8) (l : Fin 2048) (d : Fin 1024) :
    (res_main_v68 V0 (ix3 b l d) : EReal)
      = ffn (before2 (inX V0) (inY0 V0) (inY1 V0) (inY2 V0) (inU V0) (inM V0) (inG1 V0) (inG2 V0) (inWb V0) (inWo V0) b l)
          (fun k j => inWi V0 (ix2 k j)) (fun j d => inWf V0 (ix2 j d)) d := by
  have h := v63_apply V0 b l
  unfold res_main_v68 res_main_v64
  generalize res_main_v63 V0 = A at h ⊢
  pointwise
  simp only [h]
  rfl

/-- The reference's result, from the contents at its start. -/
def result : Vec Ideal S8x2048x1024 .f32 :=
  addf (res_main_v43 V0) (mulf (broadcastInDim S8x2048x1024 ![0, 1, 2] bcast_S8x1x1024_S8x2048x1024_0_1_2 (extractStridedSlice S8x1x1024 ![0, 0, 5120] (res_main_v0 V0) slices_S8x1x6144_S8x1x1024_0_0_5120)) (mulf (mulf (res_main_v68 V0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v68 V0) (res_main_v68 V0)) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (V0 (Proc.devRef .tc main_arg8))))))

/-- It is the rows after the feed-forward block. -/
theorem result_apply (b : Fin 8) (l : Fin 2048) (d : Fin 1024) :
    (result V0 (ix3 b l d) : EReal)
      = after2 (inX V0) (inY0 V0) (inY1 V0) (inY2 V0) (inU V0) (inM V0) (inG1 V0) (inG2 V0) (inG3 V0) (inWb V0) (inWo V0) (inWi V0) (inWf V0)
          b l d := by
  have h := v43_apply V0 b l
  have h' := v68_apply V0 b l
  unfold result res_main_v0
  generalize res_main_v43 V0 = A at h ⊢
  generalize res_main_v68 V0 = B at h' ⊢
  pointwise
  simp only [h, h']
  rw [mul_comm (inM V0 _)]
  rfl

/-- The whole result. -/
theorem result_eq : result V0 = outAll (inX V0) (inY0 V0) (inY1 V0) (inY2 V0) (inU V0) (inM V0) (inG1 V0) (inG2 V0) (inG3 V0) (inWb V0) (inWo V0) (inWi V0) (inWf V0) := by
  funext y
  idx_vars y
  exact result_apply V0 y0 y1 y2

end Cert.Out.Ref
-- ==== Proof.Proj.Weights.lean ====
/-
  THE WEIGHTS' COLUMNS AS THE KERNEL'S PROGRAM PLACES THEM before its call: the pieces of the input projection joined in
  the order that the kernels read, over zero columns, read at an index.
-/
module

public import proofs.«01_k».proof.Proof.Gen.Kernel3Ideal.Frame
public import proofs.«01_k».proof.Proof.Layer.Spec
public import Idealize.ShloMosaic.Lib.StableHlo.ReadAt

@[expose] public section

set_option maxRecDepth 16384

noncomputable section

namespace Cert.Proj

open Idealize.ShloMosaic Idealize.ShloMosaic.TcCoe Cert.Kernel3Ideal Cert.Kernel3Ideal.Gen Cert.Layer

/-- The pieces joined along the columns. -/
def joined (u0 : Vec Ideal S1x1024x512 .f32) (u1 : Vec Ideal S1x1024x512 .f32) (u2 : Vec Ideal S1x1024x512 .f32) (u3 : Vec Ideal S1x1024x512 .f32) (u4 : Vec Ideal S1x1024x1536 .f32) (u5 : Vec Ideal S1x1024x512 .f32) (u6 : Vec Ideal S1x1024x3072 .f32) (u7 : Vec Ideal S1x1024x1024 .f32) (u8 : Vec Ideal S1x1024x512 .f32) (u9 : Vec Ideal S1x1024x16 .f32) (u10 : Vec Ideal S1x1024x8 .f32) (u11 : Vec Ideal S1x1024x4 .f32) (u12 : Vec Ideal S1x1024x4 .f32) (u13 : Vec Ideal S1x1024x96 .f32) :
    Vec Ideal S1x1024x8832 .f32 :=
  (concatenate S1x1024x8832 2 [⟨S1x1024x512, (u0 : (⟨S1x1024x512, .f32⟩ : BufTy).Contents (Elt Ideal))⟩, ⟨S1x1024x512, (u1 : (⟨S1x1024x512, .f32⟩ : BufTy).Contents (Elt Ideal))⟩, ⟨S1x1024x512, (u2 : (⟨S1x1024x512, .f32⟩ : BufTy).Contents (Elt Ideal))⟩, ⟨S1x1024x512, (u3 : (⟨S1x1024x512, .f32⟩ : BufTy).Contents (Elt Ideal))⟩, ⟨S1x1024x1536, (u4 : (⟨S1x1024x1536, .f32⟩ : BufTy).Contents (Elt Ideal))⟩, ⟨S1x1024x512, (u5 : (⟨S1x1024x512, .f32⟩ : BufTy).Contents (Elt Ideal))⟩, ⟨S1x1024x3072, (u6 : (⟨S1x1024x3072, .f32⟩ : BufTy).Contents (Elt Ideal))⟩, ⟨S1x1024x1024, (u7 : (⟨S1x1024x1024, .f32⟩ : BufTy).Contents (Elt Ideal))⟩, ⟨S1x1024x512, (u8 : (⟨S1x1024x512, .f32⟩ : BufTy).Contents (Elt Ideal))⟩, ⟨S1x1024x16, (u9 : (⟨S1x1024x16, .f32⟩ : BufTy).Contents (Elt Ideal))⟩, ⟨S1x1024x8, (u10 : (⟨S1x1024x8, .f32⟩ : BufTy).Contents (Elt Ideal))⟩, ⟨S1x1024x4, (u11 : (⟨S1x1024x4, .f32⟩ : BufTy).Contents (Elt Ideal))⟩, ⟨S1x1024x4, (u12 : (⟨S1x1024x4, .f32⟩ : BufTy).Contents (Elt Ideal))⟩, ⟨S1x1024x96, (u13 : (⟨S1x1024x96, .f32⟩ : BufTy).Contents (Elt Ideal))⟩] concatenates_S1x1024x512_S1x1024x512_S1x1024x512_S1x1024x512_S1x1024x1536_S1x1024x512_S1x1024x3072_S1x1024x1024_S1x1024x512_S1x1024x16_S1x1024x8_S1x1024x4_S1x1024x4_S1x1024x96_S1x1024x8832_d2 : (⟨S1x1024x8832, .f32⟩ : BufTy).Contents (Elt Ideal))

/-- The columns of `A` as the program joins them. -/
def joinedOf (A : Vec Ideal S1x1024x8736 .f32) : Vec Ideal S1x1024x8832 .f32 :=
  joined (extractStridedSlice S1x1024x512 ![0, 0, 0] A slices_S1x1024x8736_S1x1024x512_0_0_0)
    (extractStridedSlice S1x1024x512 ![0, 0, 512] A slices_S1x1024x8736_S1x1024x512_0_0_512)
    (extractStridedSlice S1x1024x512 ![0, 0, 1024] A slices_S1x1024x8736_S1x1024x512_0_0_1024)
    (extractStridedSlice S1x1024x512 ![0, 0, 1536] A slices_S1x1024x8736_S1x1024x512_0_0_1536)
    (extractStridedSlice S1x1024x1536 ![0, 0, 3608] A slices_S1x1024x8736_S1x1024x1536_0_0_3608)
    (extractStridedSlice S1x1024x512 ![0, 0, 5152] A slices_S1x1024x8736_S1x1024x512_0_0_5152)
    (extractStridedSlice S1x1024x3072 ![0, 0, 5664] A slices_S1x1024x8736_S1x1024x3072_0_0_5664)
    (extractStridedSlice S1x1024x1024 ![0, 0, 2576] A slices_S1x1024x8736_S1x1024x1024_0_0_2576)
    (extractStridedSlice S1x1024x512 ![0, 0, 2064] A slices_S1x1024x8736_S1x1024x512_0_0_2064)
    (extractStridedSlice S1x1024x16 ![0, 0, 2048] A slices_S1x1024x8736_S1x1024x16_0_0_2048)
    (extractStridedSlice S1x1024x8 ![0, 0, 3600] A slices_S1x1024x8736_S1x1024x8_0_0_3600)
    (extractStridedSlice S1x1024x4 ![0, 0, 5144] A slices_S1x1024x8736_S1x1024x4_0_0_5144)
    (extractStridedSlice S1x1024x4 ![0, 0, 5148] A slices_S1x1024x8736_S1x1024x4_0_0_5148)
    (broadcastInDim S1x1024x96 ![] bcast_S_S1x1024x96 (constant (F := Ideal) S_ .f32 0x00000000#32))

/-- The joined columns at an index. -/
theorem joinedOf_apply (A : Vec Ideal S1x1024x8736 .f32) (k : Fin 1024) (n : Fin 8832) :
    (joinedOf A (ix3 0 k n) : EReal) = place (fun j => A (ix3 0 k j)) n := by
  unfold joinedOf joined
  pointwise
  simp only [Nat.sub_sub, Nat.reduceAdd]
  rfl

/-- The operations before the call, the join named. -/
abbrev hostOpsNamed : List (HloOp τ sig (Elt Ideal)) :=
  [ StableHlo.unary main_arg3 main_v0 ((extractStridedSlice S1x1024x512 ![0, 0, 0] · slices_S1x1024x8736_S1x1024x512_0_0_0) : (⟨S1x1024x8736, .f32⟩ : BufTy).Contents (Elt Ideal) → (⟨S1x1024x512, .f32⟩ : BufTy).Contents (Elt Ideal)),
    StableHlo.unary main_arg3 main_v1 ((extractStridedSlice S1x1024x512 ![0, 0, 512] · slices_S1x1024x8736_S1x1024x512_0_0_512) : (⟨S1x1024x8736, .f32⟩ : BufTy).Contents (Elt Ideal) → (⟨S1x1024x512, .f32⟩ : BufTy).Contents (Elt Ideal)),
    StableHlo.unary main_arg3 main_v2 ((extractStridedSlice S1x1024x512 ![0, 0, 1024] · slices_S1x1024x8736_S1x1024x512_0_0_1024) : (⟨S1x1024x8736, .f32⟩ : BufTy).Contents (Elt Ideal) → (⟨S1x1024x512, .f32⟩ : BufTy).Contents (Elt Ideal)),
    StableHlo.unary main_arg3 main_v3 ((extractStridedSlice S1x1024x512 ![0, 0, 1536] · slices_S1x1024x8736_S1x1024x512_0_0_1536) : (⟨S1x1024x8736, .f32⟩ : BufTy).Contents (Elt Ideal) → (⟨S1x1024x512, .f32⟩ : BufTy).Contents (Elt Ideal)),
    StableHlo.unary main_arg3 main_v4 ((extractStridedSlice S1x1024x1536 ![0, 0, 3608] · slices_S1x1024x8736_S1x1024x1536_0_0_3608) : (⟨S1x1024x8736, .f32⟩ : BufTy).Contents (Elt Ideal) → (⟨S1x1024x1536, .f32⟩ : BufTy).Contents (Elt Ideal)),
    StableHlo.unary main_arg3 main_v5 ((extractStridedSlice S1x1024x512 ![0, 0, 5152] · slices_S1x1024x8736_S1x1024x512_0_0_5152) : (⟨S1x1024x8736, .f32⟩ : BufTy).Contents (Elt Ideal) → (⟨S1x1024x512, .f32⟩ : BufTy).Contents (Elt Ideal)),
    StableHlo.unary main_arg3 main_v6 ((extractStridedSlice S1x1024x3072 ![0, 0, 5664] · slices_S1x1024x8736_S1x1024x3072_0_0_5664) : (⟨S1x1024x8736, .f32⟩ : BufTy).Contents (Elt Ideal) → (⟨S1x1024x3072, .f32⟩ : BufTy).Contents (Elt Ideal)),
    StableHlo.unary main_arg3 main_v7 ((extractStridedSlice S1x1024x1024 ![0, 0, 2576] · slices_S1x1024x8736_S1x1024x1024_0_0_2576) : (⟨S1x1024x8736, .f32⟩ : BufTy).Contents (Elt Ideal) → (⟨S1x1024x1024, .f32⟩ : BufTy).Contents (Elt Ideal)),
    StableHlo.unary main_arg3 main_v8 ((extractStridedSlice S1x1024x512 ![0, 0, 2064] · slices_S1x1024x8736_S1x1024x512_0_0_2064) : (⟨S1x1024x8736, .f32⟩ : BufTy).Contents (Elt Ideal) → (⟨S1x1024x512, .f32⟩ : BufTy).Contents (Elt Ideal)),
    StableHlo.unary main_arg3 main_v9 ((extractStridedSlice S1x1024x16 ![0, 0, 2048] · slices_S1x1024x8736_S1x1024x16_0_0_2048) : (⟨S1x1024x8736, .f32⟩ : BufTy).Contents (Elt Ideal) → (⟨S1x1024x16, .f32⟩ : BufTy).Contents (Elt Ideal)),
    StableHlo.unary main_arg3 main_v10 ((extractStridedSlice S1x1024x8 ![0, 0, 3600] · slices_S1x1024x8736_S1x1024x8_0_0_3600) : (⟨S1x1024x8736, .f32⟩ : BufTy).Contents (Elt Ideal) → (⟨S1x1024x8, .f32⟩ : BufTy).Contents (Elt Ideal)),
    StableHlo.unary main_arg3 main_v11 ((extractStridedSlice S1x1024x4 ![0, 0, 5144] · slices_S1x1024x8736_S1x1024x4_0_0_5144) : (⟨S1x1024x8736, .f32⟩ : BufTy).Contents (Elt Ideal) → (⟨S1x1024x4, .f32⟩ : BufTy).Contents (Elt Ideal)),
    StableHlo.unary main_arg3 main_v12 ((extractStridedSlice S1x1024x4 ![0, 0, 5148] · slices_S1x1024x8736_S1x1024x4_0_0_5148) : (⟨S1x1024x8736, .f32⟩ : BufTy).Contents (Elt Ideal) → (⟨S1x1024x4, .f32⟩ : BufTy).Contents (Elt Ideal)),
    StableHlo.nullary main_cst (constant (F := Ideal) S_ .f32 0x00000000#32),
    StableHlo.unary main_cst main_v13 (broadcastInDim S1x1024x96 ![] bcast_S_S1x1024x96 : (⟨S_, .f32⟩ : BufTy).Contents (Elt Ideal) → (⟨S1x1024x96, .f32⟩ : BufTy).Contents (Elt Ideal)),
    StableHlo.nary ![main_v0, main_v1, main_v2, main_v3, main_v4, main_v5, main_v6, main_v7, main_v8, main_v9, main_v10, main_v11, main_v12, main_v13] main_v14 (fun u => joined (u 0) (u 1) (u 2) (u 3) (u 4) (u 5) (u 6) (u 7) (u 8) (u 9) (u 10) (u 11) (u 12) (u 13)),
    StableHlo.unary main_v14 main_v15 ((truncf (F := Ideal) .bf16 · bitsLt_bf16_f32) : (⟨S1x1024x8832, .f32⟩ : BufTy).Contents (Elt Ideal) → (⟨S1x1024x8832, .bf16⟩ : BufTy).Contents (Elt Ideal)),
    StableHlo.unary main_arg1 main_v16 (broadcastInDim S8x1x6144 ![0, 2] bcast_S8x6144_S8x1x6144_0_2 : (⟨S8x6144, .f32⟩ : BufTy).Contents (Elt Ideal) → (⟨S8x1x6144, .f32⟩ : BufTy).Contents (Elt Ideal)),
    StableHlo.reshape main_v15 main_v17 (rfl : (.bf16 : EltTy) = .bf16) shapeCasts_S1x1024x8832_S1024x8832,
    StableHlo.reshape main_arg2 main_v18 (rfl : (.f32 : EltTy) = .f32) shapeCasts_S1024_S1x1x1024 ]

/-- The weights as the call finds them. -/
theorem entry_weights (m : (ℓ : Loc nD τ sig) → Buf (Elt Ideal) ℓ) (c : Dev nD) (k : Fin 1024) (n : Fin 8832) :
    (V m c main_v17 (ix2 k n) : EReal) = place (fun j => (m ((c : Thread nD τ).loc main_arg3) : Vec Ideal S1x1024x8736 .f32) (ix3 0 k j)) n := by
  have e : V m c main_v17 = (shapeCast S1024x8832 (truncf (F := Ideal) .bf16 (joinedOf (m ((c : Thread nD τ).loc main_arg3))) bitsLt_bf16_f32)
      shapeCasts_S1x1024x8832_S1024x8832 : Vec Ideal S1024x8832 .bf16) := by
    show StableHlo.after hostOpsNamed (fun b => m (c, b)) (Proc.devRef .tc main_v17) = _
    after_reads_simp
    rfl
  rw [e, ← joinedOf_apply]
  generalize joinedOf _ = B
  pointwise

end Cert.Proj
-- ==== Proof.Proj.Kernel.lean ====
/-
  THE KERNEL'S INPUT PROJECTION: each grid point's block of the result, and so the whole array, is the modulated norm of
  the rows against the placed columns of the weights.
-/
module

public import proofs.«01_k».proof.Proof.Gen.Kernel3Ideal.Value
public import proofs.«01_k».proof.Proof.Proj.Weights
public import Idealize.ShloMosaic.Lib.Pipeline.ValueKit

@[expose] public section

set_option maxRecDepth 16384

noncomputable section

namespace Cert.Proj

open Idealize.ShloMosaic Idealize.ShloMosaic.TcCoe Cert.Kernel3Ideal Cert.Kernel3Ideal.Gen Cert.Kernel3Ideal.Value
open Cert.Layer

variable (m : (ℓ : Loc nD τ sig) → Buf (Elt Ideal) ℓ)

/-- The rows, -/
abbrev argX (c : Dev nD) : (⟨3, ![8, 2048, 1024]⟩ : Shape).Idx → EReal := m ((c : Thread nD τ).loc main_arg0)
/-- the modulation, -/
abbrev argM (c : Dev nD) : (⟨2, ![8, 6144]⟩ : Shape).Idx → EReal := m ((c : Thread nD τ).loc main_arg1)
/-- the norm's gain, -/
abbrev argG (c : Dev nD) : (⟨1, ![1024]⟩ : Shape).Idx → EReal := m ((c : Thread nD τ).loc main_arg2)
/-- and the projection's weights. -/
abbrev argW (c : Dev nD) : (⟨3, ![1, 1024, 8736]⟩ : Shape).Idx → EReal := m ((c : Thread nD τ).loc main_arg3)

/-- The windows' block indices at each point. -/
theorem idx : ∀ t : Fin cfg0.N, win0_0.index t = ![t.val % 32 / 4, t.val % 4, 0] ∧ win0_1.index t = ![t.val % 32 / 4, 0, 0]
    ∧ win0_2.index t = ![t.val % 32 / 4, 0, 1] ∧ win0_3.index t = ![0, 0, 0] ∧ win0_4.index t = ![0, t.val / 32]
    ∧ win0_5.index t = ![t.val % 32, t.val / 32] :=
  (by decide +kernel : ∀ t : Fin grid0.N, _)

/-- A grid point's number is below 96. -/
theorem lt_96 (t : Fin cfg0.N) : t.val < 96 := lt_of_lt_of_eq t.isLt N_0

/-- The block of rows, -/
theorem blk0 (c : Dev nD) (t : Fin cfg0.N) (r : Fin 512) (d : Fin 1024) :
    iblk m c 0 t (ix3 0 r d) = argX m c (ix3 ⟨t.val % 32 / 4, by omega⟩ ⟨512 * (t.val % 4) + r.val, by omega⟩ d) := by
  blk_point [iblk, V, idx t]

/-- the modulation read as shift -/
theorem blk1 (c : Dev nD) (t : Fin cfg0.N) (d : Fin 1024) :
    iblk m c 1 t (ix3 0 0 d) = argM m c (ix2 ⟨t.val % 32 / 4, by omega⟩ ⟨d.val, by omega⟩) := by
  have e : iblk m c 1 t (ix3 0 0 d) = V m c main_v16 (ix3 ⟨t.val % 32 / 4, by omega⟩ 0 ⟨d.val, by omega⟩) := by
    blk_ext [iblk, idx t]
  rw [e]
  simp only [V, hostOps0, List.flatten_cons, List.flatten_nil, List.append_nil, List.cons_append, List.nil_append]
  entry_read
  pointwise

/-- and as scale, -/
theorem blk2 (c : Dev nD) (t : Fin cfg0.N) (d : Fin 1024) :
    iblk m c 2 t (ix3 0 0 d) = argM m c (ix2 ⟨t.val % 32 / 4, by omega⟩ ⟨1024 + d.val, by omega⟩) := by
  have e : iblk m c 2 t (ix3 0 0 d) = V m c main_v16 (ix3 ⟨t.val % 32 / 4, by omega⟩ 0 ⟨1024 + d.val, by omega⟩) := by
    blk_ext [iblk, idx t]
  rw [e]
  simp only [V, hostOps0, List.flatten_cons, List.flatten_nil, List.append_nil, List.cons_append, List.nil_append]
  entry_read
  pointwise

/-- the gain, -/
theorem blk3 (c : Dev nD) (t : Fin cfg0.N) (d : Fin 1024) : iblk m c 3 t (ix3 0 0 d) = argG m c (ix1 d) := by
  have e : iblk m c 3 t (ix3 0 0 d) = V m c main_v18 (ix3 0 0 d) := by
    blk_ext [iblk, idx t]
  rw [e]
  simp only [V, hostOps0, List.flatten_cons, List.flatten_nil, List.append_nil, List.cons_append, List.nil_append]
  entry_read
  pointwise

/-- and the columns of the weights, placed. -/
theorem blk4 (c : Dev nD) (t : Fin cfg0.N) (k : Fin 1024) (n : Fin 2944) (h : 2944 * (t.val / 32) + n.val < 8832) :
    (iblk m c 4 t (ix2 k n) : EReal) = place (fun j => argW m c (ix3 0 k j)) ⟨2944 * (t.val / 32) + n.val, h⟩ := by
  have e : iblk m c 4 t (ix2 k n) = V m c main_v17 (ix2 k ⟨2944 * (t.val / 32) + n.val, h⟩) := by
    blk_ext [iblk, idx t]
  rw [e]
  exact entry_weights m c k _

/-- The body's block, from its operands' values. -/
theorem pay_apply (v0 : Vec Ideal S1x512x1024 .f32) (v1 v15 v21 : Vec Ideal S1x1x1024 .f32) (v27 : Vec Ideal S1024x2944 .bf16)
    (r : Fin 512) (n : Fin 2944) :
    (k0_pay1 v0 v1 v15 v21 v27 (ix2 r n) : EReal)
      = ∑ k : Fin 1024, modulated (fun d => v0 (ix3 0 r d)) (fun d => v1 (ix3 0 0 d)) (fun d => v15 (ix3 0 0 d))
          (fun d => v21 (ix3 0 0 d)) k * v27 (ix2 k n) := by
  pointwise [k0_pay1]
  rfl

/-- The block of the whole result at a grid point. -/
theorem pay_point (c : Dev nD) (t : Fin cfg0.N) (r : Fin 512) (n : Fin 2944) (p : Fin 16384) (q : Fin 8832)
    (hp : p.val = 512 * (t.val % 32) + r.val) (hq : q.val = 2944 * (t.val / 32) + n.val) :
    (k0_pay1 (iblk m c 0 t) (iblk m c 3 t) (iblk m c 2 t) (iblk m c 1 t) (iblk m c 4 t) (ix2 r n) : EReal)
      = projAll (argX m c) (argM m c) (argG m c) (argW m c) (ix2 p q) := by
  have eb : (⟨p.val / 2048, by omega⟩ : Fin 8) = ⟨t.val % 32 / 4, by omega⟩ := Fin.ext (by show p.val / 2048 = t.val % 32 / 4; omega)
  have el : (⟨p.val % 2048, by omega⟩ : Fin 2048) = ⟨512 * (t.val % 4) + r.val, by omega⟩ :=
    Fin.ext (by show p.val % 2048 = 512 * (t.val % 4) + r.val; omega)
  have eq : q = ⟨2944 * (t.val / 32) + n.val, by omega⟩ := Fin.ext hq
  rw [pay_apply]
  show _ = proj _ _ _ _ ⟨p.val / 2048, _⟩ ⟨p.val % 2048, _⟩ q
  rw [eb, el, eq]
  unfold proj
  rw [← sum_place]
  simp only [blk0, blk1, blk2, blk3, blk4 m c t _ n (by omega)]

/-- The kernel's result array. -/
theorem kernel_u (c : Dev nD) :
    (dats m 0 c).arrAt 5 (cfgs 0).N = (projAll (argX m c) (argM m c) (argG m c) (argW m c) : S16384x8832.Idx → EReal) := by
  refine (dats m 0 c).arrAt_eq_of_covers 5 _ (by decide +kernel) fun t hf y => ?_
  have ht := lt_96 t
  have e0 : win0_5.index t 0 = t.val % 32 := by rw [(idx t).2.2.2.2.2]; rfl
  have e1 : win0_5.index t 1 = t.val / 32 := by rw [(idx t).2.2.2.2.2]; rfl
  have h0 : ∀ y : S512x2944.Idx, ((((win0 5).blk t).view.emb y : S16384x8832.Idx) 0).val = 512 * (t.val % 32) + (y 0).val := fun y => by
    blk_simp
    rw [e0]; omega
  have h1 : ∀ y : S512x2944.Idx, ((((win0 5).blk t).view.emb y : S16384x8832.Idx) 1).val = 2944 * (t.val / 32) + (y 1).val := fun y => by
    blk_simp
    rw [e1]; omega
  rw [after0_5]
  frame_out
  idx_vars y
  exact (pay_point m c t y0 y1 _ _ (h0 (ix2 y0 y1)) (h1 (ix2 y0 y1))).trans
    (congrArg (projAll (argX m c) (argM m c) (argG m c) (argW m c)) (eq_ix2 _).symm)

end Cert.Proj
-- ==== Proof.Proj.Ref.lean ====
/-
  THE REFERENCE'S INPUT PROJECTION is the kernel's: the modulated norm of the rows against the weights, its pieces joined
  in the order that the kernels read.
-/
module

public import proofs.«01_k».proof.Proof.Gen.Reference3Ideal.Run
public import proofs.«01_k».proof.Proof.Layer.Spec

@[expose] public section

set_option maxRecDepth 16384

noncomputable section

namespace Cert.Proj.Ref

open Idealize.ShloMosaic Idealize.ShloMosaic.TcCoe Cert.Reference3Ideal Cert.Reference3Ideal.Gen Cert.Reference3Ideal.Value Cert.Layer

variable (m : (ℓ : Loc nD τ sig) → Buf (Elt Ideal) ℓ)

/-- The rows, -/
abbrev argX (c : Dev nD) : (⟨3, ![8, 2048, 1024]⟩ : Shape).Idx → EReal := m ((c : Thread nD τ).loc main_arg0)
/-- the modulation, -/
abbrev argM (c : Dev nD) : (⟨2, ![8, 6144]⟩ : Shape).Idx → EReal := m ((c : Thread nD τ).loc main_arg1)
/-- the norm's gain, -/
abbrev argG (c : Dev nD) : (⟨1, ![1024]⟩ : Shape).Idx → EReal := m ((c : Thread nD τ).loc main_arg2)
/-- and the projection's weights. -/
abbrev argW (c : Dev nD) : (⟨3, ![1, 1024, 8736]⟩ : Shape).Idx → EReal := m ((c : Thread nD τ).loc main_arg3)

/-- The projection before its pieces are joined. -/
def plain (X : Vec Ideal S8x2048x1024 .f32) (M : Vec Ideal S8x6144 .f32) (g : Vec Ideal S1024 .f32) (W : Vec Ideal S1x1024x8736 .f32) :
    Vec Ideal S8x2048x8736 .f32 :=
  Host.dotGeneral (φ₂ := .f32) dot_S8x2048x1024_S1024x8736_S8x2048x8736_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant (F := Ideal) S_ .f32 0x3F800000#32)) (extractStridedSlice S8x1x1024 ![0, 0, 1024] (broadcastInDim S8x1x6144 ![0, 2] bcast_S8x6144_S8x1x6144_0_2 M) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 M) slices_S8x1x6144_S8x1x1024_0_0_0))) (shapeCast _ W shapeCasts_S1x1024x8736_S1024x8736)

/-- Its pieces joined. -/
def joinedOf (A : Vec Ideal S8x2048x8736 .f32) : Vec Ideal S16384x8832 .f32 :=
  shapeCast _ ((concatenate S8x2048x8832 2 [⟨S8x2048x512, ((extractStridedSlice S8x2048x512 ![0, 0, 0] A slices_S8x2048x8736_S8x2048x512_0_0_0) : (⟨S8x2048x512, .f32⟩ : BufTy).Contents (Elt Ideal))⟩, ⟨S8x2048x512, ((extractStridedSlice S8x2048x512 ![0, 0, 512] A slices_S8x2048x8736_S8x2048x512_0_0_512) : (⟨S8x2048x512, .f32⟩ : BufTy).Contents (Elt Ideal))⟩, ⟨S8x2048x512, ((extractStridedSlice S8x2048x512 ![0, 0, 1024] A slices_S8x2048x8736_S8x2048x512_0_0_1024) : (⟨S8x2048x512, .f32⟩ : BufTy).Contents (Elt Ideal))⟩, ⟨S8x2048x512, ((extractStridedSlice S8x2048x512 ![0, 0, 1536] A slices_S8x2048x8736_S8x2048x512_0_0_1536) : (⟨S8x2048x512, .f32⟩ : BufTy).Contents (Elt Ideal))⟩, ⟨S8x2048x1536, ((extractStridedSlice S8x2048x1536 ![0, 0, 3608] A slices_S8x2048x8736_S8x2048x1536_0_0_3608) : (⟨S8x2048x1536, .f32⟩ : BufTy).Contents (Elt Ideal))⟩, ⟨S8x2048x512, ((extractStridedSlice S8x2048x512 ![0, 0, 5152] A slices_S8x2048x8736_S8x2048x512_0_0_5152) : (⟨S8x2048x512, .f32⟩ : BufTy).Contents (Elt Ideal))⟩, ⟨S8x2048x3072, ((extractStridedSlice S8x2048x3072 ![0, 0, 5664] A slices_S8x2048x8736_S8x2048x3072_0_0_5664) : (⟨S8x2048x3072, .f32⟩ : BufTy).Contents (Elt Ideal))⟩, ⟨S8x2048x1024, ((extractStridedSlice S8x2048x1024 ![0, 0, 2576] A slices_S8x2048x8736_S8x2048x1024_0_0_2576) : (⟨S8x2048x1024, .f32⟩ : BufTy).Contents (Elt Ideal))⟩, ⟨S8x2048x512, ((extractStridedSlice S8x2048x512 ![0, 0, 2064] A slices_S8x2048x8736_S8x2048x512_0_0_2064) : (⟨S8x2048x512, .f32⟩ : BufTy).Contents (Elt Ideal))⟩, ⟨S8x2048x16, ((extractStridedSlice S8x2048x16 ![0, 0, 2048] A slices_S8x2048x8736_S8x2048x16_0_0_2048) : (⟨S8x2048x16, .f32⟩ : BufTy).Contents (Elt Ideal))⟩, ⟨S8x2048x8, ((extractStridedSlice S8x2048x8 ![0, 0, 3600] A slices_S8x2048x8736_S8x2048x8_0_0_3600) : (⟨S8x2048x8, .f32⟩ : BufTy).Contents (Elt Ideal))⟩, ⟨S8x2048x4, ((extractStridedSlice S8x2048x4 ![0, 0, 5144] A slices_S8x2048x8736_S8x2048x4_0_0_5144) : (⟨S8x2048x4, .f32⟩ : BufTy).Contents (Elt Ideal))⟩, ⟨S8x2048x4, ((extractStridedSlice S8x2048x4 ![0, 0, 5148] A slices_S8x2048x8736_S8x2048x4_0_0_5148) : (⟨S8x2048x4, .f32⟩ : BufTy).Contents (Elt Ideal))⟩, ⟨S8x2048x96, ((broadcastInDim S8x2048x96 ![] bcast_S_S8x2048x96 (constant (F := Ideal) S_ .f32 0x00000000#32)) : (⟨S8x2048x96, .f32⟩ : BufTy).Contents (Elt Ideal))⟩] concatenates_S8x2048x512_S8x2048x512_S8x2048x512_S8x2048x512_S8x2048x1536_S8x2048x512_S8x2048x3072_S8x2048x1024_S8x2048x512_S8x2048x16_S8x2048x8_S8x2048x4_S8x2048x4_S8x2048x96_S8x2048x8832_d2 : (⟨S8x2048x8832, .f32⟩ : BufTy).Contents (Elt Ideal))) shapeCasts_S8x2048x8832_S16384x8832

/-- An element of the projection. -/
theorem plain_apply (X : Vec Ideal S8x2048x1024 .f32) (M : Vec Ideal S8x6144 .f32) (g : Vec Ideal S1024 .f32) (W : Vec Ideal S1x1024x8736 .f32)
    (b : Fin 8) (l : Fin 2048) (j : Fin 8736) :
    (plain X M g W (ix3 b l j) : EReal) = ∑ k, modulated (fun d => X (ix3 b l d)) (fun d => g (ix1 d))
      (fun d => M (ix2 b ⟨1024 + d.val, by omega⟩)) (fun d => M (ix2 b ⟨d.val, by omega⟩)) k * W (ix3 0 k j) := by
  unfold plain
  pointwise
  rfl

/-- The joined pieces at an index. -/
theorem joinedOf_apply (A : Vec Ideal S8x2048x8736 .f32) (p : Fin 16384) (n : Fin 8832) :
    (joinedOf A (ix2 p n) : EReal) = place (fun j => A (ix3 ⟨p.val / 2048, by omega⟩ ⟨p.val % 2048, by omega⟩ j)) n := by
  unfold joinedOf
  pointwise
  simp only [Nat.sub_sub, Nat.reduceAdd]
  rfl

/-- The reference's result. -/
theorem ref_u (c : Dev nD) : res_out0 m c = projAll (argX m c) (argM m c) (argG m c) (argW m c) := by
  have e : res_main_v43 m c = joinedOf (plain (argX m c) (argM m c) (argG m c) (argW m c)) := by
    unfold res_main_v43 joinedOf plain
    rfl
  funext y
  idx_vars y
  show res_main_v43 m c (ix2 y0 y1) = _
  rw [e, joinedOf_apply]
  simp only [plain_apply]
  rfl

end Cert.Proj.Ref
-- ==== Proof.Ada.Spec.lean ====
/-
  WHAT THE MODULATION CALL COMPUTES, over the extended reals: of each condition vector, the prompts' before the samples',
  x times its logistic function, through each layer's weights, and the bias.
-/
module

public import proofs.«01_k».proof.Proof.Layer.OutSpec

@[expose] public section

set_option maxRecDepth 16384

noncomputable section

namespace Cert.Layer

open Idealize.ShloMosaic

/-- The condition vectors of the prompts and of the samples, one below the other. -/
def condition (C0 : (⟨2, ![8, 1024]⟩ : Shape).Idx → EReal) (C1 : (⟨2, ![128, 1024]⟩ : Shape).Idx → EReal) (r : Fin 136) : Row := fun k =>
  if h : r.val < 8 then C0 (ix2 ⟨r.val, h⟩ k) else C1 (ix2 ⟨r.val - 8, by omega⟩ k)

/-- The modulation of a condition vector in one layer. -/
def modulation (v : Row) (W : (⟨3, ![2, 1024, 6144]⟩ : Shape).Idx → EReal) (b : (⟨2, ![2, 6144]⟩ : Shape).Idx → EReal)
    (l : Fin 2) (n : Fin 6144) : EReal :=
  (∑ k, v k * gate (v k) * W (ix3 l k n)) + b (ix2 l n)

/-- The whole result. -/
def modAll (C0 : (⟨2, ![8, 1024]⟩ : Shape).Idx → EReal) (C1 : (⟨2, ![128, 1024]⟩ : Shape).Idx → EReal)
    (W : (⟨3, ![2, 1024, 6144]⟩ : Shape).Idx → EReal) (b : (⟨2, ![2, 6144]⟩ : Shape).Idx → EReal) :
    (⟨3, ![2, 136, 6144]⟩ : Shape).Idx → EReal := fun i => modulation (condition C0 C1 (i 1)) W b (i 0) (i 2)

end Cert.Layer
-- ==== Proof.Ada.Kernel.lean ====
/-
  THE KERNEL'S MODULATION: each grid point's block of the result, and so the whole array.
-/
module

public import proofs.«01_k».proof.Proof.Gen.Kernel4Ideal.Value
public import proofs.«01_k».proof.Proof.Ada.Spec
public import Idealize.ShloMosaic.Lib.Pipeline.ValueKit
public import Idealize.ShloMosaic.Lib.StableHlo.ReadAt

@[expose] public section

set_option maxRecDepth 16384

noncomputable section

namespace Cert.Ada

open Idealize.ShloMosaic Idealize.ShloMosaic.TcCoe Cert.Kernel4Ideal Cert.Kernel4Ideal.Gen Cert.Kernel4Ideal.Value
open Cert.Layer

variable (m : (ℓ : Loc nD τ sig) → Buf (Elt Ideal) ℓ)

/-- The prompts' condition vectors, -/
abbrev argC0 (c : Dev nD) : (⟨2, ![8, 1024]⟩ : Shape).Idx → EReal := m ((c : Thread nD τ).loc main_arg0)
/-- the samples', -/
abbrev argC1 (c : Dev nD) : (⟨2, ![128, 1024]⟩ : Shape).Idx → EReal := m ((c : Thread nD τ).loc main_arg1)
/-- the weights -/
abbrev argW (c : Dev nD) : (⟨3, ![2, 1024, 6144]⟩ : Shape).Idx → EReal := m ((c : Thread nD τ).loc main_arg2)
/-- and the bias. -/
abbrev argB (c : Dev nD) : (⟨2, ![2, 6144]⟩ : Shape).Idx → EReal := m ((c : Thread nD τ).loc main_arg3)

/-- The windows' block indices at each point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- A grid point's number is below 8. -/
theorem lt_8 (t : Fin cfg0.N) : t.val < 8 := lt_of_lt_of_eq t.isLt N_0

/-- The condition vectors, -/
theorem blk0 (c : Dev nD) (t : Fin cfg0.N) (r : Fin 136) (k : Fin 1024) :
    iblk m c 0 t (ix2 r k) = condition (argC0 m c) (argC1 m c) r k := by
  have e : iblk m c 0 t (ix2 r k) = V m c main_v0 (ix2 r k) := by
    blk_ext [iblk, idx t]
  rw [e]
  simp only [V, hostOps0, List.flatten_cons, List.flatten_nil, List.append_nil, List.cons_append, List.nil_append]
  entry_read
  pointwise
  rfl

/-- the block of weights -/
theorem blk1 (c : Dev nD) (t : Fin cfg0.N) (k : Fin 1024) (n : Fin 1536) :
    iblk m c 1 t (ix3 0 k n) = argW m c (ix3 ⟨t.val / 4, by have := lt_8 t; omega⟩ k ⟨1536 * (t.val % 4) + n.val, by omega⟩) := by
  have := lt_8 t
  blk_point [iblk, V, idx t]

/-- and the block of the bias. -/
theorem blk2 (c : Dev nD) (t : Fin cfg0.N) (n : Fin 1536) :
    iblk m c 2 t (ix3 0 0 n) = argB m c (ix2 ⟨t.val / 4, by have := lt_8 t; omega⟩ ⟨1536 * (t.val % 4) + n.val, by omega⟩) := by
  have := lt_8 t
  have e : iblk m c 2 t (ix3 0 0 n) = V m c main_v1 (ix3 ⟨t.val / 4, by omega⟩ 0 ⟨1536 * (t.val % 4) + n.val, by omega⟩) := by
    blk_ext [iblk, idx t]
  rw [e]
  simp only [V, hostOps0, List.flatten_cons, List.flatten_nil, List.append_nil, List.cons_append, List.nil_append]
  entry_read
  pointwise

/-- The body's block, from its operands' values. -/
theorem pay_apply (v0 : Vec Ideal S136x1024 .f32) (v10 : Vec Ideal S1x1024x1536 .f32) (v15 : Vec Ideal S1x1x1536 .f32)
    (r : Fin 136) (n : Fin 1536) :
    (k0_pay1 v0 v10 v15 (ix3 0 r n) : EReal)
      = (∑ k : Fin 1024, v0 (ix2 r k) * gate (v0 (ix2 r k)) * v10 (ix3 0 k n)) + v15 (ix3 0 0 n) := by
  pointwise [k0_pay1]
  simp only [gate, zero_sub]

/-- The block of the whole result at a grid point. -/
theorem pay_point (c : Dev nD) (t : Fin cfg0.N) (r : Fin 136) (n : Fin 1536) (i : S2x136x6144.Idx)
    (h0 : (i 0).val = t.val / 4) (h1 : (i 1).val = r.val) (h2 : (i 2).val = 1536 * (t.val % 4) + n.val) :
    (k0_pay1 (iblk m c 0 t) (iblk m c 1 t) (iblk m c 2 t) (ix3 0 r n) : EReal)
      = modAll (argC0 m c) (argC1 m c) (argW m c) (argB m c) i := by
  have := lt_8 t
  have e : i = ix3 ⟨t.val / 4, by omega⟩ r ⟨1536 * (t.val % 4) + n.val, by omega⟩ := by
    rw [eq_ix3 i]
    exact congr (congr (congrArg ix3 (Fin.ext h0)) (Fin.ext h1)) (Fin.ext h2)
  rw [pay_apply, e]
  simp only [blk0, blk1, blk2]
  rfl

/-- The kernel's result array. -/
theorem kernel_mod (c : Dev nD) :
    (dats m 0 c).arrAt 3 (cfgs 0).N = (modAll (argC0 m c) (argC1 m c) (argW m c) (argB m c) : S2x136x6144.Idx → EReal) := by
  refine (dats m 0 c).arrAt_eq_of_covers 3 _ (by decide +kernel) fun t hf y => ?_
  have ht := lt_8 t
  have e0 : win0_3.index t 0 = t.val / 4 := by rw [(idx t).2.2.2]; rfl
  have e1 : win0_3.index t 1 = 0 := by rw [(idx t).2.2.2]; rfl
  have e2 : win0_3.index t 2 = t.val % 4 := by rw [(idx t).2.2.2]; rfl
  have h0 : ∀ y : S1x136x1536.Idx, ((((win0 3).blk t).view.emb y : S2x136x6144.Idx) 0).val = t.val / 4 := fun y => by
    have : (y 0).val < 1 := (y 0).isLt
    blk_simp
    rw [e0]
  have h1 : ∀ y : S1x136x1536.Idx, ((((win0 3).blk t).view.emb y : S2x136x6144.Idx) 1).val = (y 1).val := fun y => by
    blk_simp
    rw [e1]; omega
  have h2 : ∀ y : S1x136x1536.Idx, ((((win0 3).blk t).view.emb y : S2x136x6144.Idx) 2).val = 1536 * (t.val % 4) + (y 2).val := fun y => by
    blk_simp
    rw [e2]; omega
  rw [after0_3]
  frame_out
  idx_vars y
  obtain rfl : y0 = 0 := Subsingleton.elim _ _
  exact pay_point m c t y1 y2 _ (h0 (ix3 0 y1 y2)) (h1 (ix3 0 y1 y2)) (h2 (ix3 0 y1 y2))

end Cert.Ada
-- ==== Proof.Ada.Ref.lean ====
/-
  THE REFERENCE'S MODULATION: each layer's and each group's rows, joined.
-/
module

public import proofs.«01_k».proof.Proof.Gen.Reference4Ideal.Run
public import proofs.«01_k».proof.Proof.Ada.Spec

@[expose] public section

set_option maxRecDepth 16384

noncomputable section

namespace Cert.Ada.Ref

open Idealize.ShloMosaic Idealize.ShloMosaic.TcCoe Cert.Reference4Ideal Cert.Reference4Ideal.Gen Cert.Reference4Ideal.Value Cert.Layer

/-- The reference's result, from its arguments. -/
def result (C0 : Vec Ideal S8x1024 .f32) (C1 : Vec Ideal S128x1024 .f32) (W : Vec Ideal S2x1024x6144 .f32) (b : Vec Ideal S2x6144 .f32) :
    Vec Ideal S2x136x6144 .f32 :=
  concatenate S2x136x6144 1 [⟨S2x8x6144, (concatenate S2x8x6144 0 [⟨S1x8x6144, (broadcastInDim S1x8x6144 ![1, 2] bcast_S8x6144_S1x8x6144_1_2 (addf (Host.dotGeneral (φ₂ := .f32) dot_S8x1024_S1024x6144_S8x6144_1_0_0_1_n_n none (mulf C0 (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf C0))))) (shapeCast _ (extractStridedSlice S1x1024x6144 ![0, 0, 0] W slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![0, 0] b slices_S2x6144_S1x6144_0_0) shapeCasts_S1x6144_S6144)))))⟩, ⟨S1x8x6144, (broadcastInDim S1x8x6144 ![1, 2] bcast_S8x6144_S1x8x6144_1_2 (addf (Host.dotGeneral (φ₂ := .f32) dot_S8x1024_S1024x6144_S8x6144_1_0_0_1_n_n none (mulf C0 (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf C0))))) (shapeCast _ (extractStridedSlice S1x1024x6144 ![1, 0, 0] W slices_S2x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![1, 0] b slices_S2x6144_S1x6144_1_0) shapeCasts_S1x6144_S6144)))))⟩] concatenates_S1x8x6144_S1x8x6144_S2x8x6144_d0)⟩, ⟨S2x128x6144, (concatenate S2x128x6144 0 [⟨S1x128x6144, (broadcastInDim S1x128x6144 ![1, 2] bcast_S128x6144_S1x128x6144_1_2 (addf (Host.dotGeneral (φ₂ := .f32) dot_S128x1024_S1024x6144_S128x6144_1_0_0_1_n_n none (mulf C1 (Host.divf (broadcastInDim S128x1024 ![] bcast_S_S128x1024 (constant (F := Ideal) S_ .f32 0x3F800000#32)) (addf (broadcastInDim S128x1024 ![] bcast_S_S128x1024 (constant (F := Ideal) S_ .f32 0x3F800000#32)) (Host.exp (Host.negf C1))))) (shapeCast _ (extractStridedSlice S1x1024x6144 ![0, 0, 0] W slices_S2x1024x6144_S1x1024x6144_0_0_0) shapeCasts_S1x1024x6144_S1024x6144)) (broadcastInDim S128x6144 ![0, 1] bcast_S1x6144_S128x6144_0_1 (broadcastInDim S1x6144 ![1] bcast_S6144_S1x6144_1 (shapeCast _ (extractStridedSlice S1x6144 ![0, 0] b slices_S2x6144_S1x6144_0_0) shapeCasts_S1x6144_S6144)))))⟩, ⟨S1x128x6144, (broadcastInDim S1x128x6144 ![1, 2] bcast_S128x6144_S1x128x6144_1_2 (addf (Host.dotGeneral (φ₂ := .f32) dot_S128x1024_S1024x6144_S128x6144_1_0_0_1_n_n none (mulf C1 (Host.divf (broadcastInDim S128x1024 ![] bcast_S_S128x1024 (constant (F := Ideal) S_ .f32 0x3F800000#32)) (addf (broadcastInDim S128x1024 ![] bcast_S_S128x1024 (constant (F := Ideal) S_ .f32 0x3F800000#32)) (Host.exp (Host.negf C1))))) (shapeCast _ (extractStridedSlice S1x1024x6144 ![1, 0, 0] W slices_S2x1024x6144_S1x1024x6144_1_0_0) shapeCasts_S1x1024x6144_S1024x6144)) (broadcastInDim S128x6144 ![0, 1] bcast_S1x6144_S128x6144_0_1 (broadcastInDim S1x6144 ![1] bcast_S6144_S1x6144_1 (shapeCast _ (extractStridedSlice S1x6144 ![1, 0] b slices_S2x6144_S1x6144_1_0) shapeCasts_S1x6144_S6144)))))⟩] concatenates_S1x128x6144_S1x128x6144_S2x128x6144_d0)⟩] concatenates_S2x8x6144_S2x128x6144_S2x136x6144_d1

/-- An element of it. -/
theorem result_apply (C0 : Vec Ideal S8x1024 .f32) (C1 : Vec Ideal S128x1024 .f32) (W : Vec Ideal S2x1024x6144 .f32) (b : Vec Ideal S2x6144 .f32)
    (l : Fin 2) (r : Fin 136) (n : Fin 6144) : (result C0 C1 W b (ix3 l r n) : EReal) = modulation (condition C0 C1 r) W b l n := by
  unfold result
  pointwise
  have hl : l = 0 ∨ l = 1 := by omega
  by_cases h : r.val < 8
  · obtain rfl | rfl := hl <;> simp [h, modulation, condition, gate]
  · obtain rfl | rfl := hl <;> simp [h, modulation, condition, gate]

/-- The whole result. -/
theorem result_eq (C0 : Vec Ideal S8x1024 .f32) (C1 : Vec Ideal S128x1024 .f32) (W : Vec Ideal S2x1024x6144 .f32) (b : Vec Ideal S2x6144 .f32) :
    result C0 C1 W b = modAll C0 C1 W b := by
  funext y
  idx_vars y
  exact result_apply C0 C1 W b y0 y1 y2

end Cert.Ada.Ref
-- ==== Proof.Layer.SampleSpec.lean ====
/-
  THE TWO MATRIX STAGES AT THE SAMPLE'S SHAPES: the same row operations over 128 sequences, each a segment of eight rows.
-/
module

public import proofs.«01_k».proof.Proof.Layer.OutSpec

@[expose] public section

set_option maxRecDepth 16384

noncomputable section

namespace Cert.Layer

open Idealize.ShloMosaic

/-- The input projection of row `l` of sequence `b`, its columns placed. -/
def sProj (X : (⟨3, ![128, 8, 1024]⟩ : Shape).Idx → EReal) (M : (⟨2, ![128, 6144]⟩ : Shape).Idx → EReal)
    (g : (⟨1, ![1024]⟩ : Shape).Idx → EReal) (W : (⟨3, ![1, 1024, 8736]⟩ : Shape).Idx → EReal) (b : Fin 128) (l : Fin 8) (n : Fin 8832) : EReal :=
  place (fun j => ∑ k, modulated (fun d => X (ix3 b l d)) (fun d => g (ix1 d)) (fun d => M (ix2 b ⟨1024 + d.val, by omega⟩))
      (fun d => M (ix2 b ⟨d.val, by omega⟩)) k * W (ix3 0 k j)) n

/-- The whole input projection, by the flat row. -/
def sProjAll (X : (⟨3, ![128, 8, 1024]⟩ : Shape).Idx → EReal) (M : (⟨2, ![128, 6144]⟩ : Shape).Idx → EReal)
    (g : (⟨1, ![1024]⟩ : Shape).Idx → EReal) (W : (⟨3, ![1, 1024, 8736]⟩ : Shape).Idx → EReal) :
    (⟨2, ![1024, 8832]⟩ : Shape).Idx → EReal := fun i =>
  sProj X M g W ⟨(i 0).val / 8, Nat.div_lt_of_lt_mul (i 0).isLt⟩ ⟨(i 0).val % 8, Nat.mod_lt _ (by decide)⟩ (i 1)

section Whole
variable (X : (⟨3, ![128, 8, 1024]⟩ : Shape).Idx → EReal) (Y0 Y1 Y2 : (⟨2, ![1024, 512]⟩ : Shape).Idx → EReal)
  (U : (⟨2, ![1024, 8832]⟩ : Shape).Idx → EReal) (M : (⟨2, ![128, 6144]⟩ : Shape).Idx → EReal)
  (g1 g2 g3 : (⟨1, ![1024]⟩ : Shape).Idx → EReal) (Wb : (⟨3, ![3, 512, 1024]⟩ : Shape).Idx → EReal)
  (Wo : (⟨2, ![1024, 1024]⟩ : Shape).Idx → EReal) (Wi : (⟨2, ![1024, 5632]⟩ : Shape).Idx → EReal)
  (Wf : (⟨2, ![2816, 1024]⟩ : Shape).Idx → EReal)

/-- The flat number of row `l` of sequence `b`. -/
abbrev sFlat (b : Fin 128) (l : Fin 8) : Fin 1024 := ⟨b.val * 8 + l.val, by omega⟩

/-- The merged row, projected. -/
def sMixed (b : Fin 128) (l : Fin 8) : Row :=
  through
    (merged (fun e => U (ix2 (sFlat b l) (gcol 0 e))) (fun e => U (ix2 (sFlat b l) (gcol 1 e)))
      (fun e => U (ix2 (sFlat b l) (gcol 2 e))) (fun k => Y0 (ix2 (sFlat b l) k)) (fun k => Y1 (ix2 (sFlat b l) k))
      (fun k => Y2 (ix2 (sFlat b l) k)) (fun k e => Wb (ix3 0 k e)) (fun k e => Wb (ix3 1 k e)) (fun k e => Wb (ix3 2 k e)))
    (fun e d => Wo (ix2 e d))

/-- The row after the mixers. -/
def sAfter1 (b : Fin 128) (l : Fin 8) : Row :=
  resid (fun d => X (ix3 b l d)) (sMixed Y0 Y1 Y2 U Wb Wo b l) (fun d => g1 (ix1 d)) (fun d => M (ix2 b ⟨2048 + d.val, by omega⟩))

/-- The row that the feed-forward block reads. -/
def sBefore2 (b : Fin 128) (l : Fin 8) : Row :=
  modulated (sAfter1 X Y0 Y1 Y2 U M g1 Wb Wo b l) (fun d => g2 (ix1 d)) (fun d => M (ix2 b ⟨4096 + d.val, by omega⟩))
    (fun d => M (ix2 b ⟨3072 + d.val, by omega⟩))

/-- The row after the feed-forward block. -/
def sAfter2 (b : Fin 128) (l : Fin 8) : Row :=
  resid (sAfter1 X Y0 Y1 Y2 U M g1 Wb Wo b l)
    (ffn (sBefore2 X Y0 Y1 Y2 U M g1 g2 Wb Wo b l) (fun k j => Wi (ix2 k j)) (fun j d => Wf (ix2 j d)))
    (fun d => g3 (ix1 d)) (fun d => M (ix2 b ⟨5120 + d.val, by omega⟩))

/-- The whole result. -/
def sOutAll : (⟨3, ![128, 8, 1024]⟩ : Shape).Idx → EReal := fun i =>
  sAfter2 X Y0 Y1 Y2 U M g1 g2 g3 Wb Wo Wi Wf (i 0) (i 1) (i 2)

end Whole

end Cert.Layer
-- ==== Proof.SProj.Weights.lean ====
/-
  THE WEIGHTS' COLUMNS, AT THE SAMPLE'S SHAPES, AS THE KERNEL'S PROGRAM PLACES THEM before its call: the pieces of the input projection joined in
  the order that the kernels read, over zero columns, read at an index.
-/
module

public import proofs.«01_k».proof.Proof.Gen.Kernel5Ideal.Frame
public import proofs.«01_k».proof.Proof.Layer.SampleSpec
public import Idealize.ShloMosaic.Lib.StableHlo.ReadAt

@[expose] public section

set_option maxRecDepth 16384

noncomputable section

namespace Cert.SProj

open Idealize.ShloMosaic Idealize.ShloMosaic.TcCoe Cert.Kernel5Ideal Cert.Kernel5Ideal.Gen Cert.Layer

/-- The pieces joined along the columns. -/
def joined (u0 : Vec Ideal S1x1024x512 .f32) (u1 : Vec Ideal S1x1024x512 .f32) (u2 : Vec Ideal S1x1024x512 .f32) (u3 : Vec Ideal S1x1024x512 .f32) (u4 : Vec Ideal S1x1024x1536 .f32) (u5 : Vec Ideal S1x1024x512 .f32) (u6 : Vec Ideal S1x1024x3072 .f32) (u7 : Vec Ideal S1x1024x1024 .f32) (u8 : Vec Ideal S1x1024x512 .f32) (u9 : Vec Ideal S1x1024x16 .f32) (u10 : Vec Ideal S1x1024x8 .f32) (u11 : Vec Ideal S1x1024x4 .f32) (u12 : Vec Ideal S1x1024x4 .f32) (u13 : Vec Ideal S1x1024x96 .f32) :
    Vec Ideal S1x1024x8832 .f32 :=
  (concatenate S1x1024x8832 2 [⟨S1x1024x512, (u0 : (⟨S1x1024x512, .f32⟩ : BufTy).Contents (Elt Ideal))⟩, ⟨S1x1024x512, (u1 : (⟨S1x1024x512, .f32⟩ : BufTy).Contents (Elt Ideal))⟩, ⟨S1x1024x512, (u2 : (⟨S1x1024x512, .f32⟩ : BufTy).Contents (Elt Ideal))⟩, ⟨S1x1024x512, (u3 : (⟨S1x1024x512, .f32⟩ : BufTy).Contents (Elt Ideal))⟩, ⟨S1x1024x1536, (u4 : (⟨S1x1024x1536, .f32⟩ : BufTy).Contents (Elt Ideal))⟩, ⟨S1x1024x512, (u5 : (⟨S1x1024x512, .f32⟩ : BufTy).Contents (Elt Ideal))⟩, ⟨S1x1024x3072, (u6 : (⟨S1x1024x3072, .f32⟩ : BufTy).Contents (Elt Ideal))⟩, ⟨S1x1024x1024, (u7 : (⟨S1x1024x1024, .f32⟩ : BufTy).Contents (Elt Ideal))⟩, ⟨S1x1024x512, (u8 : (⟨S1x1024x512, .f32⟩ : BufTy).Contents (Elt Ideal))⟩, ⟨S1x1024x16, (u9 : (⟨S1x1024x16, .f32⟩ : BufTy).Contents (Elt Ideal))⟩, ⟨S1x1024x8, (u10 : (⟨S1x1024x8, .f32⟩ : BufTy).Contents (Elt Ideal))⟩, ⟨S1x1024x4, (u11 : (⟨S1x1024x4, .f32⟩ : BufTy).Contents (Elt Ideal))⟩, ⟨S1x1024x4, (u12 : (⟨S1x1024x4, .f32⟩ : BufTy).Contents (Elt Ideal))⟩, ⟨S1x1024x96, (u13 : (⟨S1x1024x96, .f32⟩ : BufTy).Contents (Elt Ideal))⟩] concatenates_S1x1024x512_S1x1024x512_S1x1024x512_S1x1024x512_S1x1024x1536_S1x1024x512_S1x1024x3072_S1x1024x1024_S1x1024x512_S1x1024x16_S1x1024x8_S1x1024x4_S1x1024x4_S1x1024x96_S1x1024x8832_d2 : (⟨S1x1024x8832, .f32⟩ : BufTy).Contents (Elt Ideal))

/-- The columns of `A` as the program joins them. -/
def joinedOf (A : Vec Ideal S1x1024x8736 .f32) : Vec Ideal S1x1024x8832 .f32 :=
  joined (extractStridedSlice S1x1024x512 ![0, 0, 0] A slices_S1x1024x8736_S1x1024x512_0_0_0)
    (extractStridedSlice S1x1024x512 ![0, 0, 512] A slices_S1x1024x8736_S1x1024x512_0_0_512)
    (extractStridedSlice S1x1024x512 ![0, 0, 1024] A slices_S1x1024x8736_S1x1024x512_0_0_1024)
    (extractStridedSlice S1x1024x512 ![0, 0, 1536] A slices_S1x1024x8736_S1x1024x512_0_0_1536)
    (extractStridedSlice S1x1024x1536 ![0, 0, 3608] A slices_S1x1024x8736_S1x1024x1536_0_0_3608)
    (extractStridedSlice S1x1024x512 ![0, 0, 5152] A slices_S1x1024x8736_S1x1024x512_0_0_5152)
    (extractStridedSlice S1x1024x3072 ![0, 0, 5664] A slices_S1x1024x8736_S1x1024x3072_0_0_5664)
    (extractStridedSlice S1x1024x1024 ![0, 0, 2576] A slices_S1x1024x8736_S1x1024x1024_0_0_2576)
    (extractStridedSlice S1x1024x512 ![0, 0, 2064] A slices_S1x1024x8736_S1x1024x512_0_0_2064)
    (extractStridedSlice S1x1024x16 ![0, 0, 2048] A slices_S1x1024x8736_S1x1024x16_0_0_2048)
    (extractStridedSlice S1x1024x8 ![0, 0, 3600] A slices_S1x1024x8736_S1x1024x8_0_0_3600)
    (extractStridedSlice S1x1024x4 ![0, 0, 5144] A slices_S1x1024x8736_S1x1024x4_0_0_5144)
    (extractStridedSlice S1x1024x4 ![0, 0, 5148] A slices_S1x1024x8736_S1x1024x4_0_0_5148)
    (broadcastInDim S1x1024x96 ![] bcast_S_S1x1024x96 (constant (F := Ideal) S_ .f32 0x00000000#32))

/-- The joined columns at an index. -/
theorem joinedOf_apply (A : Vec Ideal S1x1024x8736 .f32) (k : Fin 1024) (n : Fin 8832) :
    (joinedOf A (ix3 0 k n) : EReal) = place (fun j => A (ix3 0 k j)) n := by
  unfold joinedOf joined
  pointwise
  simp only [Nat.sub_sub, Nat.reduceAdd]
  rfl

/-- The operations before the call, the join named. -/
abbrev hostOpsNamed : List (HloOp τ sig (Elt Ideal)) :=
  [ StableHlo.unary main_arg3 main_v0 ((extractStridedSlice S1x1024x512 ![0, 0, 0] · slices_S1x1024x8736_S1x1024x512_0_0_0) : (⟨S1x1024x8736, .f32⟩ : BufTy).Contents (Elt Ideal) → (⟨S1x1024x512, .f32⟩ : BufTy).Contents (Elt Ideal)),
    StableHlo.unary main_arg3 main_v1 ((extractStridedSlice S1x1024x512 ![0, 0, 512] · slices_S1x1024x8736_S1x1024x512_0_0_512) : (⟨S1x1024x8736, .f32⟩ : BufTy).Contents (Elt Ideal) → (⟨S1x1024x512, .f32⟩ : BufTy).Contents (Elt Ideal)),
    StableHlo.unary main_arg3 main_v2 ((extractStridedSlice S1x1024x512 ![0, 0, 1024] · slices_S1x1024x8736_S1x1024x512_0_0_1024) : (⟨S1x1024x8736, .f32⟩ : BufTy).Contents (Elt Ideal) → (⟨S1x1024x512, .f32⟩ : BufTy).Contents (Elt Ideal)),
    StableHlo.unary main_arg3 main_v3 ((extractStridedSlice S1x1024x512 ![0, 0, 1536] · slices_S1x1024x8736_S1x1024x512_0_0_1536) : (⟨S1x1024x8736, .f32⟩ : BufTy).Contents (Elt Ideal) → (⟨S1x1024x512, .f32⟩ : BufTy).Contents (Elt Ideal)),
    StableHlo.unary main_arg3 main_v4 ((extractStridedSlice S1x1024x1536 ![0, 0, 3608] · slices_S1x1024x8736_S1x1024x1536_0_0_3608) : (⟨S1x1024x8736, .f32⟩ : BufTy).Contents (Elt Ideal) → (⟨S1x1024x1536, .f32⟩ : BufTy).Contents (Elt Ideal)),
    StableHlo.unary main_arg3 main_v5 ((extractStridedSlice S1x1024x512 ![0, 0, 5152] · slices_S1x1024x8736_S1x1024x512_0_0_5152) : (⟨S1x1024x8736, .f32⟩ : BufTy).Contents (Elt Ideal) → (⟨S1x1024x512, .f32⟩ : BufTy).Contents (Elt Ideal)),
    StableHlo.unary main_arg3 main_v6 ((extractStridedSlice S1x1024x3072 ![0, 0, 5664] · slices_S1x1024x8736_S1x1024x3072_0_0_5664) : (⟨S1x1024x8736, .f32⟩ : BufTy).Contents (Elt Ideal) → (⟨S1x1024x3072, .f32⟩ : BufTy).Contents (Elt Ideal)),
    StableHlo.unary main_arg3 main_v7 ((extractStridedSlice S1x1024x1024 ![0, 0, 2576] · slices_S1x1024x8736_S1x1024x1024_0_0_2576) : (⟨S1x1024x8736, .f32⟩ : BufTy).Contents (Elt Ideal) → (⟨S1x1024x1024, .f32⟩ : BufTy).Contents (Elt Ideal)),
    StableHlo.unary main_arg3 main_v8 ((extractStridedSlice S1x1024x512 ![0, 0, 2064] · slices_S1x1024x8736_S1x1024x512_0_0_2064) : (⟨S1x1024x8736, .f32⟩ : BufTy).Contents (Elt Ideal) → (⟨S1x1024x512, .f32⟩ : BufTy).Contents (Elt Ideal)),
    StableHlo.unary main_arg3 main_v9 ((extractStridedSlice S1x1024x16 ![0, 0, 2048] · slices_S1x1024x8736_S1x1024x16_0_0_2048) : (⟨S1x1024x8736, .f32⟩ : BufTy).Contents (Elt Ideal) → (⟨S1x1024x16, .f32⟩ : BufTy).Contents (Elt Ideal)),
    StableHlo.unary main_arg3 main_v10 ((extractStridedSlice S1x1024x8 ![0, 0, 3600] · slices_S1x1024x8736_S1x1024x8_0_0_3600) : (⟨S1x1024x8736, .f32⟩ : BufTy).Contents (Elt Ideal) → (⟨S1x1024x8, .f32⟩ : BufTy).Contents (Elt Ideal)),
    StableHlo.unary main_arg3 main_v11 ((extractStridedSlice S1x1024x4 ![0, 0, 5144] · slices_S1x1024x8736_S1x1024x4_0_0_5144) : (⟨S1x1024x8736, .f32⟩ : BufTy).Contents (Elt Ideal) → (⟨S1x1024x4, .f32⟩ : BufTy).Contents (Elt Ideal)),
    StableHlo.unary main_arg3 main_v12 ((extractStridedSlice S1x1024x4 ![0, 0, 5148] · slices_S1x1024x8736_S1x1024x4_0_0_5148) : (⟨S1x1024x8736, .f32⟩ : BufTy).Contents (Elt Ideal) → (⟨S1x1024x4, .f32⟩ : BufTy).Contents (Elt Ideal)),
    StableHlo.nullary main_cst (constant (F := Ideal) S_ .f32 0x00000000#32),
    StableHlo.unary main_cst main_v13 (broadcastInDim S1x1024x96 ![] bcast_S_S1x1024x96 : (⟨S_, .f32⟩ : BufTy).Contents (Elt Ideal) → (⟨S1x1024x96, .f32⟩ : BufTy).Contents (Elt Ideal)),
    StableHlo.nary ![main_v0, main_v1, main_v2, main_v3, main_v4, main_v5, main_v6, main_v7, main_v8, main_v9, main_v10, main_v11, main_v12, main_v13] main_v14 (fun u => joined (u 0) (u 1) (u 2) (u 3) (u 4) (u 5) (u 6) (u 7) (u 8) (u 9) (u 10) (u 11) (u 12) (u 13)),
    StableHlo.unary main_v14 main_v15 ((truncf (F := Ideal) .bf16 · bitsLt_bf16_f32) : (⟨S1x1024x8832, .f32⟩ : BufTy).Contents (Elt Ideal) → (⟨S1x1024x8832, .bf16⟩ : BufTy).Contents (Elt Ideal)),
    StableHlo.unary main_arg1 main_v16 (broadcastInDim S128x1x6144 ![0, 2] bcast_S128x6144_S128x1x6144_0_2 : (⟨S128x6144, .f32⟩ : BufTy).Contents (Elt Ideal) → (⟨S128x1x6144, .f32⟩ : BufTy).Contents (Elt Ideal)),
    StableHlo.reshape main_v15 main_v17 (rfl : (.bf16 : EltTy) = .bf16) shapeCasts_S1x1024x8832_S1024x8832,
    StableHlo.reshape main_arg2 main_v18 (rfl : (.f32 : EltTy) = .f32) shapeCasts_S1024_S1x1x1024 ]

/-- The weights as the call finds them. -/
theorem entry_weights (m : (ℓ : Loc nD τ sig) → Buf (Elt Ideal) ℓ) (c : Dev nD) (k : Fin 1024) (n : Fin 8832) :
    (V m c main_v17 (ix2 k n) : EReal) = place (fun j => (m ((c : Thread nD τ).loc main_arg3) : Vec Ideal S1x1024x8736 .f32) (ix3 0 k j)) n := by
  have e : V m c main_v17 = (shapeCast S1024x8832 (truncf (F := Ideal) .bf16 (joinedOf (m ((c : Thread nD τ).loc main_arg3))) bitsLt_bf16_f32)
      shapeCasts_S1x1024x8832_S1024x8832 : Vec Ideal S1024x8832 .bf16) := by
    show StableHlo.after hostOpsNamed (fun b => m (c, b)) (Proc.devRef .tc main_v17) = _
    after_reads_simp
    rfl
  rw [e, ← joinedOf_apply]
  generalize joinedOf _ = B
  pointwise

end Cert.SProj
-- ==== Proof.SProj.Kernel.lean ====
/-
  THE KERNEL'S INPUT PROJECTION AT THE SAMPLE'S SHAPES: each grid point's block of the result, and so the whole array, is the modulated norm of
  the rows against the placed columns of the weights.
-/
module

public import proofs.«01_k».proof.Proof.Gen.Kernel5Ideal.Value
public import proofs.«01_k».proof.Proof.SProj.Weights
public import Idealize.ShloMosaic.Lib.Pipeline.ValueKit

@[expose] public section

set_option maxRecDepth 16384

noncomputable section

namespace Cert.SProj

open Idealize.ShloMosaic Idealize.ShloMosaic.TcCoe Cert.Kernel5Ideal Cert.Kernel5Ideal.Gen Cert.Kernel5Ideal.Value
open Cert.Layer

variable (m : (ℓ : Loc nD τ sig) → Buf (Elt Ideal) ℓ)

/-- The rows, -/
abbrev argX (c : Dev nD) : (⟨3, ![128, 8, 1024]⟩ : Shape).Idx → EReal := m ((c : Thread nD τ).loc main_arg0)
/-- the modulation, -/
abbrev argM (c : Dev nD) : (⟨2, ![128, 6144]⟩ : Shape).Idx → EReal := m ((c : Thread nD τ).loc main_arg1)
/-- the norm's gain, -/
abbrev argG (c : Dev nD) : (⟨1, ![1024]⟩ : Shape).Idx → EReal := m ((c : Thread nD τ).loc main_arg2)
/-- and the projection's weights. -/
abbrev argW (c : Dev nD) : (⟨3, ![1, 1024, 8736]⟩ : Shape).Idx → EReal := m ((c : Thread nD τ).loc main_arg3)

/-- The windows' block indices at each point. -/
theorem idx : ∀ t : Fin cfg0.N, win0_0.index t = ![t.val % 2, 0, 0] ∧ win0_1.index t = ![t.val % 2, 0, 0]
    ∧ win0_2.index t = ![t.val % 2, 0, 1] ∧ win0_3.index t = ![0, 0, 0] ∧ win0_4.index t = ![0, t.val / 2]
    ∧ win0_5.index t = ![t.val % 2, t.val / 2] :=
  (by decide +kernel : ∀ t : Fin grid0.N, _)

/-- A grid point's number is below 6. -/
theorem lt_6 (t : Fin cfg0.N) : t.val < 6 := lt_of_lt_of_eq t.isLt N_0

/-- The block of rows, -/
theorem blk0 (c : Dev nD) (t : Fin cfg0.N) (s : Fin 64) (r : Fin 8) (d : Fin 1024) :
    iblk m c 0 t (ix3 s r d) = argX m c (ix3 ⟨64 * (t.val % 2) + s.val, by omega⟩ r d) := by
  blk_point [iblk, V, idx t]

/-- the modulation read as shift -/
theorem blk1 (c : Dev nD) (t : Fin cfg0.N) (s : Fin 64) (d : Fin 1024) :
    iblk m c 1 t (ix3 s 0 d) = argM m c (ix2 ⟨64 * (t.val % 2) + s.val, by omega⟩ ⟨d.val, by omega⟩) := by
  have e : iblk m c 1 t (ix3 s 0 d) = V m c main_v16 (ix3 ⟨64 * (t.val % 2) + s.val, by omega⟩ 0 ⟨d.val, by omega⟩) := by
    blk_ext [iblk, idx t]
  rw [e]
  simp only [V, hostOps0, List.flatten_cons, List.flatten_nil, List.append_nil, List.cons_append, List.nil_append]
  entry_read
  pointwise

/-- and as scale, -/
theorem blk2 (c : Dev nD) (t : Fin cfg0.N) (s : Fin 64) (d : Fin 1024) :
    iblk m c 2 t (ix3 s 0 d) = argM m c (ix2 ⟨64 * (t.val % 2) + s.val, by omega⟩ ⟨1024 + d.val, by omega⟩) := by
  have e : iblk m c 2 t (ix3 s 0 d) = V m c main_v16 (ix3 ⟨64 * (t.val % 2) + s.val, by omega⟩ 0 ⟨1024 + d.val, by omega⟩) := by
    blk_ext [iblk, idx t]
  rw [e]
  simp only [V, hostOps0, List.flatten_cons, List.flatten_nil, List.append_nil, List.cons_append, List.nil_append]
  entry_read
  pointwise

/-- the gain, -/
theorem blk3 (c : Dev nD) (t : Fin cfg0.N) (d : Fin 1024) : iblk m c 3 t (ix3 0 0 d) = argG m c (ix1 d) := by
  have e : iblk m c 3 t (ix3 0 0 d) = V m c main_v18 (ix3 0 0 d) := by
    blk_ext [iblk, idx t]
  rw [e]
  simp only [V, hostOps0, List.flatten_cons, List.flatten_nil, List.append_nil, List.cons_append, List.nil_append]
  entry_read
  pointwise

/-- and the columns of the weights, placed. -/
theorem blk4 (c : Dev nD) (t : Fin cfg0.N) (k : Fin 1024) (n : Fin 2944) (h : 2944 * (t.val / 2) + n.val < 8832) :
    (iblk m c 4 t (ix2 k n) : EReal) = place (fun j => argW m c (ix3 0 k j)) ⟨2944 * (t.val / 2) + n.val, h⟩ := by
  have e : iblk m c 4 t (ix2 k n) = V m c main_v17 (ix2 k ⟨2944 * (t.val / 2) + n.val, h⟩) := by
    blk_ext [iblk, idx t]
  rw [e]
  exact entry_weights m c k _

/-- The sequence of a row of a block -/
abbrev seqOf (r : Fin 512) : Fin 64 := ⟨r.val / 8, by omega⟩
/-- and its row there. -/
abbrev rowOf (r : Fin 512) : Fin 8 := ⟨r.val % 8, by omega⟩

/-- The body's block, from its operands' values. -/
theorem pay_apply (v0 : Vec Ideal S64x8x1024 .f32) (v1 : Vec Ideal S1x1x1024 .f32) (v15 v21 : Vec Ideal S64x1x1024 .f32) (v27 : Vec Ideal S1024x2944 .bf16)
    (r : Fin 512) (n : Fin 2944) :
    (k0_pay1 v0 v1 v15 v21 v27 (ix2 r n) : EReal)
      = ∑ k : Fin 1024, modulated (fun d => v0 (ix3 (seqOf r) (rowOf r) d)) (fun d => v1 (ix3 0 0 d)) (fun d => v15 (ix3 (seqOf r) 0 d))
          (fun d => v21 (ix3 (seqOf r) 0 d)) k * v27 (ix2 k n) := by
  pointwise [k0_pay1]
  rfl

/-- The block of the whole result at a grid point. -/
theorem pay_point (c : Dev nD) (t : Fin cfg0.N) (r : Fin 512) (n : Fin 2944) (p : Fin 1024) (q : Fin 8832)
    (hp : p.val = 512 * (t.val % 2) + r.val) (hq : q.val = 2944 * (t.val / 2) + n.val) :
    (k0_pay1 (iblk m c 0 t) (iblk m c 3 t) (iblk m c 2 t) (iblk m c 1 t) (iblk m c 4 t) (ix2 r n) : EReal)
      = sProjAll (argX m c) (argM m c) (argG m c) (argW m c) (ix2 p q) := by
  have eb : (⟨p.val / 8, by omega⟩ : Fin 128) = ⟨64 * (t.val % 2) + (seqOf r).val, by omega⟩ :=
    Fin.ext (by show p.val / 8 = 64 * (t.val % 2) + r.val / 8; omega)
  have el : (⟨p.val % 8, by omega⟩ : Fin 8) = rowOf r := Fin.ext (by show p.val % 8 = r.val % 8; omega)
  have eq : q = ⟨2944 * (t.val / 2) + n.val, by omega⟩ := Fin.ext hq
  rw [pay_apply]
  show _ = sProj _ _ _ _ ⟨p.val / 8, _⟩ ⟨p.val % 8, _⟩ q
  rw [eb, el, eq]
  unfold sProj
  rw [← sum_place]
  simp only [blk0, blk1, blk2, blk3, blk4 m c t _ n (by omega)]

/-- The kernel's result array. -/
theorem kernel_u (c : Dev nD) :
    (dats m 0 c).arrAt 5 (cfgs 0).N = (sProjAll (argX m c) (argM m c) (argG m c) (argW m c) : S1024x8832.Idx → EReal) := by
  refine (dats m 0 c).arrAt_eq_of_covers 5 _ (by decide +kernel) fun t hf y => ?_
  have ht := lt_6 t
  have e0 : win0_5.index t 0 = t.val % 2 := by rw [(idx t).2.2.2.2.2]; rfl
  have e1 : win0_5.index t 1 = t.val / 2 := by rw [(idx t).2.2.2.2.2]; rfl
  have h0 : ∀ y : S512x2944.Idx, ((((win0 5).blk t).view.emb y : S1024x8832.Idx) 0).val = 512 * (t.val % 2) + (y 0).val := fun y => by
    blk_simp
    rw [e0]; omega
  have h1 : ∀ y : S512x2944.Idx, ((((win0 5).blk t).view.emb y : S1024x8832.Idx) 1).val = 2944 * (t.val / 2) + (y 1).val := fun y => by
    blk_simp
    rw [e1]; omega
  rw [after0_5]
  frame_out
  idx_vars y
  exact (pay_point m c t y0 y1 _ _ (h0 (ix2 y0 y1)) (h1 (ix2 y0 y1))).trans
    (congrArg (sProjAll (argX m c) (argM m c) (argG m c) (argW m c)) (eq_ix2 _).symm)

end Cert.SProj
-- ==== Proof.SProj.Ref.lean ====
/-
  THE REFERENCE'S INPUT PROJECTION AT THE SAMPLE'S SHAPES is the kernel's: the modulated norm of the rows against the weights, its pieces joined
  in the order that the kernels read.
-/
module

public import proofs.«01_k».proof.Proof.Gen.Reference5Ideal.Run
public import proofs.«01_k».proof.Proof.Layer.SampleSpec

@[expose] public section

set_option maxRecDepth 16384

noncomputable section

namespace Cert.SProj.Ref

open Idealize.ShloMosaic Idealize.ShloMosaic.TcCoe Cert.Reference5Ideal Cert.Reference5Ideal.Gen Cert.Reference5Ideal.Value Cert.Layer

variable (m : (ℓ : Loc nD τ sig) → Buf (Elt Ideal) ℓ)

/-- The rows, -/
abbrev argX (c : Dev nD) : (⟨3, ![128, 8, 1024]⟩ : Shape).Idx → EReal := m ((c : Thread nD τ).loc main_arg0)
/-- the modulation, -/
abbrev argM (c : Dev nD) : (⟨2, ![128, 6144]⟩ : Shape).Idx → EReal := m ((c : Thread nD τ).loc main_arg1)
/-- the norm's gain, -/
abbrev argG (c : Dev nD) : (⟨1, ![1024]⟩ : Shape).Idx → EReal := m ((c : Thread nD τ).loc main_arg2)
/-- and the projection's weights. -/
abbrev argW (c : Dev nD) : (⟨3, ![1, 1024, 8736]⟩ : Shape).Idx → EReal := m ((c : Thread nD τ).loc main_arg3)

/-- The projection before its pieces are joined. -/
def plain (X : Vec Ideal S128x8x1024 .f32) (M : Vec Ideal S128x6144 .f32) (g : Vec Ideal S1024 .f32) (W : Vec Ideal S1x1024x8736 .f32) :
    Vec Ideal S128x8x8736 .f32 :=
  Host.dotGeneral (φ₂ := .f32) dot_S128x8x1024_S1024x8736_S128x8x8736_2_0_01_1_n_n none (addf (mulf (mulf (mulf X (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf X X) (constant (F := Ideal) S_ .f32 0x00000000#32) reducesTo_S128x8x1024_S128x8_d2 h_S_)) (broadcastInDim S128x8x1 ![] bcast_S_S128x8x1 (constant (F := Ideal) S_ .f32 0x44800000#32))) (broadcastInDim S128x8x1 ![] bcast_S_S128x8x1 (constant (F := Ideal) S_ .f32 0x358637BD#32)))))) (broadcastInDim S128x8x1024 ![0, 1, 2] bcast_S1x1x1024_S128x8x1024_0_1_2 (broadcastInDim S1x1x1024 ![2] bcast_S1024_S1x1x1024_2 g))) (broadcastInDim S128x8x1024 ![0, 1, 2] bcast_S128x1x1024_S128x8x1024_0_1_2 (addf (broadcastInDim S128x1x1024 ![] bcast_S_S128x1x1024 (constant (F := Ideal) S_ .f32 0x3F800000#32)) (extractStridedSlice S128x1x1024 ![0, 0, 1024] (broadcastInDim S128x1x6144 ![0, 2] bcast_S128x6144_S128x1x6144_0_2 M) slices_S128x1x6144_S128x1x1024_0_0_1024)))) (broadcastInDim S128x8x1024 ![0, 1, 2] bcast_S128x1x1024_S128x8x1024_0_1_2 (extractStridedSlice S128x1x1024 ![0, 0, 0] (broadcastInDim S128x1x6144 ![0, 2] bcast_S128x6144_S128x1x6144_0_2 M) slices_S128x1x6144_S128x1x1024_0_0_0))) (shapeCast _ W shapeCasts_S1x1024x8736_S1024x8736)

/-- Its pieces joined. -/
def joinedOf (A : Vec Ideal S128x8x8736 .f32) : Vec Ideal S1024x8832 .f32 :=
  shapeCast _ ((concatenate S128x8x8832 2 [⟨S128x8x512, ((extractStridedSlice S128x8x512 ![0, 0, 0] A slices_S128x8x8736_S128x8x512_0_0_0) : (⟨S128x8x512, .f32⟩ : BufTy).Contents (Elt Ideal))⟩, ⟨S128x8x512, ((extractStridedSlice S128x8x512 ![0, 0, 512] A slices_S128x8x8736_S128x8x512_0_0_512) : (⟨S128x8x512, .f32⟩ : BufTy).Contents (Elt Ideal))⟩, ⟨S128x8x512, ((extractStridedSlice S128x8x512 ![0, 0, 1024] A slices_S128x8x8736_S128x8x512_0_0_1024) : (⟨S128x8x512, .f32⟩ : BufTy).Contents (Elt Ideal))⟩, ⟨S128x8x512, ((extractStridedSlice S128x8x512 ![0, 0, 1536] A slices_S128x8x8736_S128x8x512_0_0_1536) : (⟨S128x8x512, .f32⟩ : BufTy).Contents (Elt Ideal))⟩, ⟨S128x8x1536, ((extractStridedSlice S128x8x1536 ![0, 0, 3608] A slices_S128x8x8736_S128x8x1536_0_0_3608) : (⟨S128x8x1536, .f32⟩ : BufTy).Contents (Elt Ideal))⟩, ⟨S128x8x512, ((extractStridedSlice S128x8x512 ![0, 0, 5152] A slices_S128x8x8736_S128x8x512_0_0_5152) : (⟨S128x8x512, .f32⟩ : BufTy).Contents (Elt Ideal))⟩, ⟨S128x8x3072, ((extractStridedSlice S128x8x3072 ![0, 0, 5664] A slices_S128x8x8736_S128x8x3072_0_0_5664) : (⟨S128x8x3072, .f32⟩ : BufTy).Contents (Elt Ideal))⟩, ⟨S128x8x1024, ((extractStridedSlice S128x8x1024 ![0, 0, 2576] A slices_S128x8x8736_S128x8x1024_0_0_2576) : (⟨S128x8x1024, .f32⟩ : BufTy).Contents (Elt Ideal))⟩, ⟨S128x8x512, ((extractStridedSlice S128x8x512 ![0, 0, 2064] A slices_S128x8x8736_S128x8x512_0_0_2064) : (⟨S128x8x512, .f32⟩ : BufTy).Contents (Elt Ideal))⟩, ⟨S128x8x16, ((extractStridedSlice S128x8x16 ![0, 0, 2048] A slices_S128x8x8736_S128x8x16_0_0_2048) : (⟨S128x8x16, .f32⟩ : BufTy).Contents (Elt Ideal))⟩, ⟨S128x8x8, ((extractStridedSlice S128x8x8 ![0, 0, 3600] A slices_S128x8x8736_S128x8x8_0_0_3600) : (⟨S128x8x8, .f32⟩ : BufTy).Contents (Elt Ideal))⟩, ⟨S128x8x4, ((extractStridedSlice S128x8x4 ![0, 0, 5144] A slices_S128x8x8736_S128x8x4_0_0_5144) : (⟨S128x8x4, .f32⟩ : BufTy).Contents (Elt Ideal))⟩, ⟨S128x8x4, ((extractStridedSlice S128x8x4 ![0, 0, 5148] A slices_S128x8x8736_S128x8x4_0_0_5148) : (⟨S128x8x4, .f32⟩ : BufTy).Contents (Elt Ideal))⟩, ⟨S128x8x96, ((broadcastInDim S128x8x96 ![] bcast_S_S128x8x96 (constant (F := Ideal) S_ .f32 0x00000000#32)) : (⟨S128x8x96, .f32⟩ : BufTy).Contents (Elt Ideal))⟩] concatenates_S128x8x512_S128x8x512_S128x8x512_S128x8x512_S128x8x1536_S128x8x512_S128x8x3072_S128x8x1024_S128x8x512_S128x8x16_S128x8x8_S128x8x4_S128x8x4_S128x8x96_S128x8x8832_d2 : (⟨S128x8x8832, .f32⟩ : BufTy).Contents (Elt Ideal))) shapeCasts_S128x8x8832_S1024x8832

/-- An element of the projection. -/
theorem plain_apply (X : Vec Ideal S128x8x1024 .f32) (M : Vec Ideal S128x6144 .f32) (g : Vec Ideal S1024 .f32) (W : Vec Ideal S1x1024x8736 .f32)
    (b : Fin 128) (l : Fin 8) (j : Fin 8736) :
    (plain X M g W (ix3 b l j) : EReal) = ∑ k, modulated (fun d => X (ix3 b l d)) (fun d => g (ix1 d))
      (fun d => M (ix2 b ⟨1024 + d.val, by omega⟩)) (fun d => M (ix2 b ⟨d.val, by omega⟩)) k * W (ix3 0 k j) := by
  unfold plain
  pointwise
  rfl

/-- The joined pieces at an index. -/
theorem joinedOf_apply (A : Vec Ideal S128x8x8736 .f32) (p : Fin 1024) (n : Fin 8832) :
    (joinedOf A (ix2 p n) : EReal) = place (fun j => A (ix3 ⟨p.val / 8, by omega⟩ ⟨p.val % 8, by omega⟩ j)) n := by
  unfold joinedOf
  pointwise
  simp only [Nat.sub_sub, Nat.reduceAdd]
  rfl

/-- The reference's result. -/
theorem ref_u (c : Dev nD) : res_out0 m c = sProjAll (argX m c) (argM m c) (argG m c) (argW m c) := by
  have e : res_main_v43 m c = joinedOf (plain (argX m c) (argM m c) (argG m c) (argW m c)) := by
    unfold res_main_v43 joinedOf plain
    rfl
  funext y
  idx_vars y
  show res_main_v43 m c (ix2 y0 y1) = _
  rw [e, joinedOf_apply]
  simp only [plain_apply]
  rfl

end Cert.SProj.Ref
-- ==== Proof.SOut.Payload.lean ====
/-
  THE OUTPUT STAGE'S BODY, AT THE SAMPLE'S SHAPES, at an index of its block: each named value of the body is the row operation of
  Layer/OutSpec.lean at its operands' rows.
-/
module

public import proofs.«01_k».proof.Proof.Gen.Kernel6Ideal.Frame
public import proofs.«01_k».proof.Proof.Layer.SampleSpec

@[expose] public section

set_option maxRecDepth 16384

noncomputable section

namespace Cert.SOut

open Idealize.ShloMosaic Cert.Kernel6Ideal Cert.Kernel6Ideal.Gen Cert.Layer

/-- The sequence of a row of a block -/
abbrev seqOf (r : Fin 256) : Fin 32 := ⟨r.val / 8, by omega⟩
/-- and its row there. -/
abbrev rowOf (r : Fin 256) : Fin 8 := ⟨r.val % 8, by omega⟩

/-- The first two branches. -/
theorem pay2_apply (z0 z1 : Vec Ideal S256x1024 .f32) (y0 y1 : Vec Ideal S256x512 .bf16) (w0 w1 : Vec Ideal S1x512x1024 .bf16)
    (r : Fin 256) (e : Fin 1024) :
    (k0_pay2 z0 y0 w0 z1 y1 w1 (ix2 r e) : EReal)
      = branch (fun e => z0 (ix2 r e)) (fun k => y0 (ix2 r k)) (fun k e => w0 (ix3 0 k e)) e
        + branch (fun e => z1 (ix2 r e)) (fun k => y1 (ix2 r k)) (fun k e => w1 (ix3 0 k e)) e := by
  pointwise [k0_pay2]
  simp only [zero_sub]
  rfl

/-- The row after the mixers. -/
theorem pay5_apply (v26 : FVec Ideal S256x1024 .f32) (z2 : Vec Ideal S256x1024 .f32) (y2 : Vec Ideal S256x512 .bf16)
    (w2 : Vec Ideal S1x512x1024 .bf16) (wo : Vec Ideal S1024x1024 .bf16) (x : Vec Ideal S32x8x1024 .f32)
    (g : Vec Ideal S1x1024 .f32) (gt : Vec Ideal S32x1x1024 .f32) (r : Fin 256) (d : Fin 1024) :
    (k0_pay5 v26 (k0_pay3 z2) k0_pay4 y2 w2 wo x g gt (ix2 r d) : EReal)
      = resid (fun d => x (ix3 (seqOf r) (rowOf r) d))
          (through (fun e => v26 (ix2 r e) + branch (fun e => z2 (ix2 r e)) (fun k => y2 (ix2 r k)) (fun k e => w2 (ix3 0 k e)) e)
            (fun e d => wo (ix2 e d)))
          (fun d => g (ix2 0 d)) (fun d => gt (ix3 (seqOf r) 0 d)) d := by
  pointwise [k0_pay5, k0_pay3, k0_pay4]
  simp only [zero_sub]
  rfl

/-- The row that the feed-forward block reads. -/
theorem pay6_apply (x1 : FVec Ideal S256x1024 .f32) (g : Vec Ideal S1x1024 .f32) (sc sh : Vec Ideal S32x1x1024 .f32)
    (r : Fin 256) (d : Fin 1024) :
    (k0_pay6 x1 g sc sh (ix2 r d) : EReal)
      = modulated (fun d => x1 (ix2 r d)) (fun d => g (ix2 0 d)) (fun d => sc (ix3 (seqOf r) 0 d)) (fun d => sh (ix3 (seqOf r) 0 d)) d := by
  pointwise [k0_pay6]
  rfl

section Hidden
variable (x1 : FVec Ideal S256x1024 .f32) (g : Vec Ideal S1x1024 .f32) (sc sh : Vec Ideal S32x1x1024 .f32)
  (w : Vec Ideal S1024x1408 .bf16) (r : Fin 256) (j : Fin 1408)

/-- The hidden entries' first factor, -/
theorem pay7_apply :
    (k0_pay7 x1 g sc sh w (ix2 r j) : EReal) = ∑ k : Fin 1024, (k0_pay6 x1 g sc sh (ix2 r k) : EReal) * w (ix2 k j) := by
  unfold k0_pay7
  generalize k0_pay6 x1 g sc sh = h
  pointwise

/-- their last, -/
theorem pay8_apply :
    (k0_pay8 x1 g sc sh w (ix2 r j) : EReal) = ∑ k : Fin 1024, (k0_pay6 x1 g sc sh (ix2 r k) : EReal) * w (ix2 k j) := by
  unfold k0_pay8
  generalize k0_pay6 x1 g sc sh = h
  pointwise

/-- and the gate between them. -/
theorem pay9_apply : (k0_pay9 x1 g sc sh w (ix2 r j) : EReal) = gate (k0_pay7 x1 g sc sh w (ix2 r j)) := by
  unfold k0_pay9
  generalize k0_pay7 x1 g sc sh w = h
  pointwise
  simp only [zero_sub]
  rfl

end Hidden

/-- The feed-forward block's two halves, normed. -/
theorem pay10_apply (h : FVec Ideal S256x1024 .bf16) (a b s : FVec Ideal S256x1408 .f32) (wf wf' : Vec Ideal S1408x1024 .bf16)
    (wa wb : Vec Ideal S1024x1408 .bf16) (g : Vec Ideal S1x1024 .f32) (r : Fin 256) (d : Fin 1024) :
    (k0_pay10 h a b s wf wa wb wf' g (ix2 r d) : EReal)
      = rms (fun d => (∑ j : Fin 1408, (a (ix2 r j) * s (ix2 r j) * b (ix2 r j) : EReal) * wf (ix2 j d))
          + ∑ j : Fin 1408, ((∑ k : Fin 1024, (h (ix2 r k) : EReal) * wa (ix2 k j)) * gate (∑ k : Fin 1024, (h (ix2 r k) : EReal) * wa (ix2 k j))
            * ∑ k : Fin 1024, (h (ix2 r k) : EReal) * wb (ix2 k j)) * wf' (ix2 j d)) (fun d => g (ix2 0 d)) d := by
  pointwise [k0_pay10]
  simp only [zero_sub]
  rfl

/-- The result from the two residuals. -/
theorem pay1_apply (x1 f : FVec Ideal S256x1024 .f32) (gt : Vec Ideal S32x1x1024 .f32) (s : Fin 32) (l : Fin 8) (d : Fin 1024) :
    (k0_pay1 x1 f gt (ix3 s l d) : EReal)
      = x1 (ix2 ⟨s.val * 8 + l.val, by omega⟩ d) + f (ix2 ⟨s.val * 8 + l.val, by omega⟩ d) * gt (ix3 s 0 d) := by
  pointwise [k0_pay1]

end Cert.SOut
-- ==== Proof.SOut.Blocks.lean ====
/-
  THE OUTPUT STAGE'S BLOCKS AT THE SAMPLE'S SHAPES: what each window holds at a grid point, and the parts of them that the body loads, as entries
  of the arguments.
-/
module

public import proofs.«01_k».proof.Proof.Gen.Kernel6Ideal.Value
public import proofs.«01_k».proof.Proof.SOut.Payload
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.SOut

open Idealize.ShloMosaic Idealize.ShloMosaic.TcCoe Cert.Kernel6Ideal Cert.Kernel6Ideal.Gen Cert.Kernel6Ideal.Value
open Cert.Layer

variable (m : (ℓ : Loc nD τ sig) → Buf (Elt Ideal) ℓ)

/-- The rows, -/
abbrev argX (c : Dev nD) : (⟨3, ![128, 8, 1024]⟩ : Shape).Idx → EReal := m ((c : Thread nD τ).loc main_arg0)
/-- the three branches, -/
abbrev argY0 (c : Dev nD) : (⟨2, ![1024, 512]⟩ : Shape).Idx → EReal := m ((c : Thread nD τ).loc main_arg1)
/-- (the second) -/
abbrev argY1 (c : Dev nD) : (⟨2, ![1024, 512]⟩ : Shape).Idx → EReal := m ((c : Thread nD τ).loc main_arg2)
/-- (the third) -/
abbrev argY2 (c : Dev nD) : (⟨2, ![1024, 512]⟩ : Shape).Idx → EReal := m ((c : Thread nD τ).loc main_arg3)
/-- the projected rows, -/
abbrev argU (c : Dev nD) : (⟨2, ![1024, 8832]⟩ : Shape).Idx → EReal := m ((c : Thread nD τ).loc main_arg4)
/-- the modulation, -/
abbrev argM (c : Dev nD) : (⟨2, ![128, 6144]⟩ : Shape).Idx → EReal := m ((c : Thread nD τ).loc main_arg5)
/-- the gain after the mixers, -/
abbrev argG1 (c : Dev nD) : (⟨1, ![1024]⟩ : Shape).Idx → EReal := m ((c : Thread nD τ).loc main_arg6)
/-- before the feed-forward block -/
abbrev argG2 (c : Dev nD) : (⟨1, ![1024]⟩ : Shape).Idx → EReal := m ((c : Thread nD τ).loc main_arg7)
/-- and after it, -/
abbrev argG3 (c : Dev nD) : (⟨1, ![1024]⟩ : Shape).Idx → EReal := m ((c : Thread nD τ).loc main_arg8)
/-- the branches' weights, -/
abbrev argWb (c : Dev nD) : (⟨3, ![3, 512, 1024]⟩ : Shape).Idx → EReal := m ((c : Thread nD τ).loc main_arg9)
/-- the merge's weights -/
abbrev argWo (c : Dev nD) : (⟨2, ![1024, 1024]⟩ : Shape).Idx → EReal := m ((c : Thread nD τ).loc main_arg10)
/-- and the feed-forward block's, in -/
abbrev argWi (c : Dev nD) : (⟨2, ![1024, 5632]⟩ : Shape).Idx → EReal := m ((c : Thread nD τ).loc main_arg11)
/-- and out. -/
abbrev argWf (c : Dev nD) : (⟨2, ![2816, 1024]⟩ : Shape).Idx → EReal := m ((c : Thread nD τ).loc main_arg12)

/-- The windows' block indices at each point. -/
theorem idx : ∀ t : Fin cfg0.N, win0_0.index t = ![t.val, 0, 0] ∧ win0_1.index t = ![t.val, 0]
    ∧ win0_2.index t = ![t.val, 0] ∧ win0_3.index t = ![t.val, 0] ∧ win0_4.index t = ![t.val, 4] ∧ win0_5.index t = ![t.val, 5]
    ∧ win0_6.index t = ![t.val, 6] ∧ win0_7.index t = ![t.val, 0, 2] ∧ win0_8.index t = ![t.val, 0, 3]
    ∧ win0_9.index t = ![t.val, 0, 4] ∧ win0_10.index t = ![t.val, 0, 5] ∧ win0_11.index t = ![0, 0]
    ∧ win0_12.index t = ![0, 0] ∧ win0_13.index t = ![0, 0] ∧ win0_14.index t = ![0, 0, 0] ∧ win0_15.index t = ![0, 0]
    ∧ win0_16.index t = ![0, 0] ∧ win0_17.index t = ![0, 0] ∧ win0_18.index t = ![t.val, 0, 0] :=
  (by decide +kernel : ∀ t : Fin grid0.N, _)

/-- A grid point's number is below 4. -/
theorem lt_4 (t : Fin cfg0.N) : t.val < 4 := lt_of_lt_of_eq t.isLt N_0

/-- A sequence of a grid point -/
abbrev bOf (t : Fin cfg0.N) (s : Fin 32) : Fin 128 := ⟨32 * t.val + s.val, by have := lt_4 t; omega⟩
/-- and the flat number of a row of its block. -/
abbrev fOf (t : Fin cfg0.N) (r : Fin 256) : Fin 1024 := sFlat (bOf t (seqOf r)) (rowOf r)

variable (c : Dev nD) (t : Fin cfg0.N)

/-- The block of rows, -/
theorem blk0 (s : Fin 32) (l : Fin 8) (d : Fin 1024) : iblk m c 0 t (ix3 s l d) = argX m c (ix3 (bOf t s) l d) := by
  have := lt_4 t
  blk_point [iblk, V, idx t]
/-- the branches, -/
theorem blk1 (r : Fin 256) (k : Fin 512) : iblk m c 1 t (ix2 r k) = argY0 m c (ix2 (fOf t r) k) := by
  have := lt_4 t
  blk_point [iblk, V, idx t]
theorem blk2 (r : Fin 256) (k : Fin 512) : iblk m c 2 t (ix2 r k) = argY1 m c (ix2 (fOf t r) k) := by
  have := lt_4 t
  blk_point [iblk, V, idx t]
theorem blk3 (r : Fin 256) (k : Fin 512) : iblk m c 3 t (ix2 r k) = argY2 m c (ix2 (fOf t r) k) := by
  have := lt_4 t
  blk_point [iblk, V, idx t]
/-- their gates, -/
theorem blk4 (r : Fin 256) (e : Fin 1024) : X0_4 m c t (ix2 r e) = argU m c (ix2 (fOf t r) (gcol 0 e)) := by
  have := lt_4 t
  unfold X0_4 Pipeline.Window.fill
  rw [dif_pos (moved0_4 t _)]
  show _ = argU m c (ix2 _ ⟨4096 + (0 * 1024 + e.val), _⟩)
  blk_point [iblk, V, idx t]
theorem blk5 (r : Fin 256) (e : Fin 1024) : X0_5 m c t (ix2 r e) = argU m c (ix2 (fOf t r) (gcol 1 e)) := by
  have := lt_4 t
  unfold X0_5 Pipeline.Window.fill
  rw [dif_pos (moved0_5 t _)]
  show _ = argU m c (ix2 _ ⟨4096 + (1 * 1024 + e.val), _⟩)
  blk_point [iblk, V, idx t]
theorem blk6 (r : Fin 256) (e : Fin 1024) : X0_6 m c t (ix2 r e) = argU m c (ix2 (fOf t r) (gcol 2 e)) := by
  have := lt_4 t
  unfold X0_6 Pipeline.Window.fill
  rw [dif_pos (moved0_6 t _)]
  show _ = argU m c (ix2 _ ⟨4096 + (2 * 1024 + e.val), _⟩)
  blk_point [iblk, V, idx t]

/-- The modulation: the first gate, -/
theorem blk7 (s : Fin 32) (d : Fin 1024) : iblk m c 7 t (ix3 s 0 d) = argM m c (ix2 (bOf t s) ⟨2048 + d.val, by omega⟩) := by
  have := lt_4 t
  have e : iblk m c 7 t (ix3 s 0 d) = V m c main_v0 (ix3 (bOf t s) 0 ⟨2048 + d.val, by omega⟩) := by
    blk_ext [iblk, idx t]
  rw [e]
  simp only [V, hostOps0, List.flatten_cons, List.flatten_nil, List.append_nil, List.cons_append, List.nil_append]
  entry_read
  pointwise

/-- the shift, -/
theorem blk8 (s : Fin 32) (d : Fin 1024) : iblk m c 8 t (ix3 s 0 d) = argM m c (ix2 (bOf t s) ⟨3072 + d.val, by omega⟩) := by
  have := lt_4 t
  have e : iblk m c 8 t (ix3 s 0 d) = V m c main_v0 (ix3 (bOf t s) 0 ⟨3072 + d.val, by omega⟩) := by
    blk_ext [iblk, idx t]
  rw [e]
  simp only [V, hostOps0, List.flatten_cons, List.flatten_nil, List.append_nil, List.cons_append, List.nil_append]
  entry_read
  pointwise

/-- the scale -/
theorem blk9 (s : Fin 32) (d : Fin 1024) : iblk m c 9 t (ix3 s 0 d) = argM m c (ix2 (bOf t s) ⟨4096 + d.val, by omega⟩) := by
  have := lt_4 t
  have e : iblk m c 9 t (ix3 s 0 d) = V m c main_v0 (ix3 (bOf t s) 0 ⟨4096 + d.val, by omega⟩) := by
    blk_ext [iblk, idx t]
  rw [e]
  simp only [V, hostOps0, List.flatten_cons, List.flatten_nil, List.append_nil, List.cons_append, List.nil_append]
  entry_read
  pointwise

/-- and the second gate. -/
theorem blk10 (s : Fin 32) (d : Fin 1024) : iblk m c 10 t (ix3 s 0 d) = argM m c (ix2 (bOf t s) ⟨5120 + d.val, by omega⟩) := by
  have := lt_4 t
  have e : iblk m c 10 t (ix3 s 0 d) = V m c main_v0 (ix3 (bOf t s) 0 ⟨5120 + d.val, by omega⟩) := by
    blk_ext [iblk, idx t]
  rw [e]
  simp only [V, hostOps0, List.flatten_cons, List.flatten_nil, List.append_nil, List.cons_append, List.nil_append]
  entry_read
  pointwise

/-- The gains: after the mixers, -/
theorem blk11 (d : Fin 1024) : iblk m c 11 t (ix2 0 d) = argG1 m c (ix1 d) := by
  have e : iblk m c 11 t (ix2 0 d) = V m c main_v5 (ix2 0 d) := by
    blk_ext [iblk, idx t]
  rw [e]
  simp only [V, hostOps0, List.flatten_cons, List.flatten_nil, List.append_nil, List.cons_append, List.nil_append]
  entry_read
  pointwise

/-- before the feed-forward block, -/
theorem blk12 (d : Fin 1024) : iblk m c 12 t (ix2 0 d) = argG2 m c (ix1 d) := by
  have e : iblk m c 12 t (ix2 0 d) = V m c main_v6 (ix2 0 d) := by
    blk_ext [iblk, idx t]
  rw [e]
  simp only [V, hostOps0, List.flatten_cons, List.flatten_nil, List.append_nil, List.cons_append, List.nil_append]
  entry_read
  pointwise

/-- after it. -/
theorem blk13 (d : Fin 1024) : iblk m c 13 t (ix2 0 d) = argG3 m c (ix1 d) := by
  have e : iblk m c 13 t (ix2 0 d) = V m c main_v7 (ix2 0 d) := by
    blk_ext [iblk, idx t]
  rw [e]
  simp only [V, hostOps0, List.flatten_cons, List.flatten_nil, List.append_nil, List.cons_append, List.nil_append]
  entry_read
  pointwise

/-- The weights: the branches', -/
theorem blk14 (n : Fin 3) (k : Fin 512) (e : Fin 1024) : (iblk m c 14 t (ix3 n k e) : EReal) = argWb m c (ix3 n k e) := by
  have e : iblk m c 14 t (ix3 n k e) = V m c main_v1 (ix3 n k e) := by
    blk_ext [iblk, idx t]
  rw [e]
  simp only [V, hostOps0, List.flatten_cons, List.flatten_nil, List.append_nil, List.cons_append, List.nil_append]
  entry_read
  pointwise

/-- the merge's, -/
theorem blk15 (e d : Fin 1024) : (iblk m c 15 t (ix2 e d) : EReal) = argWo m c (ix2 e d) := by
  have e : iblk m c 15 t (ix2 e d) = V m c main_v2 (ix2 e d) := by
    blk_ext [iblk, idx t]
  rw [e]
  simp only [V, hostOps0, List.flatten_cons, List.flatten_nil, List.append_nil, List.cons_append, List.nil_append]
  entry_read
  pointwise

/-- the feed-forward block's in -/
theorem blk16 (k : Fin 1024) (j : Fin 5632) : (iblk m c 16 t (ix2 k j) : EReal) = argWi m c (ix2 k j) := by
  have e : iblk m c 16 t (ix2 k j) = V m c main_v3 (ix2 k j) := by
    blk_ext [iblk, idx t]
  rw [e]
  simp only [V, hostOps0, List.flatten_cons, List.flatten_nil, List.append_nil, List.cons_append, List.nil_append]
  entry_read
  pointwise

/-- and out. -/
theorem blk17 (j : Fin 2816) (d : Fin 1024) : (iblk m c 17 t (ix2 j d) : EReal) = argWf m c (ix2 j d) := by
  have e : iblk m c 17 t (ix2 j d) = V m c main_v4 (ix2 j d) := by
    blk_ext [iblk, idx t]
  rw [e]
  simp only [V, hostOps0, List.flatten_cons, List.flatten_nil, List.append_nil, List.cons_append, List.nil_append]
  entry_read
  pointwise

/-- A branch's part of the weights' block, -/
theorem ldb (n : Fin 3) (off : Fin 3 → ℕ) (h : off = ![n.val, 0, 0]) (inb) (k : Fin 512) (e : Fin 1024) :
    (View.ld (iblk m c 14 t) (Rect.unit off ![1, 512, 1024] inb) (ix3 0 k e) : EReal) = argWb m c (ix3 n k e) := by
  subst h
  rw [← blk14 m c t n k e]
  pointwise
/-- columns of the feed-forward block's first weights -/
theorem ldi (o : ℕ) (off : Fin 2 → ℕ) (h : off = ![0, o]) (inb) (k : Fin 1024) (j : Fin 1408) (ho : o + j.val < 5632) :
    (View.ld (iblk m c 16 t) (Rect.unit off ![1024, 1408] inb) (ix2 k j) : EReal) = argWi m c (ix2 k ⟨o + j.val, ho⟩) := by
  subst h
  rw [← blk16 m c t k ⟨o + j.val, ho⟩]
  pointwise
/-- and rows of its second. -/
theorem ldf (o : ℕ) (off : Fin 2 → ℕ) (h : off = ![o, 0]) (inb) (j : Fin 1408) (d : Fin 1024) (ho : o + j.val < 2816) :
    (View.ld (iblk m c 17 t) (Rect.unit off ![1408, 1024] inb) (ix2 j d) : EReal) = argWf m c (ix2 ⟨o + j.val, ho⟩ d) := by
  subst h
  rw [← blk17 m c t ⟨o + j.val, ho⟩ d]
  pointwise

end Cert.SOut
-- ==== Proof.SOut.Body.lean ====
/-
  ONE GRID POINT OF THE OUTPUT STAGE AT THE SAMPLE'S SHAPES: what the body leaves is the layer's output row at the point's rows.
-/
module

public import proofs.«01_k».proof.Proof.Gen.Kernel6Ideal.Value
public import proofs.«01_k».proof.Proof.SOut.Payload
public import proofs.«01_k».proof.Proof.SOut.Blocks
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.SOut

open Idealize.ShloMosaic Idealize.ShloMosaic.TcCoe Cert.Kernel6Ideal Cert.Kernel6Ideal.Gen Cert.Kernel6Ideal.Value
open Cert.Layer

variable (m : (ℓ : Loc nD τ sig) → Buf (Elt Ideal) ℓ)
variable (c : Dev nD) (t : Fin cfg0.N)

/-- The rows after the mixers, of the point's sequences, -/
abbrev x1At (r : Fin 256) : Row :=
  sAfter1 (argX m c) (argY0 m c) (argY1 m c) (argY2 m c) (argU m c) (argM m c) (argG1 m c) (argWb m c) (argWo m c) (bOf t (seqOf r)) (rowOf r)
/-- and those that the feed-forward block reads. -/
abbrev hAt (r : Fin 256) : Row :=
  sBefore2 (argX m c) (argY0 m c) (argY1 m c) (argY2 m c) (argU m c) (argM m c) (argG1 m c) (argG2 m c) (argWb m c) (argWo m c)
    (bOf t (seqOf r)) (rowOf r)

/-- The body's rows after the mixers. -/
def x1Blk : FVec Ideal S256x1024 .f32 :=
  k0_pay5
    (k0_pay2 (X0_4 m c t) (iblk m c 1 t)
      (View.ld (iblk m c 14 t) (Rect.unit ![0, 0, 0] ![1, 512, 1024] inb_S3x512x1024_S1x512x1024_0_0_0))
      (X0_5 m c t) (iblk m c 2 t)
      (View.ld (iblk m c 14 t) (Rect.unit ![1, 0, 0] ![1, 512, 1024] inb_S3x512x1024_S1x512x1024_1_0_0)))
    (k0_pay3 (X0_6 m c t)) k0_pay4 (iblk m c 3 t)
    (View.ld (iblk m c 14 t) (Rect.unit ![2, 0, 0] ![1, 512, 1024] inb_S3x512x1024_S1x512x1024_2_0_0))
    (iblk m c 15 t) (iblk m c 0 t) (iblk m c 11 t) (iblk m c 7 t)

theorem x1Blk_apply (r : Fin 256) (d : Fin 1024) : (x1Blk m c t (ix2 r d) : EReal) = x1At m c t r d := by
  unfold x1Blk
  rw [pay5_apply]
  simp only [pay2_apply, blk0, blk1, blk2, blk3, blk4, blk5, blk6, blk7, blk11, blk15]
  have w0 := ldb m c t 0 ![0, 0, 0] rfl inb_S3x512x1024_S1x512x1024_0_0_0
  have w1 := ldb m c t 1 ![1, 0, 0] rfl inb_S3x512x1024_S1x512x1024_1_0_0
  have w2 := ldb m c t 2 ![2, 0, 0] rfl inb_S3x512x1024_S1x512x1024_2_0_0
  simp only [w0, w1, w2]
  rfl

/-- The body's rows before the feed-forward block. -/
def hBlk : FVec Ideal S256x1024 .bf16 := k0_pay6 (x1Blk m c t) (iblk m c 12 t) (iblk m c 9 t) (iblk m c 8 t)

theorem hBlk_apply (r : Fin 256) (d : Fin 1024) : (hBlk m c t (ix2 r d) : EReal) = hAt m c t r d := by
  unfold hBlk
  rw [pay6_apply]
  simp only [x1Blk_apply, blk8, blk9, blk12]
  rfl

/-- The weights' columns that a hidden entry reads, both halves. -/
abbrev wiAt (k : Fin 1024) (j : Fin 5632) : EReal := argWi m c (ix2 k j)

/-- A first factor of the hidden entries, -/
theorem a_apply (r : Fin 256) (j : Fin 1408) :
    (k0_pay7 (x1Blk m c t) (iblk m c 12 t) (iblk m c 9 t) (iblk m c 8 t)
        (View.ld (iblk m c 16 t) (Rect.unit ![0, 0] ![1024, 1408] inb_S1024x5632_S1024x1408_0_0)) (ix2 r j) : EReal)
      = ∑ k, hAt m c t r k * wiAt m c k ⟨j.val, by omega⟩ := by
  rw [pay7_apply]
  refine Finset.sum_congr rfl fun k _ => ?_
  refine congrArg₂ (· * ·) (hBlk_apply m c t r k) ?_
  rw [ldi m c t 0 ![0, 0] rfl inb_S1024x5632_S1024x1408_0_0 k j (by omega)]
  exact congrArg (argWi m c) (congrArg (ix2 k) (Fin.ext (Nat.zero_add _)))

/-- and a last. -/
theorem b_apply (r : Fin 256) (j : Fin 1408) :
    (k0_pay8 (x1Blk m c t) (iblk m c 12 t) (iblk m c 9 t) (iblk m c 8 t)
        (View.ld (iblk m c 16 t) (Rect.unit ![0, 2816] ![1024, 1408] inb_S1024x5632_S1024x1408_0_2816)) (ix2 r j) : EReal)
      = ∑ k, hAt m c t r k * wiAt m c k ⟨2816 + j.val, by omega⟩ := by
  rw [pay8_apply]
  refine Finset.sum_congr rfl fun k _ => ?_
  refine congrArg₂ (· * ·) (hBlk_apply m c t r k) ?_
  exact ldi m c t 2816 ![0, 2816] rfl inb_S1024x5632_S1024x1408_0_2816 k j (by omega)

/-- The second half's columns. -/
theorem half_apply (o : ℕ) (inb) (r : Fin 256) (j : Fin 1408) (ho : o + j.val < 5632) :
    (∑ k : Fin 1024, (hBlk m c t (ix2 r k) : EReal) * View.ld (iblk m c 16 t) (Rect.unit ![0, o] ![1024, 1408] inb) (ix2 k j))
      = ∑ k, hAt m c t r k * wiAt m c k ⟨o + j.val, ho⟩ := by
  refine Finset.sum_congr rfl fun k _ => ?_
  exact congrArg₂ (· * ·) (hBlk_apply m c t r k) (ldi m c t o ![0, o] rfl inb k j ho)

/-- The feed-forward block's rows, before their norm. -/
theorem ffn_apply (r : Fin 256) (d : Fin 1024) :
    (∑ j : Fin 1408, (k0_pay7 (x1Blk m c t) (iblk m c 12 t) (iblk m c 9 t) (iblk m c 8 t)
          (View.ld (iblk m c 16 t) (Rect.unit ![0, 0] ![1024, 1408] inb_S1024x5632_S1024x1408_0_0)) (ix2 r j)
        * k0_pay9 (x1Blk m c t) (iblk m c 12 t) (iblk m c 9 t) (iblk m c 8 t)
          (View.ld (iblk m c 16 t) (Rect.unit ![0, 0] ![1024, 1408] inb_S1024x5632_S1024x1408_0_0)) (ix2 r j)
        * k0_pay8 (x1Blk m c t) (iblk m c 12 t) (iblk m c 9 t) (iblk m c 8 t)
          (View.ld (iblk m c 16 t) (Rect.unit ![0, 2816] ![1024, 1408] inb_S1024x5632_S1024x1408_0_2816)) (ix2 r j) : EReal)
        * View.ld (iblk m c 17 t) (Rect.unit ![0, 0] ![1408, 1024] inb_S2816x1024_S1408x1024_0_0) (ix2 j d))
      + (∑ j : Fin 1408, ((∑ k : Fin 1024, (hBlk m c t (ix2 r k) : EReal)
              * View.ld (iblk m c 16 t) (Rect.unit ![0, 1408] ![1024, 1408] inb_S1024x5632_S1024x1408_0_1408) (ix2 k j))
          * gate (∑ k : Fin 1024, (hBlk m c t (ix2 r k) : EReal)
              * View.ld (iblk m c 16 t) (Rect.unit ![0, 1408] ![1024, 1408] inb_S1024x5632_S1024x1408_0_1408) (ix2 k j))
          * ∑ k : Fin 1024, (hBlk m c t (ix2 r k) : EReal)
              * View.ld (iblk m c 16 t) (Rect.unit ![0, 4224] ![1024, 1408] inb_S1024x5632_S1024x1408_0_4224) (ix2 k j))
          * View.ld (iblk m c 17 t) (Rect.unit ![1408, 0] ![1408, 1024] inb_S2816x1024_S1408x1024_1408_0) (ix2 j d))
      = ffn (hAt m c t r) (wiAt m c) (fun j d => argWf m c (ix2 j d)) d := by
  rw [ffn_halves]
  refine congrArg₂ (· + ·) ?_ ?_
  · refine Finset.sum_congr rfl fun j _ => ?_
    rw [pay9_apply, a_apply, b_apply, ldf m c t 0 ![0, 0] rfl inb_S2816x1024_S1408x1024_0_0 j d (by omega)]
    refine congrArg₂ (· * ·) rfl (congrArg (argWf m c) (congrArg (fun x => ix2 x d) (Fin.ext (Nat.zero_add _))))
  · refine Finset.sum_congr rfl fun j _ => ?_
    rw [half_apply m c t 1408 _ r j (by omega), half_apply m c t 4224 _ r j (by omega),
      ldf m c t 1408 ![1408, 0] rfl inb_S2816x1024_S1408x1024_1408_0 j d (by omega)]
    have e : (⟨4224 + j.val, by omega⟩ : Fin 5632) = ⟨2816 + (1408 + j.val), by omega⟩ := Fin.ext (by show 4224 + j.val = 2816 + (1408 + j.val); omega)
    rw [e]
    rfl

/-- The body's normed feed-forward rows. -/
def fBlk : FVec Ideal S256x1024 .f32 :=
  k0_pay10 (hBlk m c t)
    (k0_pay7 (x1Blk m c t) (iblk m c 12 t) (iblk m c 9 t) (iblk m c 8 t)
      (View.ld (iblk m c 16 t) (Rect.unit ![0, 0] ![1024, 1408] inb_S1024x5632_S1024x1408_0_0)))
    (k0_pay8 (x1Blk m c t) (iblk m c 12 t) (iblk m c 9 t) (iblk m c 8 t)
      (View.ld (iblk m c 16 t) (Rect.unit ![0, 2816] ![1024, 1408] inb_S1024x5632_S1024x1408_0_2816)))
    (k0_pay9 (x1Blk m c t) (iblk m c 12 t) (iblk m c 9 t) (iblk m c 8 t)
      (View.ld (iblk m c 16 t) (Rect.unit ![0, 0] ![1024, 1408] inb_S1024x5632_S1024x1408_0_0)))
    (View.ld (iblk m c 17 t) (Rect.unit ![0, 0] ![1408, 1024] inb_S2816x1024_S1408x1024_0_0))
    (View.ld (iblk m c 16 t) (Rect.unit ![0, 1408] ![1024, 1408] inb_S1024x5632_S1024x1408_0_1408))
    (View.ld (iblk m c 16 t) (Rect.unit ![0, 4224] ![1024, 1408] inb_S1024x5632_S1024x1408_0_4224))
    (View.ld (iblk m c 17 t) (Rect.unit ![1408, 0] ![1408, 1024] inb_S2816x1024_S1408x1024_1408_0)) (iblk m c 13 t)

theorem fBlk_apply (r : Fin 256) (d : Fin 1024) :
    (fBlk m c t (ix2 r d) : EReal)
      = rms (ffn (hAt m c t r) (wiAt m c) (fun j d => argWf m c (ix2 j d))) (fun d => argG3 m c (ix1 d)) d := by
  unfold fBlk
  rw [pay10_apply]
  simp only [ffn_apply, blk13]

/-- What the body leaves is the result at the point's rows. -/
theorem body_eq (s : Fin 32) (l : Fin 8) (d : Fin 1024) :
    (outsAt0 m c t (ix3 s l d) : EReal)
      = sOutAll (argX m c) (argY0 m c) (argY1 m c) (argY2 m c) (argU m c) (argM m c) (argG1 m c) (argG2 m c) (argG3 m c)
          (argWb m c) (argWo m c) (argWi m c) (argWf m c) (ix3 (bOf t s) l d) := by
  unfold outsAt0 out0_A_18
  frame_open
  simp (disch := decide) only [↓ View.readCov_skip, ↓ View.readCov_cons_toLoadRect, ↓ View.readCov_fill]
  frame_out
  show (k0_pay1 (x1Blk m c t) (fBlk m c t) (iblk m c 10 t) (ix3 s l d) : EReal) = _
  rw [pay1_apply, x1Blk_apply, fBlk_apply, blk10]
  have es : seqOf ⟨s.val * 8 + l.val, by omega⟩ = s := Fin.ext (by show (s.val * 8 + l.val) / 8 = s.val; omega)
  have el : rowOf ⟨s.val * 8 + l.val, by omega⟩ = l := Fin.ext (by show (s.val * 8 + l.val) % 8 = l.val; omega)
  unfold x1At hAt
  rw [es, el]
  rfl

end Cert.SOut
-- ==== Proof.SOut.Kernel.lean ====
/-
  THE KERNEL'S OUTPUT STAGE AT THE SAMPLE'S SHAPES: its points' blocks cover the array, so the whole array is the layer's output.
-/
module

public import proofs.«01_k».proof.Proof.Gen.Kernel6Ideal.Value
public import proofs.«01_k».proof.Proof.SOut.Body
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.SOut

open Idealize.ShloMosaic Idealize.ShloMosaic.TcCoe Cert.Kernel6Ideal Cert.Kernel6Ideal.Gen Cert.Kernel6Ideal.Value
open Cert.Layer

variable (m : (ℓ : Loc nD τ sig) → Buf (Elt Ideal) ℓ)

/-- The block of the whole result at a grid point. -/
theorem body_point (c : Dev nD) (t : Fin cfg0.N) (s : Fin 32) (l : Fin 8) (d : Fin 1024) (i : S128x8x1024.Idx)
    (h0 : (i 0).val = 32 * t.val + s.val) (h1 : (i 1).val = l.val) (h2 : (i 2).val = d.val) :
    (outsAt0 m c t (ix3 s l d) : EReal)
      = sOutAll (argX m c) (argY0 m c) (argY1 m c) (argY2 m c) (argU m c) (argM m c) (argG1 m c) (argG2 m c) (argG3 m c)
          (argWb m c) (argWo m c) (argWi m c) (argWf m c) i := by
  have e : i = ix3 (bOf t s) l d := by
    rw [eq_ix3 i]
    exact congr (congr (congrArg ix3 (Fin.ext h0)) (Fin.ext h1)) (Fin.ext h2)
  rw [e]
  exact body_eq m c t s l d

/-- The kernel's result array. -/
theorem kernel_out (c : Dev nD) :
    (dats m 0 c).arrAt 18 (cfgs 0).N
      = (sOutAll (argX m c) (argY0 m c) (argY1 m c) (argY2 m c) (argU m c) (argM m c) (argG1 m c) (argG2 m c) (argG3 m c)
          (argWb m c) (argWo m c) (argWi m c) (argWf m c) : S128x8x1024.Idx → EReal) := by
  refine (dats m 0 c).arrAt_eq_of_covers 18 _ (by decide +kernel) fun t hf y => ?_
  have ht := lt_4 t
  have e0 : win0_18.index t 0 = t.val := by rw [(idx t).2.2.2.2.2.2.2.2.2.2.2.2.2.2.2.2.2.2]; rfl
  have e1 : win0_18.index t 1 = 0 := by rw [(idx t).2.2.2.2.2.2.2.2.2.2.2.2.2.2.2.2.2.2]; rfl
  have e2 : win0_18.index t 2 = 0 := by rw [(idx t).2.2.2.2.2.2.2.2.2.2.2.2.2.2.2.2.2.2]; rfl
  have h0 : ∀ y : S32x8x1024.Idx, ((((win0 18).blk t).view.emb y : S128x8x1024.Idx) 0).val = 32 * t.val + (y 0).val := fun y => by
    blk_simp
    rw [e0]; omega
  have h1 : ∀ y : S32x8x1024.Idx, ((((win0 18).blk t).view.emb y : S128x8x1024.Idx) 1).val = (y 1).val := fun y => by
    blk_simp
    rw [e1]; omega
  have h2 : ∀ y : S32x8x1024.Idx, ((((win0 18).blk t).view.emb y : S128x8x1024.Idx) 2).val = (y 2).val := fun y => by
    blk_simp
    rw [e2]; omega
  rw [after0_18]
  idx_vars y
  have key := body_point m c t y0 y1 y2 _ (h0 (ix3 y0 y1 y2)) (h1 (ix3 y0 y1 y2)) (h2 (ix3 y0 y1 y2))
  generalize outsAt0 m c t = A at key ⊢
  generalize sOutAll (argX m c) (argY0 m c) (argY1 m c) (argY2 m c) (argU m c) (argM m c) (argG1 m c) (argG2 m c) (argG3 m c)
    (argWb m c) (argWo m c) (argWi m c) (argWf m c) = G at key ⊢
  exact key

end Cert.SOut
-- ==== Proof.SOut.Ref.lean ====
/-
  THE REFERENCE'S OUTPUT STAGE, AT THE SAMPLE'S SHAPES, at an index: each named value of the reference is the row operation of Layer/OutSpec.lean.
-/
module

public import proofs.«01_k».proof.Proof.Gen.Reference6Ideal.Run
public import proofs.«01_k».proof.Proof.Layer.SampleSpec

@[expose] public section

set_option maxRecDepth 16384

noncomputable section

namespace Cert.SOut.Ref

open Idealize.ShloMosaic Idealize.ShloMosaic.TcCoe Idealize.ShloMosaic.StableHlo
open Cert.Reference6Ideal Cert.Reference6Ideal.Gen Cert.Reference6Ideal.Value Cert.Layer

variable (V0 : Valuation τ sig (Elt Ideal))

/-- The rows, -/
abbrev inX : (⟨3, ![128, 8, 1024]⟩ : Shape).Idx → EReal := V0 (Proc.devRef .tc main_arg0)
/-- the three branches, -/
abbrev inY0 : (⟨2, ![1024, 512]⟩ : Shape).Idx → EReal := V0 (Proc.devRef .tc main_arg1)
/-- (the second) -/
abbrev inY1 : (⟨2, ![1024, 512]⟩ : Shape).Idx → EReal := V0 (Proc.devRef .tc main_arg2)
/-- (the third) -/
abbrev inY2 : (⟨2, ![1024, 512]⟩ : Shape).Idx → EReal := V0 (Proc.devRef .tc main_arg3)
/-- the projected rows, -/
abbrev inU : (⟨2, ![1024, 8832]⟩ : Shape).Idx → EReal := V0 (Proc.devRef .tc main_arg4)
/-- the modulation, -/
abbrev inM : (⟨2, ![128, 6144]⟩ : Shape).Idx → EReal := V0 (Proc.devRef .tc main_arg5)
/-- the gain after the mixers, -/
abbrev inG1 : (⟨1, ![1024]⟩ : Shape).Idx → EReal := V0 (Proc.devRef .tc main_arg6)
/-- before the feed-forward block -/
abbrev inG2 : (⟨1, ![1024]⟩ : Shape).Idx → EReal := V0 (Proc.devRef .tc main_arg7)
/-- and after it, -/
abbrev inG3 : (⟨1, ![1024]⟩ : Shape).Idx → EReal := V0 (Proc.devRef .tc main_arg8)
/-- the branches' weights, -/
abbrev inWb : (⟨3, ![3, 512, 1024]⟩ : Shape).Idx → EReal := V0 (Proc.devRef .tc main_arg9)
/-- the merge's weights -/
abbrev inWo : (⟨2, ![1024, 1024]⟩ : Shape).Idx → EReal := V0 (Proc.devRef .tc main_arg10)
/-- and the feed-forward block's, in -/
abbrev inWi : (⟨2, ![1024, 5632]⟩ : Shape).Idx → EReal := V0 (Proc.devRef .tc main_arg11)
/-- and out. -/
abbrev inWf : (⟨2, ![2816, 1024]⟩ : Shape).Idx → EReal := V0 (Proc.devRef .tc main_arg12)

/-- The merged rows, projected. -/
theorem v27_apply (b : Fin 128) (l : Fin 8) (d : Fin 1024) :
    (res_main_v27 V0 (ix3 b l d) : EReal) = sMixed (inY0 V0) (inY1 V0) (inY2 V0) (inU V0) (inWb V0) (inWo V0) b l d := by
  unfold res_main_v27
  pointwise
  simp only [Fin.sum_univ_three]
  rfl

/-- The rows after the mixers. -/
theorem v43_apply (b : Fin 128) (l : Fin 8) (d : Fin 1024) :
    (res_main_v43 V0 (ix3 b l d) : EReal)
      = sAfter1 (inX V0) (inY0 V0) (inY1 V0) (inY2 V0) (inU V0) (inM V0) (inG1 V0) (inWb V0) (inWo V0) b l d := by
  have h := v27_apply V0 b l
  unfold res_main_v43 res_main_v0
  generalize res_main_v27 V0 = A at h ⊢
  pointwise
  simp only [h]
  rw [mul_comm]
  rfl

/-- The rows that the feed-forward block reads, through its first weights. -/
theorem v63_apply (b : Fin 128) (l : Fin 8) (j : Fin 5632) :
    (res_main_v63 V0 (ix3 b l j) : EReal)
      = ∑ k, sBefore2 (inX V0) (inY0 V0) (inY1 V0) (inY2 V0) (inU V0) (inM V0) (inG1 V0) (inG2 V0) (inWb V0) (inWo V0) b l k
          * inWi V0 (ix2 k j) := by
  have h := v43_apply V0 b l
  unfold res_main_v63 res_main_v0
  generalize res_main_v43 V0 = A at h ⊢
  pointwise
  simp only [h]
  rfl

/-- The feed-forward block's rows. -/
theorem v68_apply (b : Fin 128) (l : Fin 8) (d : Fin 1024) :
    (res_main_v68 V0 (ix3 b l d) : EReal)
      = ffn (sBefore2 (inX V0) (inY0 V0) (inY1 V0) (inY2 V0) (inU V0) (inM V0) (inG1 V0) (inG2 V0) (inWb V0) (inWo V0) b l)
          (fun k j => inWi V0 (ix2 k j)) (fun j d => inWf V0 (ix2 j d)) d := by
  have h := v63_apply V0 b l
  unfold res_main_v68 res_main_v64
  generalize res_main_v63 V0 = A at h ⊢
  pointwise
  simp only [h]
  rfl

/-- The reference's result, from the contents at its start. -/
def result : Vec Ideal S128x8x1024 .f32 :=
  addf (res_main_v43 V0) (mulf (broadcastInDim S128x8x1024 ![0, 1, 2] bcast_S128x1x1024_S128x8x1024_0_1_2 (extractStridedSlice S128x1x1024 ![0, 0, 5120] (res_main_v0 V0) slices_S128x1x6144_S128x1x1024_0_0_5120)) (mulf (mulf (res_main_v68 V0) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (res_main_v68 V0) (res_main_v68 V0)) (constant (F := Ideal) S_ .f32 0x00000000#32) reducesTo_S128x8x1024_S128x8_d2 h_S_)) (broadcastInDim S128x8x1 ![] bcast_S_S128x8x1 (constant (F := Ideal) S_ .f32 0x44800000#32))) (broadcastInDim S128x8x1 ![] bcast_S_S128x8x1 (constant (F := Ideal) S_ .f32 0x358637BD#32)))))) (broadcastInDim S128x8x1024 ![0, 1, 2] bcast_S1x1x1024_S128x8x1024_0_1_2 (broadcastInDim S1x1x1024 ![2] bcast_S1024_S1x1x1024_2 (V0 (Proc.devRef .tc main_arg8))))))

/-- It is the rows after the feed-forward block. -/
theorem result_apply (b : Fin 128) (l : Fin 8) (d : Fin 1024) :
    (result V0 (ix3 b l d) : EReal)
      = sAfter2 (inX V0) (inY0 V0) (inY1 V0) (inY2 V0) (inU V0) (inM V0) (inG1 V0) (inG2 V0) (inG3 V0) (inWb V0) (inWo V0) (inWi V0) (inWf V0)
          b l d := by
  have h := v43_apply V0 b l
  have h' := v68_apply V0 b l
  unfold result res_main_v0
  generalize res_main_v43 V0 = A at h ⊢
  generalize res_main_v68 V0 = B at h' ⊢
  pointwise
  simp only [h, h']
  rw [mul_comm (inM V0 _)]
  rfl

/-- The whole result. -/
theorem result_eq : result V0 = sOutAll (inX V0) (inY0 V0) (inY1 V0) (inY2 V0) (inU V0) (inM V0) (inG1 V0) (inG2 V0) (inG3 V0) (inWb V0) (inWo V0) (inWi V0) (inWf V0) := by
  funext y
  idx_vars y
  exact result_apply V0 y0 y1 y2

end Cert.SOut.Ref
-- ==== Proof.SGla.Mask.lean ====
/-
  THE KERNEL'S MASKS OVER A BLOCK OF 64 ROWS: eight sequences of eight rows each, of which the last four are real.
  Each mask, which the kernel builds by integer division and remainder, is decided at every row and column.
-/
module

public import proofs.«01_k».proof.Proof.Gen.Kernel7Ideal.Skeleton
public import Idealize.ShloMosaic.Lib.Pointwise

@[expose] public section

set_option maxRecDepth 16384

noncomputable section

namespace Cert.SGla

open Idealize.ShloMosaic Cert.Kernel7Ideal Cert.Kernel7Ideal.Gen

/-- The row numbers of a column of 64, -/
abbrev rowIota : IVec S64x1 32 := iota .tc S64x1 32 [0] iota_S64x1_d0_w32
/-- and the column numbers of a row of 64. -/
abbrev colIota : IVec S1x64 32 := iota .tc S1x64 32 [1] iota_S1x64_d1_w32

/-- Rows of one sequence. -/
theorem same_mask (r s : Fin 64) :
    k0_pay5 k0_pay1 k0_pay2 k0_pay3 k0_pay4 (ix2 r s) = if r.val / 8 = s.val / 8 then (1#1 : BitVec 1) else 0#1 := by
  pointwise [k0_pay5, k0_pay1, k0_pay2, k0_pay3, k0_pay4]
  revert r s
  decide +kernel

/-- Rows of one sequence, not later. -/
theorem causal_mask (r s : Fin 64) :
    k0_pay6 (iota .tc S64x64 32 [0] iota_S64x64_d0_w32) (iota .tc S64x64 32 [1] iota_S64x64_d1_w32) k0_pay1 k0_pay2 k0_pay3 k0_pay4 (ix2 r s)
      = if r.val / 8 = s.val / 8 ∧ s ≤ r then (1#1 : BitVec 1) else 0#1 := by
  pointwise [k0_pay6]
  rw [same_mask]
  revert r s
  decide +kernel

/-- The real rows. -/
theorem valid_mask (r : Fin 64) : k0_pay8 rowIota (ix2 r 0) = if 4 ≤ r.val % 8 then (1#1 : BitVec 1) else 0#1 := by
  pointwise [k0_pay8]
  revert r
  decide +kernel

/-- A selection by a mask's bit. -/
theorem select_if (p : Prop) [Decidable p] (a b : EReal) : Scalar.select (if p then (1#1 : BitVec 1) else 0#1) a b = if p then a else b := by
  by_cases h : p
  · rw [if_pos h, if_pos h]; rfl
  · rw [if_neg h, if_neg h]; rfl

/-- Rows of sequence 0. -/
theorem row_mask0 (r : Fin 64) : k0_pay11 rowIota 8#32 (k0_pay9 rowIota) (k0_pay10 rowIota) 1#32 0#32 (ix2 r 0) = if r.val / 8 = 0 then (1#1 : BitVec 1) else 0#1 := by
  pointwise [k0_pay11, k0_pay9, k0_pay10]
  revert r
  decide +kernel

/-- Rows of sequence 1. -/
theorem row_mask1 (r : Fin 64) : k0_pay12 rowIota (ix2 r 0) = if r.val / 8 = 1 then (1#1 : BitVec 1) else 0#1 := by
  pointwise [k0_pay12]
  revert r
  decide +kernel

/-- Rows of sequence 2. -/
theorem row_mask2 (r : Fin 64) : k0_pay16 rowIota 8#32 (k0_pay13 rowIota) (k0_pay14 rowIota) (k0_pay15 rowIota) (ix2 r 0) = if r.val / 8 = 2 then (1#1 : BitVec 1) else 0#1 := by
  pointwise [k0_pay16, k0_pay13, k0_pay14, k0_pay15]
  revert r
  decide +kernel

/-- Rows of sequence 3. -/
theorem row_mask3 (r : Fin 64) : k0_pay17 rowIota (ix2 r 0) = if r.val / 8 = 3 then (1#1 : BitVec 1) else 0#1 := by
  pointwise [k0_pay17]
  revert r
  decide +kernel

/-- Rows of sequence 4. -/
theorem row_mask4 (r : Fin 64) : k0_pay19 rowIota 8#32 k0_pay18 (ix2 r 0) = if r.val / 8 = 4 then (1#1 : BitVec 1) else 0#1 := by
  pointwise [k0_pay19, k0_pay18]
  revert r
  decide +kernel

/-- Rows of sequence 5. -/
theorem row_mask5 (r : Fin 64) : k0_pay22 (k0_pay20 rowIota) (k0_pay21 rowIota) 1#32 (ix2 r 0) = if r.val / 8 = 5 then (1#1 : BitVec 1) else 0#1 := by
  pointwise [k0_pay22, k0_pay20, k0_pay21]
  revert r
  decide +kernel

/-- Rows of sequence 6. -/
theorem row_mask6 (r : Fin 64) : k0_pay23 rowIota (ix2 r 0) = if r.val / 8 = 6 then (1#1 : BitVec 1) else 0#1 := by
  pointwise [k0_pay23]
  revert r
  decide +kernel

/-- Rows of sequence 7. -/
theorem row_mask7 (r : Fin 64) : k0_pay27 rowIota 8#32 (k0_pay24 rowIota) (k0_pay25 rowIota) k0_pay26 (ix2 r 0) = if r.val / 8 = 7 then (1#1 : BitVec 1) else 0#1 := by
  pointwise [k0_pay27, k0_pay24, k0_pay25, k0_pay26]
  revert r
  decide +kernel

/-- Columns of sequence 0. -/
theorem col_mask0 (r : Fin 64) : k0_pay28 colIota (ix2 0 r) = if 0 = r.val / 8 then (1#1 : BitVec 1) else 0#1 := by
  pointwise [k0_pay28]
  revert r
  decide +kernel

/-- Columns of sequence 1. -/
theorem col_mask1 (r : Fin 64) : k0_pay31 colIota 8#32 (k0_pay29 colIota) (k0_pay30 colIota) (ix2 0 r) = if 1 = r.val / 8 then (1#1 : BitVec 1) else 0#1 := by
  pointwise [k0_pay31, k0_pay29, k0_pay30]
  revert r
  decide +kernel

/-- Columns of sequence 2. -/
theorem col_mask2 (r : Fin 64) : k0_pay32 colIota (ix2 0 r) = if 2 = r.val / 8 then (1#1 : BitVec 1) else 0#1 := by
  pointwise [k0_pay32]
  revert r
  decide +kernel

/-- Columns of sequence 3. -/
theorem col_mask3 (r : Fin 64) : k0_pay34 colIota 8#32 (k0_pay33 colIota) 0#32 (ix2 0 r) = if 3 = r.val / 8 then (1#1 : BitVec 1) else 0#1 := by
  pointwise [k0_pay34, k0_pay33]
  revert r
  decide +kernel

/-- Columns of sequence 4. -/
theorem col_mask4 (r : Fin 64) : k0_pay38 (k0_pay35 colIota) (k0_pay36 colIota) (k0_pay37 colIota) (ix2 0 r) = if 4 = r.val / 8 then (1#1 : BitVec 1) else 0#1 := by
  pointwise [k0_pay38, k0_pay35, k0_pay36, k0_pay37]
  revert r
  decide +kernel

/-- Columns of sequence 5. -/
theorem col_mask5 (r : Fin 64) : k0_pay39 colIota (ix2 0 r) = if 5 = r.val / 8 then (1#1 : BitVec 1) else 0#1 := by
  pointwise [k0_pay39]
  revert r
  decide +kernel

/-- Columns of sequence 6. -/
theorem col_mask6 (r : Fin 64) : k0_pay43 colIota (k0_pay40 colIota) (k0_pay41 colIota) k0_pay42 (ix2 0 r) = if 6 = r.val / 8 then (1#1 : BitVec 1) else 0#1 := by
  pointwise [k0_pay43, k0_pay40, k0_pay41, k0_pay42]
  revert r
  decide +kernel

/-- Columns of sequence 7. -/
theorem col_mask7 (r : Fin 64) : k0_pay44 colIota (ix2 0 r) = if 7 = r.val / 8 then (1#1 : BitVec 1) else 0#1 := by
  pointwise [k0_pay44]
  revert r
  decide +kernel

end Cert.SGla
-- ==== Proof.SGla.Spec.lean ====
/-
  THE MATHEMATICS OF THE RECURRENCE OVER THE SAMPLE'S SHORT SEQUENCES, over the extended reals and named by no program:
  four rows per sequence in one chunk, from a given state; and how a block of 64 rows, eight sequences of eight rows of
  which the last four are real and the others zero, computes it by masks.
-/
module

public import proofs.«01_k».proof.Proof.Gla.Gate

@[expose] public section

set_option maxRecDepth 16384

noncomputable section

namespace Cert.SGla

open Idealize.ShloMosaic Cert.Gla

/-- The four rows of one sequence over the 512 flat columns. -/
abbrev Rows4 := Fin 4 → Fin 512 → EReal

/-- The log-decays of a sequence summed from its first row to row `i`. -/
def cum4 (la : Rows4) : Rows4 := fun i d => ∑ s : Fin 4, if s ≤ i then la s d else 0
/-- The log-decays of a sequence summed over its rows. -/
def tot4 (la : Rows4) (d : Fin 512) : EReal := ∑ s : Fin 4, la s d
/-- The scaled queries, decayed from the start. -/
def qdec4 (la q : Rows4) : Rows4 := fun i d => q i d * Ideal.ofBits .f32 0x3DB504F3#32 * Ideal.exp (cum4 la i d)
/-- The keys, with the decay from the start taken back. -/
def kinv4 (la k : Rows4) : Rows4 := fun i d => k i d * Ideal.exp (0 - cum4 la i d)
/-- The keys, decayed to the end. -/
def kend4 (la k : Rows4) : Rows4 := fun i d => k i d * Ideal.exp (tot4 la d - cum4 la i d)

/-- The output rows before the norm. -/
def outRaw4 (la q k v : Rows4) (S : State) (h : Fin 4) (i : Fin 4) (x : Fin 128) : EReal :=
  (∑ s : Fin 4, if s ≤ i then (∑ c : Fin 128, qdec4 la q i (col h c) * kinv4 la k s (col h c)) * v s (col h x) else 0)
    + ∑ c : Fin 128, qdec4 la q i (col h c) * S h c x

/-- The state after the four rows. -/
def next4 (la k v : Rows4) (S : State) : State := fun h c x =>
  S h c x * Ideal.exp (tot4 la (col h c)) + ∑ s : Fin 4, kend4 la k s (col h c) * v s (col h x)

/-! ## A block of eight sequences -/

/-- Row `i` of sequence `s` of a block. -/
abbrev real (s : Fin 8) (i : Fin 4) : Fin 64 := ⟨8 * s.val + 4 + i.val, by omega⟩
/-- The sequence of a block's row. -/
abbrev seg (r : Fin 64) : Fin 8 := ⟨r.val / 8, by omega⟩
/-- The rows of one sequence of a block. -/
def take (f : Rows) (s : Fin 8) : Rows4 := fun i d => f (real s i) d
/-- A block's rows that are not real are zero. -/
def Padded (f : Rows) : Prop := ∀ (r : Fin 64) (d : Fin 512), ¬ 4 ≤ r.val % 8 → f r d = 0

/-- The log-decays summed within a row's sequence up to the row. -/
def bcum (la : Rows) : Rows := fun r d => ∑ s : Fin 64, if r.val / 8 = s.val / 8 ∧ s ≤ r then la s d else 0
/-- The log-decays summed over a row's sequence. -/
def btot (la : Rows) : Rows := fun r d => ∑ s : Fin 64, if r.val / 8 = s.val / 8 then la s d else 0
/-- The block's decayed queries, -/
def bq (la q : Rows) : Rows := fun r d => q r d * Ideal.ofBits .f32 0x3DB504F3#32 * Ideal.exp (bcum la r d)
/-- its keys without the decay from the start, -/
def bk (la k : Rows) : Rows := fun r d => k r d * Ideal.exp (0 - bcum la r d)
/-- and its keys decayed to the end. -/
def be (la k : Rows) : Rows := fun r d => k r d * Ideal.exp (btot la r d - bcum la r d)

/-- The block's output rows before the norm, each row against its own sequence's state. -/
def bout (la q k v : Rows) (S : Fin 8 → State) (h : Fin 4) (r : Fin 64) (x : Fin 128) : EReal :=
  (∑ s : Fin 64, (if r.val / 8 = s.val / 8 ∧ s ≤ r then ∑ c : Fin 128, bq la q r (col h c) * bk la k s (col h c) else 0)
      * v s (col h x))
    + ∑ c : Fin 128, bq la q r (col h c) * S (seg r) h c x

/-- A block sum over one sequence of terms that are zero off the real rows is the sum over its four rows. -/
theorem sum_seg (f : Fin 64 → EReal) (s : Fin 8) (h0 : ∀ r : Fin 64, ¬ 4 ≤ r.val % 8 → f r = 0) :
    (∑ r : Fin 64, if s.val = r.val / 8 then f r else 0) = ∑ i : Fin 4, f (real s i) := by
  rw [← (finProdFinEquiv (m := 8) (n := 8)).sum_comp, Fintype.sum_prod_type, Finset.sum_eq_single s]
  · have e : ∀ j : Fin 8, (if s.val = (finProdFinEquiv (m := 8) (n := 8) (s, j)).val / 8 then f (finProdFinEquiv (s, j)) else 0)
        = f ⟨8 * s.val + j.val, by omega⟩ := fun j => by
      have hv : (finProdFinEquiv (m := 8) (n := 8) (s, j)).val = j.val + 8 * s.val := rfl
      rw [if_pos (by rw [hv]; omega)]
      exact congrArg f (Fin.ext (by rw [hv]; show _ = 8 * s.val + j.val; omega))
    rw [Finset.sum_congr rfl fun j _ => e j, Fin.sum_univ_eight, Fin.sum_univ_four,
      h0 ⟨8 * s.val + (0 : Fin 8).val, _⟩ (by show ¬ 4 ≤ (8 * s.val + 0) % 8; omega),
      h0 ⟨8 * s.val + (1 : Fin 8).val, _⟩ (by show ¬ 4 ≤ (8 * s.val + 1) % 8; omega),
      h0 ⟨8 * s.val + (2 : Fin 8).val, _⟩ (by show ¬ 4 ≤ (8 * s.val + 2) % 8; omega),
      h0 ⟨8 * s.val + (3 : Fin 8).val, _⟩ (by show ¬ 4 ≤ (8 * s.val + 3) % 8; omega)]
    simp only [zero_add]
    rfl
  · intro a _ ha
    refine Finset.sum_eq_zero fun j _ => if_neg fun h => ha (Fin.ext ?_)
    have hv : (finProdFinEquiv (m := 8) (n := 8) (a, j)).val = j.val + 8 * a.val := rfl
    rw [hv] at h
    omega
  · intro h
    exact absurd (Finset.mem_univ _) h

section Block
variable (la q k v : Rows) (hla : Padded la) (hk : Padded k) (hv : Padded v)

include hla in
/-- The block's running sums at a real row are its sequence's. -/
theorem bcum_real (s : Fin 8) (i : Fin 4) (d : Fin 512) : bcum la (real s i) d = cum4 (take la s) i d := by
  unfold bcum cum4
  have e := sum_seg (fun r => if r ≤ real s i then la r d else 0) s fun r hr => by rw [hla r d hr, ite_self]
  have e1 : (real s i).val / 8 = s.val := by show (8 * s.val + 4 + i.val) / 8 = s.val; omega
  rw [e1]
  have e2 : ∀ j : Fin 4, (real s j ≤ real s i) = (j ≤ i) := fun j => propext (by
    show 8 * s.val + 4 + j.val ≤ 8 * s.val + 4 + i.val ↔ j.val ≤ i.val
    omega)
  simp only [e2] at e
  refine Eq.trans (Finset.sum_congr rfl fun r _ => ?_) e
  by_cases h : s.val = r.val / 8 <;> simp [h]

include hla in
/-- The block's whole sums are the sequences'. -/
theorem btot_real (r : Fin 64) (s : Fin 8) (hr : r.val / 8 = s.val) (d : Fin 512) : btot la r d = tot4 (take la s) d := by
  unfold btot
  rw [hr]
  exact sum_seg (fun r => la r d) s fun r h => hla r d h

include hla in
theorem bq_real (s : Fin 8) (i : Fin 4) (d : Fin 512) : bq la q (real s i) d = qdec4 (take la s) (take q s) i d := by
  unfold bq qdec4
  rw [bcum_real la hla]
  rfl

include hla in
theorem bk_real (s : Fin 8) (i : Fin 4) (d : Fin 512) : bk la k (real s i) d = kinv4 (take la s) (take k s) i d := by
  unfold bk kinv4
  rw [bcum_real la hla]
  rfl

include hla in
theorem be_real (s : Fin 8) (i : Fin 4) (d : Fin 512) : be la k (real s i) d = kend4 (take la s) (take k s) i d := by
  unfold be kend4
  rw [bcum_real la hla, btot_real la hla (real s i) s (by show (8 * s.val + 4 + i.val) / 8 = s.val; omega)]
  rfl

include hla hv in
/-- The block's output at a real row. -/
theorem bout_real (S : Fin 8 → State) (h : Fin 4) (s : Fin 8) (i : Fin 4) (x : Fin 128) :
    bout la q k v S h (real s i) x = outRaw4 (take la s) (take q s) (take k s) (take v s) (S s) h i x := by
  unfold bout outRaw4
  have es : seg (real s i) = s := Fin.ext (by show (8 * s.val + 4 + i.val) / 8 = s.val; omega)
  have e1 : (real s i).val / 8 = s.val := by show (8 * s.val + 4 + i.val) / 8 = s.val; omega
  rw [es, e1]
  have e := sum_seg (fun r => if r ≤ real s i then
      (∑ c : Fin 128, bq la q (real s i) (col h c) * bk la k r (col h c)) * v r (col h x) else 0) s
    fun r hr => by rw [hv r _ hr, mul_zero, ite_self]
  have e2 : ∀ j : Fin 4, (real s j ≤ real s i) = (j ≤ i) := fun j => propext (by
    show 8 * s.val + 4 + j.val ≤ 8 * s.val + 4 + i.val ↔ j.val ≤ i.val
    omega)
  simp only [e2, bk_real la k hla] at e
  simp only [bq_real la q hla] at e ⊢
  refine congrArg₂ (· + ·) (Eq.trans (Finset.sum_congr rfl fun r _ => ?_) e) rfl
  by_cases h1 : s.val = r.val / 8
  · by_cases h2 : r ≤ real s i
    · rw [if_pos ⟨h1, h2⟩, if_pos h1, if_pos h2]
    · rw [if_neg fun h => h2 h.2, if_pos h1, if_neg h2, zero_mul]
  · rw [if_neg fun h => h1 h.1, if_neg h1, zero_mul]

/-- The block's output at a row that is not real, of zero queries. -/
theorem bout_pad (hq : Padded q) (S : Fin 8 → State) (h : Fin 4) (r : Fin 64) (hr : ¬ 4 ≤ r.val % 8) (x : Fin 128) :
    bout la q k v S h r x = 0 := by
  unfold bout
  have e : ∀ d, bq la q r d = 0 := fun d => by unfold bq; rw [hq r d hr, zero_mul, zero_mul]
  simp only [e, zero_mul, Finset.sum_const_zero, ite_self, add_zero]

include hla hv in
/-- The block's state of one sequence. -/
theorem bnext (S : State) (s : Fin 8) (r : Fin 64) (hr : r.val / 8 = s.val) (h : Fin 4) (c x : Fin 128) :
    S h c x * Ideal.exp (btot la r (col h c)) + ∑ p : Fin 64, (if s.val = p.val / 8 then v p (col h x) else 0) * be la k p (col h c)
      = next4 (take la s) (take k s) (take v s) S h c x := by
  unfold next4
  rw [btot_real la hla r s hr]
  refine congrArg₂ (· + ·) rfl ?_
  have e := sum_seg (fun p => v p (col h x) * be la k p (col h c)) s fun p hp => by rw [hv p _ hp, zero_mul]
  simp only [be_real la k hla] at e
  refine Eq.trans (Finset.sum_congr rfl fun p _ => ?_) (e.trans (Finset.sum_congr rfl fun i _ => mul_comm _ _))
  by_cases h1 : s.val = p.val / 8
  · rw [if_pos h1, if_pos h1]
  · rw [if_neg h1, if_neg h1, zero_mul]

end Block

/-- The eight masked products with the sequences' states are the one with the row's own. -/
theorem stages (o : EReal) (q : Fin 128 → EReal) (T : Fin 8 → Fin 128 → EReal) (r : Fin 64) :
    o + (∑ c, (if r.val / 8 = 0 then q c else 0) * T 0 c) + (∑ c, (if r.val / 8 = 1 then q c else 0) * T 1 c)
      + (∑ c, (if r.val / 8 = 2 then q c else 0) * T 2 c) + (∑ c, (if r.val / 8 = 3 then q c else 0) * T 3 c)
      + (∑ c, (if r.val / 8 = 4 then q c else 0) * T 4 c) + (∑ c, (if r.val / 8 = 5 then q c else 0) * T 5 c)
      + (∑ c, (if r.val / 8 = 6 then q c else 0) * T 6 c) + (∑ c, (if r.val / 8 = 7 then q c else 0) * T 7 c)
      = o + ∑ c, q c * T (seg r) c := by
  obtain ⟨s, hs⟩ : ∃ s : Fin 8, seg r = s := ⟨_, rfl⟩
  have hv : r.val / 8 = s.val := congrArg Fin.val hs
  rw [hs, hv]
  fin_cases s <;> simp

/-- A head's normed row of zeros is zero. -/
theorem normed_zero (g z : EReal) (x : Fin 128) : normed (fun _ => 0) g z x = 0 := by
  unfold normed
  rw [zero_mul, zero_mul, zero_mul]

/-! ## The call's results, of its arguments -/

section Arrays
variable (U : (⟨2, ![1024, 8832]⟩ : Shape).Idx → EReal) (W : (⟨2, ![16, 512]⟩ : Shape).Idx → EReal)
  (bias : (⟨1, ![512]⟩ : Shape).Idx → EReal) (gain : (⟨1, ![128]⟩ : Shape).Idx → EReal)
  (S0 : (⟨4, ![128, 4, 128, 128]⟩ : Shape).Idx → EReal)

/-- Real row `i` of sequence `b`. -/
abbrev rowS (b : Fin 128) (i : Fin 4) : Fin 1024 := ⟨8 * b.val + 4 + i.val, by omega⟩
/-- The gate's logit of a row and a column. -/
def logitS (p : Fin 1024) (d : Fin 512) : EReal :=
  (∑ x : Fin 16, U (ix2 p ⟨8704 + x.val, by omega⟩) * W (ix2 x d)) + bias (ix1 d)
/-- A sequence's log-decays, -/
def laS (b : Fin 128) : Rows4 := fun i d => gate (logitS U W bias (rowS b i) d)
/-- queries, -/
def qS (b : Fin 128) : Rows4 := fun i d => U (ix2 (rowS b i) ⟨d.val, by omega⟩)
/-- keys, -/
def kS (b : Fin 128) : Rows4 := fun i d => U (ix2 (rowS b i) ⟨512 + d.val, by omega⟩)
/-- values, -/
def vS (b : Fin 128) : Rows4 := fun i d => U (ix2 (rowS b i) ⟨1024 + d.val, by omega⟩)
/-- and its state before. -/
def stS (b : Fin 128) : State := fun h c x => S0 (ix4 b h c x)

/-- The output at a real row. -/
def yS (b : Fin 128) (i : Fin 4) (h : Fin 4) (x : Fin 128) : EReal :=
  normed (outRaw4 (laS U W bias b) (qS U b) (kS U b) (vS U b) (stS S0 b) h i) (gain (ix1 x))
    (U (ix2 (rowS b i) ⟨1536 + (col h x).val, by omega⟩)) x
/-- The state after. -/
def newS (b : Fin 128) : State := next4 (laS U W bias b) (kS U b) (vS U b) (stS S0 b)

end Arrays

end Cert.SGla
-- ==== Proof.SGla.Payload.lean ====
/-
  ONE GRID POINT'S ARITHMETIC AT AN INDEX, up to the heads: the masked log-decays, their sums within the sequences, and
  the decayed queries and keys, from the values of the point's blocks.
-/
module

public import proofs.«01_k».proof.Proof.SGla.Mask
public import proofs.«01_k».proof.Proof.SGla.Spec

@[expose] public section

set_option maxRecDepth 16384

noncomputable section

namespace Cert.SGla

open Idealize.ShloMosaic Cert.Gla Cert.Kernel7Ideal Cert.Kernel7Ideal.Gen

/-- The masked log-decays that the body computes from the small columns, the padded weights and the bias. -/
abbrev laPay (x : Vec Ideal S64x128 .f32) (w : Vec Ideal S128x512 .f32) (b : Vec Ideal S1x512 .f32) : FVec Ideal S64x512 .f32 :=
  k0_pay48 (k0_pay8 rowIota) x (k0_pay46 w) (k0_pay47 x) b

/-- The mask of the rows not later, as numbers, -/
abbrev causal01 : FVec Ideal S64x64 .bf16 :=
  k0_pay45 (k0_pay6 (iota .tc S64x64 32 [0] iota_S64x64_d0_w32) (iota .tc S64x64 32 [1] iota_S64x64_d1_w32) k0_pay1 k0_pay2 k0_pay3 k0_pay4)
/-- and of a sequence's rows. -/
abbrev same01 : FVec Ideal S64x64 .bf16 := k0_pay7 k0_pay1 k0_pay2 k0_pay3 k0_pay4

theorem laPay_apply (x : Vec Ideal S64x128 .f32) (w : Vec Ideal S128x512 .f32) (b : Vec Ideal S1x512 .f32) (r : Fin 64) (d : Fin 512)
    (h : 4 ≤ r.val % 8 → ∀ e : Fin 128, w (ix2 e d) = 0 ∨ ((x (ix2 r e) ≠ ⊤ ∧ x (ix2 r e) ≠ ⊥) ∧ w (ix2 e d) ≠ ⊤ ∧ w (ix2 e d) ≠ ⊥)) :
    laPay x w b (ix2 r d) = if 4 ≤ r.val % 8 then gate ((∑ e : Fin 128, x (ix2 r e) * w (ix2 e d)) + b (ix2 0 d)) else 0 := by
  pointwise [k0_pay48, k0_pay46, k0_pay47]
  rw [valid_mask, select_if]
  by_cases hr : 4 ≤ r.val % 8
  · rw [if_pos hr, if_pos hr, dot_add_rest (fun e : Fin 128 => x (ix2 r e)) (fun e => w (ix2 e d)) (h hr)]
    simp only [Ideal.absf_def]
    rfl
  · rw [if_neg hr, if_neg hr]

section Block
variable (x : Vec Ideal S64x128 .f32) (w : Vec Ideal S128x512 .f32) (b : Vec Ideal S1x512 .f32) (la : Rows)
  (hla : ∀ r d, laPay x w b (ix2 r d) = la r d) (hne : ∀ r d, la r d ≠ ⊤)
include hla hne

/-- A product with a mask as numbers is the masked sum. -/
theorem bcum_apply (r : Fin 64) (d : Fin 512) :
    k0_pay49 (k0_pay8 rowIota) causal01 x (k0_pay46 w) (k0_pay47 x) b (ix2 r d) = bcum la r d := by
  have hM := causal_mask
  unfold causal01
  generalize k0_pay6 (iota .tc S64x64 32 [0] iota_S64x64_d0_w32) (iota .tc S64x64 32 [1] iota_S64x64_d1_w32) k0_pay1 k0_pay2 k0_pay3 k0_pay4 = M at hM ⊢
  pointwise [k0_pay49, k0_pay45]
  simp only [hla, hM, select_if]
  exact sum_add_rest (fun s => r.val / 8 = s.val / 8 ∧ s ≤ r) (fun s => la s d) (fun s => hne s d)

theorem btot_apply (r : Fin 64) (d : Fin 512) :
    k0_pay53 same01 (k0_pay51 (k0_pay8 rowIota) x (k0_pay46 w) (k0_pay47 x) b)
      (k0_pay52 same01 (k0_pay8 rowIota) x (k0_pay46 w) (k0_pay47 x) b) (ix2 r d) = btot la r d := by
  pointwise [k0_pay53, k0_pay52, k0_pay51, k0_pay50, k0_pay7]
  simp only [hla, same_mask, select_if]
  exact sum_add_rest (fun s => r.val / 8 = s.val / 8) (fun s => la s d) (fun s => hne s d)

/-- The decayed queries. -/
theorem bq_apply (y : Vec Ideal S64x512 .f32) (q : Rows) (hq : ∀ r d, (if 4 ≤ r.val % 8 then y (ix2 r d) else 0) = q r d) (r : Fin 64) (d : Fin 512) :
    k0_pay56 (k0_pay8 rowIota) (k0_pay49 (k0_pay8 rowIota) causal01 x (k0_pay46 w) (k0_pay47 x) b) y (ix2 r d) = bq la q r d := by
  pointwise [k0_pay56]
  rw [bcum_apply x w b la hla hne, valid_mask, select_if, bq, ← hq]
  split <;> simp only [zero_mul]

/-- The keys without the decay from the start. -/
theorem bk_apply (y : Vec Ideal S64x512 .f32) (k : Rows) (hk : ∀ r d, (if 4 ≤ r.val % 8 then y (ix2 r d) else 0) = k r d) (r : Fin 64) (d : Fin 512) :
    k0_pay57 (k0_pay8 rowIota) (k0_pay49 (k0_pay8 rowIota) causal01 x (k0_pay46 w) (k0_pay47 x) b) y (ix2 r d) = bk la k r d := by
  pointwise [k0_pay57, k0_pay54]
  rw [bcum_apply x w b la hla hne, valid_mask, select_if, bk, ← hk]
  split <;> simp only [zero_mul]

/-- The keys decayed to the end. -/
theorem be_apply (y : Vec Ideal S64x512 .f32) (k : Rows) (hk : ∀ r d, (if 4 ≤ r.val % 8 then y (ix2 r d) else 0) = k r d) (r : Fin 64) (d : Fin 512) :
    k0_pay58 same01 (k0_pay8 rowIota) (k0_pay49 (k0_pay8 rowIota) causal01 x (k0_pay46 w) (k0_pay47 x) b)
      (k0_pay51 (k0_pay8 rowIota) x (k0_pay46 w) (k0_pay47 x) b)
      (k0_pay52 same01 (k0_pay8 rowIota) x (k0_pay46 w) (k0_pay47 x) b) y (ix2 r d) = be la k r d := by
  pointwise [k0_pay58, k0_pay54]
  rw [bcum_apply x w b la hla hne, btot_apply x w b la hla hne, valid_mask, select_if, be, ← hk]
  split <;> simp only [zero_mul]

/-- A sequence's whole decay. -/
theorem bd_apply (r : Fin 64) (d : Fin 512) :
    k0_pay59 same01 (k0_pay51 (k0_pay8 rowIota) x (k0_pay46 w) (k0_pay47 x) b)
      (k0_pay52 same01 (k0_pay8 rowIota) x (k0_pay46 w) (k0_pay47 x) b) (ix2 r d) = Ideal.exp (btot la r d) := by
  pointwise [k0_pay59]
  rw [btot_apply x w b la hla hne]

end Block

end Cert.SGla
-- ==== Proof.SGla.Blocks.lean ====
/-
  A GRID POINT'S BLOCKS, read off the arguments: point `t` has rows `64 t … 64 t + 63` of the projected inputs, which
  are eight sequences of eight rows, and those sequences' states; the gate's weights stand over zero rows.
-/
module

public import proofs.«01_k».proof.Proof.Gen.Kernel7Ideal.Value
public import proofs.«01_k».proof.Proof.SGla.Payload
public import Idealize.ShloMosaic.Lib.Pipeline.ValueKit

@[expose] public section

set_option maxRecDepth 16384

noncomputable section

namespace Cert.SGla

open Idealize.ShloMosaic Idealize.ShloMosaic.TcCoe Cert.Gla Cert.Kernel7Ideal Cert.Kernel7Ideal.Gen Cert.Kernel7Ideal.Value

variable (m : (ℓ : Loc nD τ sig) → Buf (Elt Ideal) ℓ)

/-- The projected inputs of core `c`, -/
abbrev argU (c : Dev nD) : (⟨2, ![1024, 8832]⟩ : Shape).Idx → EReal := m ((c : Thread nD τ).loc main_arg0)
/-- the gate's weights, -/
abbrev argW (c : Dev nD) : (⟨2, ![16, 512]⟩ : Shape).Idx → EReal := m ((c : Thread nD τ).loc main_arg1)
/-- its bias, -/
abbrev argB (c : Dev nD) : (⟨1, ![512]⟩ : Shape).Idx → EReal := m ((c : Thread nD τ).loc main_arg2)
/-- the norm's gain, -/
abbrev argG (c : Dev nD) : (⟨1, ![128]⟩ : Shape).Idx → EReal := m ((c : Thread nD τ).loc main_arg3)
/-- and the states before. -/
abbrev argS (c : Dev nD) : (⟨4, ![128, 4, 128, 128]⟩ : Shape).Idx → EReal := m ((c : Thread nD τ).loc main_arg4)

theorem lt_16 (t : Fin cfg0.N) : t.val < 16 := lt_of_lt_of_eq t.isLt N_0
/-- The row of the whole arrays that point `t` has at place `r`, -/
abbrev rowAt (t : Fin cfg0.N) (r : Fin 64) : Fin 1024 := ⟨64 * t.val + r.val, by have := lt_16 t; omega⟩
/-- and the sequence of the whole arrays that it has at place `s`. -/
abbrev seqAt (t : Fin cfg0.N) (s : Fin 8) : Fin 128 := ⟨8 * t.val + s.val, by have := lt_16 t; omega⟩

/-- The windows' block indices at each point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 68] ∧ win0_5.index t = ![0, 0] ∧ win0_6.index t = ![0, 0]
    ∧ win0_7.index t = ![0, 0] ∧ win0_8.index t = ![t.val, 0, 0, 0] :=
  (by decide +kernel : ∀ t : Fin grid0.N, _)

/-- The query block, -/
theorem blk0 (c : Dev nD) (t : Fin cfg0.N) (r : Fin 64) (d : Fin 512) :
    X0_0 m c t (ix2 r d) = argU m c (ix2 (rowAt t r) ⟨d.val, by omega⟩) := by
  unfold X0_0 Pipeline.Window.fill
  rw [dif_pos (moved0_0 t _)]
  show _ = argU m c (ix2 _ _)
  blk_point [iblk, V, idx t]
/-- the key block, -/
theorem blk1 (c : Dev nD) (t : Fin cfg0.N) (r : Fin 64) (d : Fin 512) :
    X0_1 m c t (ix2 r d) = argU m c (ix2 (rowAt t r) ⟨512 + d.val, by omega⟩) := by
  unfold X0_1 Pipeline.Window.fill
  rw [dif_pos (moved0_1 t _)]
  show _ = argU m c (ix2 _ _)
  blk_point [iblk, V, idx t]
/-- the value block, -/
theorem blk2 (c : Dev nD) (t : Fin cfg0.N) (r : Fin 64) (d : Fin 512) :
    X0_2 m c t (ix2 r d) = argU m c (ix2 (rowAt t r) ⟨1024 + d.val, by omega⟩) := by
  unfold X0_2 Pipeline.Window.fill
  rw [dif_pos (moved0_2 t _)]
  show _ = argU m c (ix2 _ _)
  blk_point [iblk, V, idx t]
/-- the output gate's block, -/
theorem blk3 (c : Dev nD) (t : Fin cfg0.N) (r : Fin 64) (d : Fin 512) :
    X0_3 m c t (ix2 r d) = argU m c (ix2 (rowAt t r) ⟨1536 + d.val, by omega⟩) := by
  unfold X0_3 Pipeline.Window.fill
  rw [dif_pos (moved0_3 t _)]
  show _ = argU m c (ix2 _ _)
  blk_point [iblk, V, idx t]
/-- the small columns, -/
theorem blk4 (c : Dev nD) (t : Fin cfg0.N) (r : Fin 64) (d : Fin 128) :
    iblk m c 4 t (ix2 r d) = argU m c (ix2 (rowAt t r) ⟨8704 + d.val, by omega⟩) := by
  blk_point [iblk, V, idx t]
/-- the gate's weights over zero rows, -/
theorem blk5 (c : Dev nD) (t : Fin cfg0.N) (r : Fin 128) (d : Fin 512) :
    (iblk m c 5 t (ix2 r d) : EReal) = if h : r.val < 16 then argW m c (ix2 ⟨r.val, h⟩ d) else (0 : EReal) := by
  have e : iblk m c 5 t (ix2 r d) = V m c main_v0 (ix2 r d) := by
    blk_ext [iblk, idx t]
  rw [e]
  simp only [V, hostOps0, hostOps0_1, hostOps0_2, List.flatten_cons, List.flatten_nil, List.append_nil, List.cons_append, List.nil_append]
  entry_read
  show pad S128x512 ![0, 0] ![112, 0] ![0, 0] (m (c, Proc.tc.devRef main_arg1)) (sitofp (F := Ideal) FTy.f32 (constantI S_ 32 0#32))
    pads_S16x512_S128x512_01120_000 h_S_ (ix2 r d) = _
  have hr := r.isLt
  have hd := d.isLt
  by_cases h : r.val < 16
  · rw [dif_pos h, pad_apply, dif_pos (by
      intro a
      match a with
      | ⟨0, _⟩ => exact ⟨Nat.zero_le _, Nat.mod_one _, by show (r.val - 0) / 1 < 16; omega⟩
      | ⟨1, _⟩ => exact ⟨Nat.zero_le _, Nat.mod_one _, by show (d.val - 0) / 1 < 512; omega⟩)]
    refine congrArg (m (c, Proc.tc.devRef main_arg1)) (funext fun a => ?_)
    match a with
    | ⟨0, _⟩ => exact Fin.ext (by show (r.val - 0) / 1 = r.val; omega)
    | ⟨1, _⟩ => exact Fin.ext (by show (d.val - 0) / 1 = d.val; omega)
  · rw [dif_neg h, pad_apply, dif_neg (by
      intro hh
      have h2 : (r.val - 0) / 1 < 16 := (hh (0 : Fin 2)).2.2
      omega)]
    pointwise
    simp [FloatOps.sitofp]
/-- the bias as a row, -/
theorem blk6 (c : Dev nD) (t : Fin cfg0.N) (d : Fin 512) : iblk m c 6 t (ix2 0 d) = argB m c (ix1 d) := by
  have e : iblk m c 6 t (ix2 0 d) = V m c main_v1 (ix2 0 d) := by
    blk_ext [iblk, idx t]
  rw [e]
  simp only [V, hostOps0, hostOps0_1, hostOps0_2, List.flatten_cons, List.flatten_nil, List.append_nil, List.cons_append, List.nil_append]
  entry_read
  pointwise
/-- the gain as a row, -/
theorem blk7 (c : Dev nD) (t : Fin cfg0.N) (d : Fin 128) : iblk m c 7 t (ix2 0 d) = argG m c (ix1 d) := by
  have e : iblk m c 7 t (ix2 0 d) = V m c main_v2 (ix2 0 d) := by
    blk_ext [iblk, idx t]
  rw [e]
  simp only [V, hostOps0, hostOps0_1, hostOps0_2, List.flatten_cons, List.flatten_nil, List.append_nil, List.cons_append, List.nil_append]
  entry_read
  pointwise

/-- and the states before. -/
theorem blk8 (c : Dev nD) (t : Fin cfg0.N) (s : Fin 8) (h : Fin 4) (e x : Fin 128) :
    iblk m c 8 t (ix4 s h e x) = argS m c (ix4 (seqAt t s) h e x) := by
  blk_point [iblk, V, idx t]

/-- The gate's low-rank columns at the real rows and its weights are finite. -/
def GateFinite (U : (⟨2, ![1024, 8832]⟩ : Shape).Idx → EReal) (W : (⟨2, ![16, 512]⟩ : Shape).Idx → EReal) : Prop :=
  (∀ (p : Fin 1024) (x : Fin 16), 4 ≤ p.val % 8 → U (ix2 p ⟨8704 + x.val, by omega⟩) ≠ ⊤ ∧ U (ix2 p ⟨8704 + x.val, by omega⟩) ≠ ⊥)
    ∧ ∀ (x : Fin 16) (d : Fin 512), W (ix2 x d) ≠ ⊤ ∧ W (ix2 x d) ≠ ⊥

/-- A block's masked rows of an array of rows. -/
def masked (f : Rows) : Rows := fun r d => if 4 ≤ r.val % 8 then f r d else 0
theorem masked_padded (f : Rows) : Padded (masked f) := fun r d h => if_neg h

section Masked
variable (c : Dev nD) (t : Fin cfg0.N)
/-- The block's masked log-decays, -/
abbrev bla : Rows := masked fun r d => gate (logitS (argU m c) (argW m c) (argB m c) (rowAt t r) d)
/-- queries, -/
abbrev bqs : Rows := masked fun r d => argU m c (ix2 (rowAt t r) ⟨d.val, by omega⟩)
/-- keys -/
abbrev bks : Rows := masked fun r d => argU m c (ix2 (rowAt t r) ⟨512 + d.val, by omega⟩)
/-- and values. -/
abbrev bvs : Rows := masked fun r d => argU m c (ix2 (rowAt t r) ⟨1024 + d.val, by omega⟩)

/-- A sequence's four rows of a masked block are the whole array's. -/
theorem take_masked (f : Rows) (g : Rows4) (s : Fin 8) (h : ∀ i d, f (real s i) d = g i d) : take (masked f) s = g := by
  funext i d
  unfold take masked
  rw [if_pos (by show 4 ≤ (8 * s.val + 4 + i.val) % 8; omega)]
  exact h i d

theorem rowAt_real (s : Fin 8) (i : Fin 4) : rowAt t (real s i) = rowS (seqAt t s) i :=
  Fin.ext (by show 64 * t.val + (8 * s.val + 4 + i.val) = 8 * (8 * t.val + s.val) + 4 + i.val; omega)

theorem take_la (s : Fin 8) : take (bla m c t) s = laS (argU m c) (argW m c) (argB m c) (seqAt t s) :=
  take_masked _ _ s fun i d => by rw [rowAt_real]; rfl
theorem take_q (s : Fin 8) : take (bqs m c t) s = qS (argU m c) (seqAt t s) :=
  take_masked _ _ s fun i d => by rw [rowAt_real]; rfl
theorem take_k (s : Fin 8) : take (bks m c t) s = kS (argU m c) (seqAt t s) :=
  take_masked _ _ s fun i d => by rw [rowAt_real]; rfl
theorem take_v (s : Fin 8) : take (bvs m c t) s = vS (argU m c) (seqAt t s) :=
  take_masked _ _ s fun i d => by rw [rowAt_real]; rfl

theorem bla_ne_top (r : Fin 64) (d : Fin 512) : bla m c t r d ≠ ⊤ := by
  show (if 4 ≤ r.val % 8 then _ else (0 : EReal)) ≠ ⊤
  split
  · exact gate_ne_top _
  · exact EReal.zero_ne_top

theorem mask0 (r : Fin 64) (d : Fin 512) : (if 4 ≤ r.val % 8 then (X0_0 m c t : Vec Ideal S64x512 .f32) (ix2 r d) else (0 : EReal)) = bqs m c t r d := by
  rw [blk0]; rfl
theorem mask1 (r : Fin 64) (d : Fin 512) : (if 4 ≤ r.val % 8 then (X0_1 m c t : Vec Ideal S64x512 .f32) (ix2 r d) else (0 : EReal)) = bks m c t r d := by
  rw [blk1]; rfl
theorem mask2 (r : Fin 64) (d : Fin 512) : (if 4 ≤ r.val % 8 then (X0_2 m c t : Vec Ideal S64x512 .f32) (ix2 r d) else (0 : EReal)) = bvs m c t r d := by
  rw [blk2]; rfl

/-- A sum over 128 terms of which only the first 16 are not zero. -/
theorem sum_first16 (f : Fin 128 → EReal) (h : ∀ x : Fin 128, ¬ x.val < 16 → f x = 0) :
    ∑ x, f x = ∑ x : Fin 16, f ⟨x.val, by omega⟩ := by
  rw [Fin.sum_univ_add (a := 16) (b := 112) f]
  rw [Finset.sum_eq_zero (f := fun i : Fin 112 => f (Fin.natAdd 16 i)) fun i _ => h _ (by simp), add_zero]
  rfl

/-- The log-decays that the body computes from a point's blocks are the masked ones. -/
theorem blk_la (hfin : GateFinite (argU m c) (argW m c)) (r : Fin 64) (d : Fin 512) :
    laPay (iblk m c 4 t) (iblk m c 5 t) (iblk m c 6 t) (ix2 r d) = bla m c t r d := by
  refine (laPay_apply _ _ _ r d fun hr e => ?_).trans ?_
  · by_cases h : e.val < 16
    · refine Or.inr ⟨?_, ?_⟩
      · rw [blk4]; exact hfin.1 (rowAt t r) ⟨e.val, h⟩ (by show 4 ≤ (64 * t.val + r.val) % 8; omega)
      · rw [blk5, dif_pos h]; exact hfin.2 ⟨e.val, h⟩ d
    · exact Or.inl (by rw [blk5, dif_neg h])
  · show _ = if 4 ≤ r.val % 8 then _ else (0 : EReal)
    refine if_congr Iff.rfl (congrArg gate ?_) rfl
    rw [blk6, logitS, sum_first16 _ fun x hx => by rw [blk5, dif_neg hx, mul_zero]]
    refine congrArg (fun s => s + _) (Finset.sum_congr rfl fun x _ => ?_)
    rw [blk4, blk5, dif_pos x.isLt]

end Masked

end Cert.SGla
-- ==== Proof.SGla.Body.lean ====
/-
  ONE GRID POINT: the states of its eight sequences and its output block that the body leaves.
-/
module

public import proofs.«01_k».proof.Proof.SGla.Blocks
public import Idealize.ShloMosaic.Lib.Pipeline.ReadBack

@[expose] public section

set_option maxRecDepth 16384

noncomputable section

namespace Cert.SGla

open Idealize.ShloMosaic Idealize.ShloMosaic.TcCoe Cert.Gla Cert.Kernel7Ideal Cert.Kernel7Ideal.Gen Cert.Kernel7Ideal.Value

variable (m : (ℓ : Loc nD τ sig) → Buf (Elt Ideal) ℓ) (c : Dev nD) (t : Fin cfg0.N)

/-- The state's step of one sequence, its values picked out of the block's rows. -/
theorem bnextIf (la k v : Rows) (hla : Padded la) (hv : Padded v) (S : State) (s : Fin 8) (r : Fin 64) (hr : r.val / 8 = s.val)
    (h : Fin 4) (c x : Fin 128) :
    S h c x * Ideal.exp (btot la r (col h c)) + ∑ p : Fin 64, (if s.val = p.val / 8 then v p (col h x) * be la k p (col h c) else 0)
      = next4 (take la s) (take k s) (take v s) S h c x := by
  rw [← bnext la k v hla hv S s r hr h c x]
  refine congrArg₂ (· + ·) rfl (Finset.sum_congr rfl fun p _ => ?_)
  split <;> simp only [zero_mul]

/-- The block's output rows with every mask a condition around its term. -/
theorem bout_if (la q k v : Rows) (S : Fin 8 → State) (h : Fin 4) (r : Fin 64) (x : Fin 128) :
    bout la q k v S h r x
      = (∑ s : Fin 64, if r.val / 8 = s.val / 8 ∧ s ≤ r then (∑ c : Fin 128, bq la q r (col h c) * bk la k s (col h c)) * v s (col h x) else 0)
      + (∑ c, if r.val / 8 = 0 then bq la q r (col h c) * S 0 h c x else 0)
      + (∑ c, if r.val / 8 = 1 then bq la q r (col h c) * S 1 h c x else 0)
      + (∑ c, if r.val / 8 = 2 then bq la q r (col h c) * S 2 h c x else 0)
      + (∑ c, if r.val / 8 = 3 then bq la q r (col h c) * S 3 h c x else 0)
      + (∑ c, if r.val / 8 = 4 then bq la q r (col h c) * S 4 h c x else 0)
      + (∑ c, if r.val / 8 = 5 then bq la q r (col h c) * S 5 h c x else 0)
      + (∑ c, if r.val / 8 = 6 then bq la q r (col h c) * S 6 h c x else 0)
      + (∑ c, if r.val / 8 = 7 then bq la q r (col h c) * S 7 h c x else 0) := by
  unfold bout
  rw [← stages _ (fun c => bq la q r (col h c)) (fun s c => S s h c x) r]
  simp only [ite_mul, zero_mul]

/-- A sequence's and head's slice of the states' block. -/
theorem ldS (s : Fin 8) (h : Fin 4) (off : Fin 4 → ℕ) (e : off = ![s.val, h.val, 0, 0]) (inb) (k x : Fin 128) :
    View.ld (iblk m c 8 t) (Rect.unit off ![1, 1, 128, 128] inb) (ix4 0 0 k x) = stS (argS m c) (seqAt t s) h k x := by
  subst e
  unfold stS
  rw [← blk8 m c t s h k x]
  pointwise

/-- A head's slice of the output gate's block. -/
theorem ldz (h : Fin 4) (off : Fin 2 → ℕ) (e : off = ![0, 128 * h.val]) (inb) (r : Fin 64) (x : Fin 128) :
    View.ld (X0_3 m c t) (Rect.unit off ![64, 128] inb) (ix2 r x)
      = argU m c (ix2 (rowAt t r) ⟨1536 + (col h x).val, by omega⟩) := by
  subst e
  rw [← blk3 m c t r (col h x)]
  pointwise

theorem p60 (x : Fin 128) : k0_pay60 (F := Ideal) (iblk m c 7 t) (ix2 0 x) = argG m c (ix1 x) := by
  pointwise [k0_pay60]
  exact blk7 m c t x

theorem col0 (k : Fin 128) : (⟨k.val, by omega⟩ : Fin 512) = col 0 k := Fin.ext (by simp [col])
theorem col1 (k : Fin 128) : (⟨128 + k.val, by omega⟩ : Fin 512) = col 1 k := Fin.ext (by simp [col])
theorem col2 (k : Fin 128) : (⟨256 + k.val, by omega⟩ : Fin 512) = col 2 k := Fin.ext (by simp [col])
theorem col3 (k : Fin 128) : (⟨384 + k.val, by omega⟩ : Fin 512) = col 3 k := Fin.ext (by simp [col])

theorem p55 (r : Fin 64) (d : Fin 512) : k0_pay55 (k0_pay8 rowIota) (X0_2 m c t) (ix2 r d) = bvs m c t r d := by
  pointwise [k0_pay55]
  rw [valid_mask, select_if]
  exact mask2 m c t r d

variable (hfin : GateFinite (argU m c) (argW m c))
include hfin
/-- Head 0's product of scores and values, the scores masked. -/
theorem p61 (r : Fin 64) (x : Fin 128) :
    k0_pay61 (k0_pay6 (iota .tc S64x64 32 [0] iota_S64x64_d0_w32) (iota .tc S64x64 32 [1] iota_S64x64_d1_w32) k0_pay1 k0_pay2 k0_pay3 k0_pay4)
      (k0_pay8 rowIota) (k0_pay49 (k0_pay8 rowIota) causal01 (iblk m c 4 t) (k0_pay46 (iblk m c 5 t)) (k0_pay47 (iblk m c 4 t)) (iblk m c 6 t))
      (X0_0 m c t) (X0_1 m c t) (X0_2 m c t) (ix2 r x)
      = ∑ s : Fin 64, if r.val / 8 = s.val / 8 ∧ s ≤ r then
          (∑ e : Fin 128, bq (bla m c t) (bqs m c t) r (col 0 e) * bk (bla m c t) (bks m c t) s (col 0 e)) * bvs m c t s (col 0 x) else 0 := by
  have hq := bq_apply _ _ _ _ (blk_la m c t hfin) (bla_ne_top m c t) _ _ (mask0 m c t)
  have hk := bk_apply _ _ _ _ (blk_la m c t hfin) (bla_ne_top m c t) _ _ (mask1 m c t)
  have hv := p55 m c t
  have hM := causal_mask
  unfold k0_pay61
  generalize k0_pay56 (F := Ideal) _ _ _ = Q at hq ⊢
  generalize k0_pay57 (F := Ideal) _ _ _ = K at hk ⊢
  generalize k0_pay55 (F := Ideal) _ _ = V at hv ⊢
  generalize k0_pay6 _ _ _ _ _ _ = M at hM ⊢
  pointwise
  simp only [hq, hk, hv, hM, select_if, col0]

set_option maxHeartbeats 1000000 in
/-- The states that the body leaves. -/
theorem body_state (s : Fin 8) (h : Fin 4) (e x : Fin 128) :
    (outsAt0 m c t).2 (ix4 s h e x) = newS (argU m c) (argW m c) (argB m c) (argS m c) (seqAt t s) h e x := by
  have hke := be_apply _ _ _ _ (blk_la m c t hfin) (bla_ne_top m c t) _ _ (mask1 m c t)
  have hde := bd_apply _ _ _ _ (blk_la m c t hfin) (bla_ne_top m c t)
  have hv := p55 m c t
  unfold outsAt0
  dsimp only
  frame_open
  frame_out
  generalize k0_pay59 (F := Ideal) _ _ _ = DE at hde ⊢
  generalize k0_pay58 (F := Ideal) _ _ _ _ _ _ = KE at hke ⊢
  have c0 := col_mask0
  generalize k0_pay28 _ = C0 at c0 ⊢
  have c1 := col_mask1
  generalize k0_pay31 _ _ _ _ = C1 at c1 ⊢
  have c2 := col_mask2
  generalize k0_pay32 _ = C2 at c2 ⊢
  have c3 := col_mask3
  generalize k0_pay34 _ _ _ _ = C3 at c3 ⊢
  have c4 := col_mask4
  generalize k0_pay38 _ _ _ = C4 at c4 ⊢
  have c5 := col_mask5
  generalize k0_pay39 _ = C5 at c5 ⊢
  have c6 := col_mask6
  generalize k0_pay43 _ _ _ _ = C6 at c6 ⊢
  have c7 := col_mask7
  generalize k0_pay44 _ = C7 at c7 ⊢
  generalize k0_pay55 (F := Ideal) _ _ = V at hv ⊢
  canon_tiles y g
  all_goals idx_vars y
  · obtain rfl : s = 7 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c7, select_if, col3]
    refine Eq.trans ?_ ((bnextIf (bla m c t) (bks m c t) (bvs m c t) (masked_padded _) (masked_padded _) (stS (argS m c) (seqAt t 7)) 7 56 rfl 3 e x).trans ?_)
    · rw [blk8]
      rfl
    · rw [take_la, take_k, take_v]
      rfl
  · obtain rfl : s = 6 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c6, select_if, col3]
    refine Eq.trans ?_ ((bnextIf (bla m c t) (bks m c t) (bvs m c t) (masked_padded _) (masked_padded _) (stS (argS m c) (seqAt t 6)) 6 48 rfl 3 e x).trans ?_)
    · rw [blk8]
      rfl
    · rw [take_la, take_k, take_v]
      rfl
  · obtain rfl : s = 5 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c5, select_if, col3]
    refine Eq.trans ?_ ((bnextIf (bla m c t) (bks m c t) (bvs m c t) (masked_padded _) (masked_padded _) (stS (argS m c) (seqAt t 5)) 5 40 rfl 3 e x).trans ?_)
    · rw [blk8]
      rfl
    · rw [take_la, take_k, take_v]
      rfl
  · obtain rfl : s = 4 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c4, select_if, col3]
    refine Eq.trans ?_ ((bnextIf (bla m c t) (bks m c t) (bvs m c t) (masked_padded _) (masked_padded _) (stS (argS m c) (seqAt t 4)) 4 32 rfl 3 e x).trans ?_)
    · rw [blk8]
      rfl
    · rw [take_la, take_k, take_v]
      rfl
  · obtain rfl : s = 3 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c3, select_if, col3]
    refine Eq.trans ?_ ((bnextIf (bla m c t) (bks m c t) (bvs m c t) (masked_padded _) (masked_padded _) (stS (argS m c) (seqAt t 3)) 3 24 rfl 3 e x).trans ?_)
    · rw [blk8]
      rfl
    · rw [take_la, take_k, take_v]
      rfl
  · obtain rfl : s = 2 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c2, select_if, col3]
    refine Eq.trans ?_ ((bnextIf (bla m c t) (bks m c t) (bvs m c t) (masked_padded _) (masked_padded _) (stS (argS m c) (seqAt t 2)) 2 16 rfl 3 e x).trans ?_)
    · rw [blk8]
      rfl
    · rw [take_la, take_k, take_v]
      rfl
  · obtain rfl : s = 1 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c1, select_if, col3]
    refine Eq.trans ?_ ((bnextIf (bla m c t) (bks m c t) (bvs m c t) (masked_padded _) (masked_padded _) (stS (argS m c) (seqAt t 1)) 1 8 rfl 3 e x).trans ?_)
    · rw [blk8]
      rfl
    · rw [take_la, take_k, take_v]
      rfl
  · obtain rfl : s = 0 := Fin.ext (by simp at g0; omega)
    obtain rfl : h = 3 := Fin.ext (by simp at g1; omega)
    obtain rfl : e = y2 := Fin.ext (by simpa using g2)
    obtain rfl : x = y3 := Fin.ext (by simpa using g3)
    clear g0 g1 g2 g3
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hke, hde, hv, c0, select_if, col3]
    refine Eq.trans ?_ ((bnextIf (bla m c t) (bks m c t) (bvs m c t) (masked_padded _) (masked_padded _) (stS (argS m c) (seqAt t 0)) 0 0 rfl 3 e x).trans ?_)
    · rw [blk8]
      rfl
    · rw [take_la, take_k, take_v]
      rfl
  · obtain rfl : s = 7 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c7, select_if, col2]
    refine Eq.trans ?_ ((bnextIf (bla m c t) (bks m c t) (bvs m c t) (masked_padded _) (masked_padded _) (stS (argS m c) (seqAt t 7)) 7 56 rfl 2 e x).trans ?_)
    · rw [blk8]
      rfl
    · rw [take_la, take_k, take_v]
      rfl
  · obtain rfl : s = 6 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c6, select_if, col2]
    refine Eq.trans ?_ ((bnextIf (bla m c t) (bks m c t) (bvs m c t) (masked_padded _) (masked_padded _) (stS (argS m c) (seqAt t 6)) 6 48 rfl 2 e x).trans ?_)
    · rw [blk8]
      rfl
    · rw [take_la, take_k, take_v]
      rfl
  · obtain rfl : s = 5 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c5, select_if, col2]
    refine Eq.trans ?_ ((bnextIf (bla m c t) (bks m c t) (bvs m c t) (masked_padded _) (masked_padded _) (stS (argS m c) (seqAt t 5)) 5 40 rfl 2 e x).trans ?_)
    · rw [blk8]
      rfl
    · rw [take_la, take_k, take_v]
      rfl
  · obtain rfl : s = 4 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c4, select_if, col2]
    refine Eq.trans ?_ ((bnextIf (bla m c t) (bks m c t) (bvs m c t) (masked_padded _) (masked_padded _) (stS (argS m c) (seqAt t 4)) 4 32 rfl 2 e x).trans ?_)
    · rw [blk8]
      rfl
    · rw [take_la, take_k, take_v]
      rfl
  · obtain rfl : s = 3 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c3, select_if, col2]
    refine Eq.trans ?_ ((bnextIf (bla m c t) (bks m c t) (bvs m c t) (masked_padded _) (masked_padded _) (stS (argS m c) (seqAt t 3)) 3 24 rfl 2 e x).trans ?_)
    · rw [blk8]
      rfl
    · rw [take_la, take_k, take_v]
      rfl
  · obtain rfl : s = 2 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c2, select_if, col2]
    refine Eq.trans ?_ ((bnextIf (bla m c t) (bks m c t) (bvs m c t) (masked_padded _) (masked_padded _) (stS (argS m c) (seqAt t 2)) 2 16 rfl 2 e x).trans ?_)
    · rw [blk8]
      rfl
    · rw [take_la, take_k, take_v]
      rfl
  · obtain rfl : s = 1 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c1, select_if, col2]
    refine Eq.trans ?_ ((bnextIf (bla m c t) (bks m c t) (bvs m c t) (masked_padded _) (masked_padded _) (stS (argS m c) (seqAt t 1)) 1 8 rfl 2 e x).trans ?_)
    · rw [blk8]
      rfl
    · rw [take_la, take_k, take_v]
      rfl
  · obtain rfl : s = 0 := Fin.ext (by simp at g0; omega)
    obtain rfl : h = 2 := Fin.ext (by simp at g1; omega)
    obtain rfl : e = y2 := Fin.ext (by simpa using g2)
    obtain rfl : x = y3 := Fin.ext (by simpa using g3)
    clear g0 g1 g2 g3
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hke, hde, hv, c0, select_if, col2]
    refine Eq.trans ?_ ((bnextIf (bla m c t) (bks m c t) (bvs m c t) (masked_padded _) (masked_padded _) (stS (argS m c) (seqAt t 0)) 0 0 rfl 2 e x).trans ?_)
    · rw [blk8]
      rfl
    · rw [take_la, take_k, take_v]
      rfl
  · obtain rfl : s = 7 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c7, select_if, col1]
    refine Eq.trans ?_ ((bnextIf (bla m c t) (bks m c t) (bvs m c t) (masked_padded _) (masked_padded _) (stS (argS m c) (seqAt t 7)) 7 56 rfl 1 e x).trans ?_)
    · rw [blk8]
      rfl
    · rw [take_la, take_k, take_v]
      rfl
  · obtain rfl : s = 6 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c6, select_if, col1]
    refine Eq.trans ?_ ((bnextIf (bla m c t) (bks m c t) (bvs m c t) (masked_padded _) (masked_padded _) (stS (argS m c) (seqAt t 6)) 6 48 rfl 1 e x).trans ?_)
    · rw [blk8]
      rfl
    · rw [take_la, take_k, take_v]
      rfl
  · obtain rfl : s = 5 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c5, select_if, col1]
    refine Eq.trans ?_ ((bnextIf (bla m c t) (bks m c t) (bvs m c t) (masked_padded _) (masked_padded _) (stS (argS m c) (seqAt t 5)) 5 40 rfl 1 e x).trans ?_)
    · rw [blk8]
      rfl
    · rw [take_la, take_k, take_v]
      rfl
  · obtain rfl : s = 4 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c4, select_if, col1]
    refine Eq.trans ?_ ((bnextIf (bla m c t) (bks m c t) (bvs m c t) (masked_padded _) (masked_padded _) (stS (argS m c) (seqAt t 4)) 4 32 rfl 1 e x).trans ?_)
    · rw [blk8]
      rfl
    · rw [take_la, take_k, take_v]
      rfl
  · obtain rfl : s = 3 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c3, select_if, col1]
    refine Eq.trans ?_ ((bnextIf (bla m c t) (bks m c t) (bvs m c t) (masked_padded _) (masked_padded _) (stS (argS m c) (seqAt t 3)) 3 24 rfl 1 e x).trans ?_)
    · rw [blk8]
      rfl
    · rw [take_la, take_k, take_v]
      rfl
  · obtain rfl : s = 2 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c2, select_if, col1]
    refine Eq.trans ?_ ((bnextIf (bla m c t) (bks m c t) (bvs m c t) (masked_padded _) (masked_padded _) (stS (argS m c) (seqAt t 2)) 2 16 rfl 1 e x).trans ?_)
    · rw [blk8]
      rfl
    · rw [take_la, take_k, take_v]
      rfl
  · obtain rfl : s = 1 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c1, select_if, col1]
    refine Eq.trans ?_ ((bnextIf (bla m c t) (bks m c t) (bvs m c t) (masked_padded _) (masked_padded _) (stS (argS m c) (seqAt t 1)) 1 8 rfl 1 e x).trans ?_)
    · rw [blk8]
      rfl
    · rw [take_la, take_k, take_v]
      rfl
  · obtain rfl : s = 0 := Fin.ext (by simp at g0; omega)
    obtain rfl : h = 1 := Fin.ext (by simp at g1; omega)
    obtain rfl : e = y2 := Fin.ext (by simpa using g2)
    obtain rfl : x = y3 := Fin.ext (by simpa using g3)
    clear g0 g1 g2 g3
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hke, hde, hv, c0, select_if, col1]
    refine Eq.trans ?_ ((bnextIf (bla m c t) (bks m c t) (bvs m c t) (masked_padded _) (masked_padded _) (stS (argS m c) (seqAt t 0)) 0 0 rfl 1 e x).trans ?_)
    · rw [blk8]
      rfl
    · rw [take_la, take_k, take_v]
      rfl
  · obtain rfl : s = 7 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c7, select_if, col0]
    refine Eq.trans ?_ ((bnextIf (bla m c t) (bks m c t) (bvs m c t) (masked_padded _) (masked_padded _) (stS (argS m c) (seqAt t 7)) 7 56 rfl 0 e x).trans ?_)
    · rw [blk8]
      rfl
    · rw [take_la, take_k, take_v]
      rfl
  · obtain rfl : s = 6 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c6, select_if, col0]
    refine Eq.trans ?_ ((bnextIf (bla m c t) (bks m c t) (bvs m c t) (masked_padded _) (masked_padded _) (stS (argS m c) (seqAt t 6)) 6 48 rfl 0 e x).trans ?_)
    · rw [blk8]
      rfl
    · rw [take_la, take_k, take_v]
      rfl
  · obtain rfl : s = 5 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c5, select_if, col0]
    refine Eq.trans ?_ ((bnextIf (bla m c t) (bks m c t) (bvs m c t) (masked_padded _) (masked_padded _) (stS (argS m c) (seqAt t 5)) 5 40 rfl 0 e x).trans ?_)
    · rw [blk8]
      rfl
    · rw [take_la, take_k, take_v]
      rfl
  · obtain rfl : s = 4 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c4, select_if, col0]
    refine Eq.trans ?_ ((bnextIf (bla m c t) (bks m c t) (bvs m c t) (masked_padded _) (masked_padded _) (stS (argS m c) (seqAt t 4)) 4 32 rfl 0 e x).trans ?_)
    · rw [blk8]
      rfl
    · rw [take_la, take_k, take_v]
      rfl
  · obtain rfl : s = 3 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c3, select_if, col0]
    refine Eq.trans ?_ ((bnextIf (bla m c t) (bks m c t) (bvs m c t) (masked_padded _) (masked_padded _) (stS (argS m c) (seqAt t 3)) 3 24 rfl 0 e x).trans ?_)
    · rw [blk8]
      rfl
    · rw [take_la, take_k, take_v]
      rfl
  · obtain rfl : s = 2 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c2, select_if, col0]
    refine Eq.trans ?_ ((bnextIf (bla m c t) (bks m c t) (bvs m c t) (masked_padded _) (masked_padded _) (stS (argS m c) (seqAt t 2)) 2 16 rfl 0 e x).trans ?_)
    · rw [blk8]
      rfl
    · rw [take_la, take_k, take_v]
      rfl
  · obtain rfl : s = 1 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c1, select_if, col0]
    refine Eq.trans ?_ ((bnextIf (bla m c t) (bks m c t) (bvs m c t) (masked_padded _) (masked_padded _) (stS (argS m c) (seqAt t 1)) 1 8 rfl 0 e x).trans ?_)
    · rw [blk8]
      rfl
    · rw [take_la, take_k, take_v]
      rfl
  · obtain rfl : s = 0 := Fin.ext (by simp at g0; omega)
    obtain rfl : h = 0 := Fin.ext (by simp at g1; omega)
    obtain rfl : e = y2 := Fin.ext (by simpa using g2)
    obtain rfl : x = y3 := Fin.ext (by simpa using g3)
    clear g0 g1 g2 g3
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hke, hde, hv, p55 m c t, c0, select_if, col0]
    refine Eq.trans ?_ ((bnextIf (bla m c t) (bks m c t) (bvs m c t) (masked_padded _) (masked_padded _) (stS (argS m c) (seqAt t 0)) 0 0 rfl 0 e x).trans ?_)
    · rw [blk8]
      rfl
    · rw [take_la, take_k, take_v]
      rfl

set_option maxHeartbeats 1000000 in
/-- The output block that the body leaves. -/
theorem body_out (h : Fin 4) (r : Fin 64) (x : Fin 128) :
    (outsAt0 m c t).1 (ix2 r (col h x))
      = normed (bout (bla m c t) (bqs m c t) (bks m c t) (bvs m c t) (fun s => stS (argS m c) (seqAt t s)) h r) (argG m c (ix1 x))
          (argU m c (ix2 (rowAt t r) ⟨1536 + (col h x).val, by omega⟩)) x := by
  have hke := be_apply _ _ _ _ (blk_la m c t hfin) (bla_ne_top m c t) _ _ (mask1 m c t)
  have hde := bd_apply _ _ _ _ (blk_la m c t hfin) (bla_ne_top m c t)
  have hq := bq_apply _ _ _ _ (blk_la m c t hfin) (bla_ne_top m c t) _ _ (mask0 m c t)
  have hk := bk_apply _ _ _ _ (blk_la m c t hfin) (bla_ne_top m c t) _ _ (mask1 m c t)
  have hg := p60 m c t
  have hv := p55 m c t
  unfold outsAt0
  dsimp only
  frame_open
  frame_out
  generalize k0_pay59 (F := Ideal) _ _ _ = DE at hde ⊢
  generalize k0_pay58 (F := Ideal) _ _ _ _ _ _ = KE at hke ⊢
  have r0 := row_mask0
  generalize k0_pay11 _ _ _ _ _ _ = R0 at r0 ⊢
  have r1 := row_mask1
  generalize k0_pay12 _ = R1 at r1 ⊢
  have r2 := row_mask2
  generalize k0_pay16 _ _ _ _ _ = R2 at r2 ⊢
  have r3 := row_mask3
  generalize k0_pay17 _ = R3 at r3 ⊢
  have r4 := row_mask4
  generalize k0_pay19 _ _ _ = R4 at r4 ⊢
  have r5 := row_mask5
  generalize k0_pay22 _ _ _ = R5 at r5 ⊢
  have r6 := row_mask6
  generalize k0_pay23 _ = R6 at r6 ⊢
  have r7 := row_mask7
  generalize k0_pay27 _ _ _ _ _ = R7 at r7 ⊢
  have h61 := p61 m c t hfin
  generalize k0_pay61 (F := Ideal) _ _ _ _ _ _ = P at h61 ⊢
  generalize k0_pay56 (F := Ideal) _ _ _ = Q at hq ⊢
  generalize k0_pay57 (F := Ideal) _ _ _ = K at hk ⊢
  generalize k0_pay60 (F := Ideal) _ = G at hg ⊢
  generalize k0_pay55 (F := Ideal) _ _ = V at hv ⊢
  have hM := causal_mask
  generalize k0_pay6 _ _ _ _ _ _ = M at hM ⊢
  canon_tiles y g
  all_goals idx_vars y
  · obtain rfl : h = 3 := Fin.ext (by simp [col] at g1; omega)
    obtain rfl : x = y1 := Fin.ext (by simp [col] at g1; omega)
    obtain rfl : r = y0 := Fin.ext (by simpa using g0)
    clear g0 g1
    pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178]
    simp only [hq, hk, h61, hM, hv, hg, r0, r1, r2, r3, r4, r5, r6, r7, select_if, col3, blk8, blk3]
    unfold normed
    simp only [bout_if]
    rfl
  · obtain rfl : h = 2 := Fin.ext (by simp [col] at g1; omega)
    obtain rfl : x = y1 := Fin.ext (by simp [col] at g1; omega)
    obtain rfl : r = y0 := Fin.ext (by simpa using g0)
    clear g0 g1
    pointwise [k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
    simp only [hq, hk, h61, hM, hv, hg, r0, r1, r2, r3, r4, r5, r6, r7, select_if, col2, blk8, blk3]
    unfold normed
    simp only [bout_if]
    rfl
  · obtain rfl : h = 1 := Fin.ext (by simp [col] at g1; omega)
    obtain rfl : x = y1 := Fin.ext (by simp [col] at g1; omega)
    obtain rfl : r = y0 := Fin.ext (by simpa using g0)
    clear g0 g1
    pointwise [k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    simp only [hq, hk, h61, hM, hv, hg, r0, r1, r2, r3, r4, r5, r6, r7, select_if, col1, blk8, blk3]
    unfold normed
    simp only [bout_if]
    rfl
  · obtain rfl : h = 0 := Fin.ext (by simp [col] at g1; omega)
    obtain rfl : x = y1 := Fin.ext (by simp [col] at g1; omega)
    obtain rfl : r = y0 := Fin.ext (by simpa using g0)
    clear g0 g1
    pointwise [k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
    simp only [hq, hk, h61, hM, hv, hg, r0, r1, r2, r3, r4, r5, r6, r7, select_if, col0, blk8, blk3]
    have ez : ∀ h, (⟨1536 + (128 * (0 : Fin 4).val + x.val), h⟩ : Fin 8832) = ⟨1536 + x.val, by omega⟩ := fun h => Fin.ext (by simp)
    simp only [ez]
    unfold normed
    simp only [bout_if]
    rfl

end Cert.SGla
-- ==== Proof.SGla.Kernel.lean ====
/-
  THE KERNEL'S TWO ARRAYS: row `8 b + j` of the output is zero for `j` below four and the normed, gated recurrence of
  sequence `b` at row `j - 4` from there on; the states are those after the sequence's four rows.
-/
module

public import proofs.«01_k».proof.Proof.SGla.Body
public import Idealize.ShloMosaic.Lib.Pipeline.ValueKit
public import proofs.«01_k».proof.Proof.Gen.Kernel7Ideal.Value

@[expose] public section

set_option maxRecDepth 16384

noncomputable section

namespace Cert.SGla

open Idealize.ShloMosaic Idealize.ShloMosaic.TcCoe Cert.Gla Cert.Kernel7Ideal Cert.Kernel7Ideal.Gen Cert.Kernel7Ideal.Value

section Arrays
variable (U : (⟨2, ![1024, 8832]⟩ : Shape).Idx → EReal) (W : (⟨2, ![16, 512]⟩ : Shape).Idx → EReal)
  (bias : (⟨1, ![512]⟩ : Shape).Idx → EReal) (gain : (⟨1, ![128]⟩ : Shape).Idx → EReal)
  (S0 : (⟨4, ![128, 4, 128, 128]⟩ : Shape).Idx → EReal)

/-- The output at a row and a column. -/
def yAt (p : Fin 1024) (d : Fin 512) : EReal :=
  if 4 ≤ p.val % 8 then
    yS U W bias gain S0 ⟨p.val / 8, by omega⟩ ⟨p.val % 8 - 4, by omega⟩ ⟨d.val / 128, by omega⟩ ⟨d.val % 128, by omega⟩
  else 0
/-- The output array. -/
def yAll : (⟨2, ![1024, 512]⟩ : Shape).Idx → EReal := fun i => yAt U W bias gain S0 (i 0) (i 1)
/-- The state array. -/
def sAll : (⟨4, ![128, 4, 128, 128]⟩ : Shape).Idx → EReal := fun i => newS U W bias S0 (i 0) (i 1) (i 2) (i 3)

end Arrays

variable (m : (ℓ : Loc nD τ sig) → Buf (Elt Ideal) ℓ) (c : Dev nD) (hfin : GateFinite (argU m c) (argW m c))
include hfin

/-- The output block at a row and a column, of the whole array. -/
theorem out_point (t : Fin cfg0.N) (r : Fin 64) (d : Fin 512) (p : Fin 1024) (hp : p.val = 64 * t.val + r.val) :
    (outsAt0 m c t).1 (ix2 r d) = yAt (argU m c) (argW m c) (argB m c) (argG m c) (argS m c) p d := by
  have ht := lt_16 t
  have ed : d = col ⟨d.val / 128, by omega⟩ ⟨d.val % 128, by omega⟩ :=
    Fin.ext (by show d.val = 128 * (d.val / 128) + d.val % 128; omega)
  have ep : p = rowAt t r := Fin.ext hp
  have em : p.val % 8 = r.val % 8 := by omega
  refine Eq.trans (congrArg (fun d => (outsAt0 m c t).1 (ix2 r d)) ed) ?_
  refine (body_out m c t hfin _ r _).trans ?_
  unfold yAt
  by_cases h : 4 ≤ r.val % 8
  · rw [if_pos (by omega)]
    obtain ⟨s, i, rfl⟩ : ∃ s i, r = real s i :=
      ⟨⟨r.val / 8, by omega⟩, ⟨r.val % 8 - 4, by omega⟩, Fin.ext (by show r.val = 8 * (r.val / 8) + 4 + (r.val % 8 - 4); omega)⟩
    have es : (⟨p.val / 8, by omega⟩ : Fin 128) = seqAt t s :=
      Fin.ext (by have : (real s i).val = 8 * s.val + 4 + i.val := rfl; show p.val / 8 = 8 * t.val + s.val; omega)
    have ei : (⟨p.val % 8 - 4, by omega⟩ : Fin 4) = i :=
      Fin.ext (by have : (real s i).val = 8 * s.val + 4 + i.val := rfl; show p.val % 8 - 4 = i.val; omega)
    rw [es, ei]
    unfold yS
    rw [rowAt_real]
    have e : ∀ h x, bout (bla m c t) (bqs m c t) (bks m c t) (bvs m c t) (fun s => stS (argS m c) (seqAt t s)) h (real s i) x
        = outRaw4 (laS (argU m c) (argW m c) (argB m c) (seqAt t s)) (qS (argU m c) (seqAt t s)) (kS (argU m c) (seqAt t s))
            (vS (argU m c) (seqAt t s)) (stS (argS m c) (seqAt t s)) h i x := fun h x => by
      rw [bout_real (bla m c t) (bqs m c t) (bks m c t) (bvs m c t) (masked_padded _) (masked_padded _), take_la, take_q, take_k, take_v]
    rw [show bout (bla m c t) (bqs m c t) (bks m c t) (bvs m c t) (fun s => stS (argS m c) (seqAt t s)) ⟨d.val / 128, by omega⟩ (real s i)
        = _ from funext (e _)]
  · rw [if_neg (by omega)]
    have e : ∀ h x, bout (bla m c t) (bqs m c t) (bks m c t) (bvs m c t) (fun s => stS (argS m c) (seqAt t s)) h r x = 0 := fun h x =>
      bout_pad (bla m c t) (bqs m c t) (bks m c t) (bvs m c t) (masked_padded _) _ _ r (by omega) x
    rw [show bout (bla m c t) (bqs m c t) (bks m c t) (bvs m c t) (fun s => stS (argS m c) (seqAt t s)) ⟨d.val / 128, by omega⟩ r
        = fun _ => 0 from funext (e _)]
    exact normed_zero _ _ _

/-- The kernel's output array. -/
theorem kernel_y :
    (dats m 0 c).arrAt 9 (cfgs 0).N = (yAll (argU m c) (argW m c) (argB m c) (argG m c) (argS m c) : S1024x512.Idx → EReal) := by
  refine (dats m 0 c).arrAt_eq_of_covers 9 _ (by decide +kernel) fun t hf y => ?_
  have ht := lt_16 t
  have ei : win0_9.index t = ![t.val, 0] := (by decide +kernel : ∀ t : Fin grid0.N, win0_9.index t = ![t.val, 0]) t
  have e0 : win0_9.index t 0 = t.val := by rw [ei]; rfl
  have e1 : win0_9.index t 1 = 0 := by rw [ei]; rfl
  have h0 : ∀ y : S64x512.Idx, ((((win0 9).blk t).view.emb y : S1024x512.Idx) 0).val = 64 * t.val + (y 0).val := fun y => by
    blk_simp
    rw [e0]; omega
  have h1 : ∀ y : S64x512.Idx, ((((win0 9).blk t).view.emb y : S1024x512.Idx) 1).val = (y 1).val := fun y => by
    blk_simp
    rw [e1]; omega
  rw [after0_9]
  idx_vars y
  exact (out_point m c hfin t y0 y1 _ (h0 (ix2 y0 y1))).trans
    (congrArg (yAt (argU m c) (argW m c) (argB m c) (argG m c) (argS m c) _) (Fin.ext (h1 (ix2 y0 y1)).symm))

/-- The kernel's state array. -/
theorem kernel_S :
    (dats m 0 c).arrAt 10 (cfgs 0).N = (sAll (argU m c) (argW m c) (argB m c) (argS m c) : S128x4x128x128.Idx → EReal) := by
  refine (dats m 0 c).arrAt_eq_of_covers 10 _ (by decide +kernel) fun t hf y => ?_
  have ht := lt_16 t
  have ei : win0_10.index t = ![t.val, 0, 0, 0] := (by decide +kernel : ∀ t : Fin grid0.N, win0_10.index t = ![t.val, 0, 0, 0]) t
  have e0 : win0_10.index t 0 = t.val := by rw [ei]; rfl
  have e1 : win0_10.index t 1 = 0 := by rw [ei]; rfl
  have e2 : win0_10.index t 2 = 0 := by rw [ei]; rfl
  have e3 : win0_10.index t 3 = 0 := by rw [ei]; rfl
  have h0 : ∀ y : S8x4x128x128.Idx, ((((win0 10).blk t).view.emb y : S128x4x128x128.Idx) 0).val = 8 * t.val + (y 0).val := fun y => by
    blk_simp
    rw [e0]; omega
  have h1 : ∀ y : S8x4x128x128.Idx, ((((win0 10).blk t).view.emb y : S128x4x128x128.Idx) 1).val = (y 1).val := fun y => by
    blk_simp
    rw [e1]; omega
  have h2 : ∀ y : S8x4x128x128.Idx, ((((win0 10).blk t).view.emb y : S128x4x128x128.Idx) 2).val = (y 2).val := fun y => by
    blk_simp
    rw [e2]; omega
  have h3 : ∀ y : S8x4x128x128.Idx, ((((win0 10).blk t).view.emb y : S128x4x128x128.Idx) 3).val = (y 3).val := fun y => by
    blk_simp
    rw [e3]; omega
  rw [after0_10]
  idx_vars y
  refine (body_state m c t hfin y0 y1 y2 y3).trans ?_
  have k0 : seqAt t y0 = (((win0 10).blk t).view.emb (ix4 y0 y1 y2 y3) : S128x4x128x128.Idx) 0 := Fin.ext (h0 (ix4 y0 y1 y2 y3)).symm
  have k1 : y1 = (((win0 10).blk t).view.emb (ix4 y0 y1 y2 y3) : S128x4x128x128.Idx) 1 := Fin.ext (h1 (ix4 y0 y1 y2 y3)).symm
  have k2 : y2 = (((win0 10).blk t).view.emb (ix4 y0 y1 y2 y3) : S128x4x128x128.Idx) 2 := Fin.ext (h2 (ix4 y0 y1 y2 y3)).symm
  have k3 : y3 = (((win0 10).blk t).view.emb (ix4 y0 y1 y2 y3) : S128x4x128x128.Idx) 3 := Fin.ext (h3 (ix4 y0 y1 y2 y3)).symm
  unfold sAll
  exact congr (congr (congr (congrArg (newS (argU m c) (argW m c) (argB m c) (argS m c)) k0) k1) k2) k3

end Cert.SGla
-- ==== Proof.SGla.Cumsum.lean ====
/-
  THE HOST'S RUNNING SUM ALONG A SHORT SEQUENCE'S ROWS: its window of four rows, padded low by three, ends at the row
  asked for, so the sum over the window is the sum over the rows not later.
-/
module

public import proofs.«01_k».proof.Proof.Gla.Cumsum

@[expose] public section

set_option maxRecDepth 16384

noncomputable section

namespace Cert.SGla

open Idealize.ShloMosaic Cert.Gla

/-- The window's indices are its 4 rows. -/
def windowRows4 : (⟨4, ![1, 4, 1, 1]⟩ : Shape).Idx ≃ Fin 4 where
  toFun y := y 1
  invFun w := ix4 (0 : Fin 1) w (0 : Fin 1) (0 : Fin 1)
  left_inv y := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

/-- The window at row `r` holds 3 - r rows of padding, then the rows up to `r`. -/
theorem sum_window4 (r : Fin 4) (f : Fin 4 → EReal) :
    (∑ w : Fin 4, if h : 3 ≤ r.val + w.val then f ⟨r.val + w.val - 3, by omega⟩ else 0)
      = ∑ s : Fin 4, if s ≤ r then f s else 0 := by
  have e : ∀ s : Fin 4, (if s ≤ r then f s else 0)
      = ∑ w : Fin 4, if w.val = s.val + 3 - r.val then (if s ≤ r then f s else 0) else 0 := by
    intro s
    by_cases hs : s ≤ r
    · have hs' : s.val ≤ r.val := hs
      rw [Finset.sum_eq_single (⟨s.val + 3 - r.val, by omega⟩ : Fin 4)]
      · rw [if_pos rfl]
      · intro w _ hw
        exact if_neg fun h => hw (Fin.ext h)
      · intro h
        exact absurd (Finset.mem_univ _) h
    · simp only [if_neg hs, ite_self, Finset.sum_const_zero]
  rw [Finset.sum_congr rfl fun s _ => e s, Finset.sum_comm]
  refine Finset.sum_congr rfl fun w _ => ?_
  by_cases h : 3 ≤ r.val + w.val
  · rw [dif_pos h, Finset.sum_eq_single (⟨r.val + w.val - 3, by omega⟩ : Fin 4)]
    · rw [if_pos (by show w.val = r.val + w.val - 3 + 3 - r.val; omega),
        if_pos (by show r.val + w.val - 3 ≤ r.val; omega)]
    · intro s _ hs
      by_cases hw : w.val = s.val + 3 - r.val
      · exact absurd (Fin.ext (by show s.val = r.val + w.val - 3; omega)) hs
      · exact if_neg hw
    · intro h
      exact absurd (Finset.mem_univ _) h
  · rw [dif_neg h, Finset.sum_eq_zero]
    intro s _
    by_cases hw : w.val = s.val + 3 - r.val
    · rw [if_pos hw, if_neg (by show ¬ s.val ≤ r.val; omega)]
    · exact if_neg hw

/-- The host's running sum at row `r`: the sum over the rows not later. -/
theorem cumsum_rows4 (x : (⟨4, ![128, 4, 4, 128]⟩ : Shape).Idx → EReal)
    (hw : (⟨4, ![128, 4, 4, 128]⟩ : Shape).ReduceWindows ![1, 4, 1, 1] ![1, 1, 1, 1] ![0, 3, 0, 0] ![0, 0, 0, 0] ⟨4, ![128, 4, 4, 128]⟩)
    (b : Fin 128) (r : Fin 4) (h : Fin 4) (k : Fin 128) :
    Ideal.hostReduceWindowAdd ![1, 4, 1, 1] ![1, 1, 1, 1] ![0, 3, 0, 0] ![0, 0, 0, 0] hw x 0 (ix4 b r h k)
      = ∑ s : Fin 4, if s ≤ r then x (ix4 b s h k) else 0 := by
  rw [← sum_window4 r fun s => x (ix4 b s h k), window_sum]
  change (∑ y : (⟨4, ![1, 4, 1, 1]⟩ : Shape).Idx, _) = _
  rw [← Equiv.sum_comp windowRows4.symm]
  refine Finset.sum_congr rfl fun w _ => ?_
  dsimp only
  by_cases hc : 3 ≤ r.val + w.val
  · rw [dif_pos hc]
    rw [dif_pos]
    swap
    · intro a
      match a with
      | ⟨0, _⟩ => exact ⟨Nat.zero_le _, by show b.val * 1 + 0 - 0 < 128; omega⟩
      | ⟨1, _⟩ => exact ⟨by show 3 ≤ r.val * 1 + w.val; omega, by show r.val * 1 + w.val - 3 < 4; omega⟩
      | ⟨2, _⟩ => exact ⟨Nat.zero_le _, by show h.val * 1 + 0 - 0 < 4; omega⟩
      | ⟨3, _⟩ => exact ⟨Nat.zero_le _, by show k.val * 1 + 0 - 0 < 128; omega⟩
    refine congrArg x (funext fun a => Fin.ext ?_)
    match a with
    | ⟨0, _⟩ => show b.val * 1 + 0 - 0 = b.val; omega
    | ⟨1, _⟩ => show r.val * 1 + w.val - 3 = r.val + w.val - 3; omega
    | ⟨2, _⟩ => show h.val * 1 + 0 - 0 = h.val; omega
    | ⟨3, _⟩ => show k.val * 1 + 0 - 0 = k.val; omega
  · rw [dif_neg hc, dif_neg]
    intro hin
    have h1 : 3 ≤ r.val * 1 + w.val := (hin 1).1
    omega

end Cert.SGla
-- ==== Proof.SGla.RefStep.lean ====
/-
  THE REFERENCE'S ONE TRIP at an index, over the sample's sequences: the trip reads the one chunk of every sequence off
  the carried arrays, its state is `next4` of the state before, and it writes the chunk's output rows, `outRaw4`.
-/
module

public import proofs.«01_k».proof.Proof.Gen.Reference7Ideal.Run
public import proofs.«01_k».proof.Proof.SGla.Cumsum
public import proofs.«01_k».proof.Proof.SGla.Spec

@[expose] public section

set_option maxRecDepth 16384

noncomputable section

namespace Cert.SGla.Ref

open Idealize.ShloMosaic Idealize.ShloMosaic.TcCoe Cert.Gla Cert.SGla Cert.Reference7Ideal Cert.Reference7Ideal.Gen Cert.Reference7Ideal.Value

/-- A slice of one chunk at a start that is the chunk's number. -/
theorem slice_at (x : (⟨5, ![1, 128, 4, 4, 128]⟩ : Shape).Idx → EReal) (start : Fin 5 → Int)
    (hs : (⟨5, ![1, 128, 4, 4, 128]⟩ : Shape).Slices (fun _ => 0) ⟨5, ![1, 128, 4, 4, 128]⟩) (i : Fin 1)
    (h0 : start 0 = i.val) (h1 : start 1 = 0) (h2 : start 2 = 0) (h3 : start 3 = 0) (h4 : start 4 = 0)
    (b : Fin 128) (r : Fin 4) (h : Fin 4) (k : Fin 128) :
    Host.dynamicSlice ⟨5, ![1, 128, 4, 4, 128]⟩ x start hs (ix5 (0 : Fin 1) b r h k) = x (ix5 i b r h k) := by
  unfold Host.dynamicSlice
  refine congrArg x (funext fun a => Fin.ext ?_)
  match a with
  | ⟨0, _⟩ => show (min (max (start 0) 0) ((1 - 1 : ℕ) : Int)).toNat + 0 = i.val; rw [h0]; omega
  | ⟨1, _⟩ => show (min (max (start 1) 0) ((128 - 128 : ℕ) : Int)).toNat + b.val = b.val; rw [h1]; omega
  | ⟨2, _⟩ => show (min (max (start 2) 0) ((4 - 4 : ℕ) : Int)).toNat + r.val = r.val; rw [h2]; omega
  | ⟨3, _⟩ => show (min (max (start 3) 0) ((4 - 4 : ℕ) : Int)).toNat + h.val = h.val; rw [h3]; omega
  | ⟨4, _⟩ => show (min (max (start 4) 0) ((128 - 128 : ℕ) : Int)).toNat + k.val = k.val; rw [h4]; omega

/-- An update of one chunk at a start that is the chunk's number: the update in that chunk, the operand elsewhere. -/
theorem update_at (x : (⟨5, ![1, 128, 4, 4, 128]⟩ : Shape).Idx → EReal) (upd : (⟨5, ![1, 128, 4, 4, 128]⟩ : Shape).Idx → EReal)
    (start : Fin 5 → Int) (hs : (⟨5, ![1, 128, 4, 4, 128]⟩ : Shape).Slices (fun _ => 0) ⟨5, ![1, 128, 4, 4, 128]⟩) (i j : Fin 1)
    (h0 : start 0 = i.val) (h1 : start 1 = 0) (h2 : start 2 = 0) (h3 : start 3 = 0) (h4 : start 4 = 0)
    (b : Fin 128) (r : Fin 4) (h : Fin 4) (k : Fin 128) :
    Host.dynamicUpdateSlice x upd start hs (ix5 j b r h k)
      = if j = i then upd (ix5 (0 : Fin 1) b r h k) else x (ix5 j b r h k) := by
  have c0 : (min (max (start 0) 0) ((1 - 1 : ℕ) : Int)).toNat = i.val := by rw [h0]; omega
  have c1 : (min (max (start 1) 0) ((128 - 128 : ℕ) : Int)).toNat = 0 := by rw [h1]; rfl
  have c2 : (min (max (start 2) 0) ((4 - 4 : ℕ) : Int)).toNat = 0 := by rw [h2]; rfl
  have c3 : (min (max (start 3) 0) ((4 - 4 : ℕ) : Int)).toNat = 0 := by rw [h3]; rfl
  have c4 : (min (max (start 4) 0) ((128 - 128 : ℕ) : Int)).toNat = 0 := by rw [h4]; rfl
  rw [Host.dynamicUpdateSlice_apply]
  by_cases hj : j = i
  · subst hj
    rw [if_pos rfl, dif_pos]
    swap
    · intro a
      match a with
      | ⟨0, _⟩ => show (min (max (start 0) 0) ((1 - 1 : ℕ) : Int)).toNat ≤ j.val ∧ j.val < (min (max (start 0) 0) ((1 - 1 : ℕ) : Int)).toNat + 1; omega
      | ⟨1, _⟩ => show (min (max (start 1) 0) ((128 - 128 : ℕ) : Int)).toNat ≤ b.val ∧ b.val < (min (max (start 1) 0) ((128 - 128 : ℕ) : Int)).toNat + 128; omega
      | ⟨2, _⟩ => show (min (max (start 2) 0) ((4 - 4 : ℕ) : Int)).toNat ≤ r.val ∧ r.val < (min (max (start 2) 0) ((4 - 4 : ℕ) : Int)).toNat + 4; omega
      | ⟨3, _⟩ => show (min (max (start 3) 0) ((4 - 4 : ℕ) : Int)).toNat ≤ h.val ∧ h.val < (min (max (start 3) 0) ((4 - 4 : ℕ) : Int)).toNat + 4; omega
      | ⟨4, _⟩ => show (min (max (start 4) 0) ((128 - 128 : ℕ) : Int)).toNat ≤ k.val ∧ k.val < (min (max (start 4) 0) ((128 - 128 : ℕ) : Int)).toNat + 128; omega
    refine congrArg upd (funext fun a => Fin.ext ?_)
    match a with
    | ⟨0, _⟩ => show j.val - (min (max (start 0) 0) ((1 - 1 : ℕ) : Int)).toNat = 0; omega
    | ⟨1, _⟩ => show b.val - (min (max (start 1) 0) ((128 - 128 : ℕ) : Int)).toNat = b.val; omega
    | ⟨2, _⟩ => show r.val - (min (max (start 2) 0) ((4 - 4 : ℕ) : Int)).toNat = r.val; omega
    | ⟨3, _⟩ => show h.val - (min (max (start 3) 0) ((4 - 4 : ℕ) : Int)).toNat = h.val; omega
    | ⟨4, _⟩ => show k.val - (min (max (start 4) 0) ((128 - 128 : ℕ) : Int)).toNat = k.val; omega
  · rw [if_neg hj, dif_neg]
    intro hin
    have h : (min (max (start 0) 0) ((1 - 1 : ℕ) : Int)).toNat ≤ j.val ∧ j.val < (min (max (start 0) 0) ((1 - 1 : ℕ) : Int)).toNat + 1 := hin 0
    exact hj (Fin.ext (by omega))

/-- A trip's number, read signed. -/
theorem toInt_trip : ∀ i : Fin 1, (BitVec.ofNat 32 i.val).toInt = i.val := by decide

variable (X : Valuation τ sig (Elt Ideal)) (i : Fin 1)
  (hc : X (Proc.devRef .tc main_v30_5) = fun _ => BitVec.ofNat 32 i.val)

/-- The trip's start of each carried array. -/
abbrev start : Fin 5 → Int := fun k => (((![X (Proc.devRef .tc main_v30_5), constantI S_ 32 0#32, constantI S_ 32 0#32,
  constantI S_ 32 0#32, constantI S_ 32 0#32] : Fin 5 → (⟨S_, .i32⟩ : BufTy).Contents (Elt Ideal))) k (Shape.Idx.first h_S_)).toInt

/-- Chunk `i` of a carried array, as rows over the flat columns of sequence `b`. -/
def rows (x : (⟨5, ![1, 128, 4, 4, 128]⟩ : Shape).Idx → EReal) (b : Fin 128) : Rows4 :=
  fun r d => x (ix5 i b r ⟨d.val / 128, by omega⟩ ⟨d.val % 128, by omega⟩)

theorem rows_col (x : (⟨5, ![1, 128, 4, 4, 128]⟩ : Shape).Idx → EReal) (b : Fin 128) (r : Fin 4) (h : Fin 4) (k : Fin 128) :
    rows i x b r (col h k) = x (ix5 i b r h k) := by
  unfold rows
  congr 1
  have e1 : (⟨(col h k).val / 128, by omega⟩ : Fin 4) = h := Fin.ext (by show (128 * h.val + k.val) / 128 = h.val; omega)
  have e2 : (⟨(col h k).val % 128, by omega⟩ : Fin 128) = k := Fin.ext (by show (128 * h.val + k.val) % 128 = k.val; omega)
  rw [e1, e2]

include hc in
theorem start0 : start X 0 = i.val := by
  show ((X (Proc.devRef .tc main_v30_5)) (Shape.Idx.first h_S_)).toInt = _
  rw [hc]
  exact toInt_trip i

include hc in
/-- The trip's chunk of any carried array. -/
theorem chunk_at (x : (⟨5, ![1, 128, 4, 4, 128]⟩ : Shape).Idx → EReal) (b : Fin 128) (r : Fin 4) (h : Fin 4) (k : Fin 128) :
    shapeCast S128x4x4x128 (Host.dynamicSlice S1x128x4x4x128 x (start X) sliceFits_S1x128x4x4x128_S1x128x4x4x128)
        shapeCasts_S1x128x4x4x128_S128x4x4x128 (ix4 b r h k) = rows i x b r (col h k) := by
  rw [rows_col, ← slice_at x (start X) sliceFits_S1x128x4x4x128_S1x128x4x4x128 i (start0 X i hc) rfl rfl rfl rfl b r h k]
  generalize Host.dynamicSlice S1x128x4x4x128 x (start X) sliceFits_S1x128x4x4x128_S1x128x4x4x128 = y
  pointwise

include hc

/-- The trip's keys, -/
theorem keys (b : Fin 128) (r : Fin 4) (h : Fin 4) (k : Fin 128) :
    (res_main_while0b_v56 X (ix4 b r h k) : EReal) = rows i (X (Proc.devRef .tc main_v30_1)) b r (col h k) :=
  chunk_at X i hc _ b r h k

/-- values, -/
theorem vals (b : Fin 128) (r : Fin 4) (h : Fin 4) (k : Fin 128) :
    (res_main_while0b_v57 X (ix4 b r h k) : EReal) = rows i (X (Proc.devRef .tc main_v30_2)) b r (col h k) :=
  chunk_at X i hc _ b r h k

/-- log-decays summed up to a row, -/
theorem cums (b : Fin 128) (r : Fin 4) (h : Fin 4) (k : Fin 128) :
    (res_main_while0b_v59 X (ix4 b r h k) : EReal) = cum4 (rows i (X (Proc.devRef .tc main_v30_3)) b) r (col h k) := by
  unfold res_main_while0b_v59 cum4
  have e : ∀ s, _ := fun s => chunk_at X i hc (X (Proc.devRef .tc main_v30_3)) b s h k
  simp only [← e]
  generalize shapeCast S128x4x4x128 (Host.dynamicSlice S1x128x4x4x128 (X (Proc.devRef .tc main_v30_3)) (start X)
    sliceFits_S1x128x4x4x128_S1x128x4x4x128) shapeCasts_S1x128x4x4x128_S128x4x4x128 = y
  rw [← cumsum_rows4 y reduceWindows_S128x4x4x128_S128x4x4x128_w1s1p0_0_w4s1p3_0_w1s1p0_0_w1s1p0_0 b r h k]
  unfold Host.reduceWindowAdd
  have hz : broadcastInDim S_ ![] bcast_S_S_ (constant (F := Ideal) S_ .f32 0x00000000#32) (Shape.Idx.first h_S_) = (0 : EReal) :=
    Ideal.ofBits_zero .f32
  rw [hz]
  rfl

/-- their sums over the chunk, -/
theorem tots (b : Fin 128) (h : Fin 4) (k : Fin 128) :
    (res_main_while0b_v73 X (ix3 b h k) : EReal) = tot4 (rows i (X (Proc.devRef .tc main_v30_3)) b) (col h k) := by
  unfold res_main_while0b_v73
  have e := cums X i hc b (3 : Fin 4) h k
  have e' : cum4 (rows i (X (Proc.devRef .tc main_v30_3)) b) (3 : Fin 4) (col h k)
      = tot4 (rows i (X (Proc.devRef .tc main_v30_3)) b) (col h k) :=
    Finset.sum_congr rfl fun s _ => if_pos (show s.val ≤ 3 by omega)
  rw [e'] at e
  pointwise
  exact e

/-- and scaled queries, decayed from the chunk's start. -/
theorem queries (q : Rows4) (b : Fin 128)
    (hq : ∀ r d, rows i (X (Proc.devRef .tc main_v30_0)) b r d = q r d * Ideal.ofBits .f32 0x3DB504F3#32)
    (r : Fin 4) (h : Fin 4) (k : Fin 128) :
    (res_main_while0b_v61 X (ix4 b r h k) : EReal) = qdec4 (rows i (X (Proc.devRef .tc main_v30_3)) b) q r (col h k) := by
  unfold res_main_while0b_v61 qdec4
  have e1 := cums X i hc b r h k
  have e2 := chunk_at X i hc (X (Proc.devRef .tc main_v30_0)) b r h k
  exact congrArg₂ (· * ·) (e2.trans (hq r (col h k))) (congrArg Ideal.exp e1)

/-- THE TRIP'S STATE: `next` of the state before, over chunk `i`'s log-decays, keys and values. -/
theorem state_step (b : Fin 128) (h : Fin 4) (k x : Fin 128) :
    (step_main_v30_6 X (ix4 b h k x) : EReal)
      = next4 (rows i (X (Proc.devRef .tc main_v30_3)) b) (rows i (X (Proc.devRef .tc main_v30_1)) b)
        (rows i (X (Proc.devRef .tc main_v30_2)) b) (fun h c x => X (Proc.devRef .tc main_v30_6) (ix4 b h c x)) h k x := by
  unfold step_main_v30_6
  simp only [id_eq]
  pointwise
  simp only [keys X i hc, vals X i hc, cums X i hc, tots X i hc]
  rfl

/-- THE TRIP'S OUTPUTS: chunk `i`'s rows are `outRaw`, the others stay. -/
theorem outs_step (q : Rows4) (b : Fin 128)
    (hq : ∀ r d, rows i (X (Proc.devRef .tc main_v30_0)) b r d = q r d * Ideal.ofBits .f32 0x3DB504F3#32)
    (hm : ∀ r s : Fin 4, X (Proc.devRef .tc main_v30_4) (ix2 r s) = if s ≤ r then (1#1 : BitVec 1) else 0#1)
    (j : Fin 1) (r : Fin 4) (h : Fin 4) (x : Fin 128) :
    (step_main_v30_7 X (ix5 j b r h x) : EReal)
      = if j = i then outRaw4 (rows i (X (Proc.devRef .tc main_v30_3)) b) q (rows i (X (Proc.devRef .tc main_v30_1)) b)
          (rows i (X (Proc.devRef .tc main_v30_2)) b) (fun h c x => X (Proc.devRef .tc main_v30_6) (ix4 b h c x)) h r x
        else X (Proc.devRef .tc main_v30_7) (ix5 j b r h x) := by
  unfold step_main_v30_7
  refine (update_at _ _ (start X) updateFits_S1x128x4x4x128_S1x128x4x4x128 i j (start0 X i hc) rfl rfl rfl rfl b r h x).trans ?_
  refine if_congr Iff.rfl ?_ rfl
  simp only [id_eq]
  pointwise
  simp only [keys X i hc, vals X i hc, cums X i hc, queries X i hc q b hq, hm]
  unfold outRaw4
  refine congrArg₂ (· + ·) (Finset.sum_congr rfl fun s _ => ?_) (Finset.sum_congr rfl fun c _ => mul_comm _ _)
  by_cases hs : s ≤ r
  · rw [if_pos hs, if_pos hs]
    refine (mul_comm _ _).trans (congrArg₂ (· * ·) (Finset.sum_congr rfl fun c _ => ?_) rfl)
    unfold kinv4
    rw [zero_sub]
  · rw [if_neg hs, if_neg hs]
    exact if_neg (by decide)

end Cert.SGla.Ref
-- ==== Proof.SGla.RefEntry.lean ====
/-
  WHAT THE REFERENCE'S LOOP OVER THE SAMPLE'S SEQUENCES BEGINS WITH, at an index: the scaled queries, keys, values and
  log-decays of every sequence's real rows, the mask of the rows not later, and the given states.
-/
module

public import proofs.«01_k».proof.Proof.SGla.RefStep
public import proofs.«01_k».proof.Proof.Gla.RefEntry

@[expose] public section

set_option maxRecDepth 16384

noncomputable section

namespace Cert.SGla.Ref

open Idealize.ShloMosaic Idealize.ShloMosaic.TcCoe Idealize.ShloMosaic.StableHlo Cert.Gla Cert.SGla Cert.Reference7Ideal Cert.Reference7Ideal.Value

variable (m : (ℓ : Loc nD τ sig) → Buf (Elt Ideal) ℓ)

/-- The projected inputs of core `c`, -/
abbrev argU (c : Dev nD) : (⟨2, ![1024, 8832]⟩ : Shape).Idx → EReal := m ((c : Thread nD τ).loc main_arg0)
/-- the gate's weights, -/
abbrev argW (c : Dev nD) : (⟨2, ![16, 512]⟩ : Shape).Idx → EReal := m ((c : Thread nD τ).loc main_arg1)
/-- its bias, -/
abbrev argB (c : Dev nD) : (⟨1, ![512]⟩ : Shape).Idx → EReal := m ((c : Thread nD τ).loc main_arg2)
/-- the norm's gain, -/
abbrev argG (c : Dev nD) : (⟨1, ![128]⟩ : Shape).Idx → EReal := m ((c : Thread nD τ).loc main_arg3)

/-- and the states given. -/
abbrev argS (c : Dev nD) : (⟨4, ![128, 4, 128, 128]⟩ : Shape).Idx → EReal := m ((c : Thread nD τ).loc main_arg4)

section Entry
variable (c : Dev nD) (i : Fin 1) (b : Fin 128)

/-- A sequence's real row, as the reference's reshapes count it. -/
theorem row_real (r : Fin 4) (h : b.val * 8 + (4 + (i.val * 4 + r.val)) < 1024) :
    (⟨b.val * 8 + (4 + (i.val * 4 + r.val)), h⟩ : Fin 1024) = rowS b r :=
  Fin.ext (by show b.val * 8 + (4 + (i.val * 4 + r.val)) = 8 * b.val + 4 + r.val; omega)

/-- The scaled queries, -/
theorem entry_q :
    rows i (entryContents preI m c (Proc.devRef .tc main_v30_0)) b
      = fun r d => qS (argU m c) b r d * Ideal.ofBits .f32 0x3DB504F3#32 := by
  funext r d
  unfold rows qS
  rw [← row_real i b r (by omega)]
  simp only [entryContents, afterL_cons, afterL_nil]
  after_reads_simp
  simp only [id_eq, TRef.ofBuf_toBuf, TRef.ofBuf, TRef.toBuf, cast_eq]
  pointwise
  have e : ∀ h, (⟨d.val / 128 * 128 + d.val % 128, h⟩ : Fin 8832) = ⟨d.val, by omega⟩ :=
    fun _ => Fin.ext (by show d.val / 128 * 128 + d.val % 128 = d.val; omega)
  simp only [e]

/-- the keys, -/
theorem entry_k :
    rows i (entryContents preI m c (Proc.devRef .tc main_v30_1)) b = kS (argU m c) b := by
  funext r d
  unfold rows kS
  rw [← row_real i b r (by omega)]
  simp only [entryContents, afterL_cons, afterL_nil]
  after_reads_simp
  simp only [id_eq, TRef.ofBuf_toBuf, TRef.ofBuf, TRef.toBuf, cast_eq]
  pointwise

/-- the values, -/
theorem entry_v :
    rows i (entryContents preI m c (Proc.devRef .tc main_v30_2)) b = vS (argU m c) b := by
  funext r d
  unfold rows vS
  rw [← row_real i b r (by omega)]
  simp only [entryContents, afterL_cons, afterL_nil]
  after_reads_simp
  simp only [id_eq, TRef.ofBuf_toBuf, TRef.ofBuf, TRef.toBuf, cast_eq]
  pointwise

/-- the log-decays, -/
theorem entry_la :
    rows i (entryContents preI m c (Proc.devRef .tc main_v30_3)) b
      = laS (argU m c) (argW m c) (argB m c) b := by
  funext r d
  unfold rows laS
  rw [← row_real i b r (by omega), ← Cert.Gla.Ref.gate_eq]
  unfold logitS
  simp only [entryContents, afterL_cons, afterL_nil]
  after_reads_simp
  simp only [id_eq, TRef.ofBuf_toBuf, TRef.ofBuf, TRef.toBuf, cast_eq]
  pointwise

end Entry

/-- The mask: a row sees the rows not later. -/
theorem entry_mask (c : Dev nD) (r s : Fin 4) :
    entryContents preI m c (Proc.devRef .tc main_v30_4) (ix2 r s) = if s ≤ r then (1#1 : BitVec 1) else 0#1 := by
  have key : ∀ r s : Fin 4, Scalar.select (IntOp.cmpi CmpIPredicate.sge (IntOp.addi (BitVec.ofNat 32 r.val) 0#32) (BitVec.ofNat 32 s.val)) 1#1 0#1
      = if s ≤ r then (1#1 : BitVec 1) else 0#1 := by decide +kernel
  rw [← key]
  simp only [entryContents, afterL_cons, afterL_nil]
  after_reads_simp
  simp only [id_eq, TRef.ofBuf_toBuf, TRef.ofBuf, TRef.toBuf, cast_eq]
  pointwise

/-- The states before. -/
theorem entry_S (c : Dev nD) (b : Fin 128) (h : Fin 4) (k x : Fin 128) :
    entryContents preI m c (Proc.devRef .tc main_v30_6) (ix4 b h k x) = argS m c (ix4 b h k x) := by
  simp only [entryContents, afterL_cons, afterL_nil]
  after_reads_simp
  simp only [id_eq, TRef.ofBuf_toBuf, TRef.ofBuf, TRef.toBuf, cast_eq]

end Cert.SGla.Ref
-- ==== Proof.SGla.RefFold.lean ====
/-
  THE REFERENCE'S LOOP OVER THE SAMPLE'S SEQUENCES and what stands after it: the one trip leaves the states after the
  four rows and writes their output rows; then the norm, the gain, the output gate, and zeros at the rows not real.
-/
module

public import proofs.«01_k».proof.Proof.SGla.RefEntry

@[expose] public section

set_option maxRecDepth 16384

noncomputable section

namespace Cert.SGla.Ref

open Idealize.ShloMosaic Idealize.ShloMosaic.TcCoe Idealize.ShloMosaic.StableHlo Cert.Gla Cert.SGla Cert.Reference7Ideal Cert.Reference7Ideal.Value

variable (m : (ℓ : Loc nD τ sig) → Buf (Elt Ideal) ℓ) (c : Dev nD)

/-- The buffers before trip `n`. -/
abbrev before (n : ℕ) : Valuation τ sig (Elt Ideal) := STEP^[n] (entryContents preI m c)

theorem before_succ (n : ℕ) : before m c (n + 1) = STEP (before m c n) := Function.iterate_succ_apply' _ _ _

/-- The scaled queries stay, -/
theorem before_0 : ∀ n, before m c n (Proc.devRef .tc main_v30_0) = entryContents preI m c (Proc.devRef .tc main_v30_0)
  | 0 => rfl
  | n + 1 => by rw [before_succ, STEP_main_v30_0, before_0 n]
/-- the keys, -/
theorem before_1 : ∀ n, before m c n (Proc.devRef .tc main_v30_1) = entryContents preI m c (Proc.devRef .tc main_v30_1)
  | 0 => rfl
  | n + 1 => by rw [before_succ, STEP_main_v30_1, before_1 n]
/-- the values, -/
theorem before_2 : ∀ n, before m c n (Proc.devRef .tc main_v30_2) = entryContents preI m c (Proc.devRef .tc main_v30_2)
  | 0 => rfl
  | n + 1 => by rw [before_succ, STEP_main_v30_2, before_2 n]
/-- the log-decays, -/
theorem before_3 : ∀ n, before m c n (Proc.devRef .tc main_v30_3) = entryContents preI m c (Proc.devRef .tc main_v30_3)
  | 0 => rfl
  | n + 1 => by rw [before_succ, STEP_main_v30_3, before_3 n]
/-- and the mask. -/
theorem before_4 : ∀ n, before m c n (Proc.devRef .tc main_v30_4) = entryContents preI m c (Proc.devRef .tc main_v30_4)
  | 0 => rfl
  | n + 1 => by rw [before_succ, STEP_main_v30_4, before_4 n]

/-- The counter is the trip's number. -/
theorem before_5 : ∀ n, before m c n (Proc.devRef .tc main_v30_5) = fun _ => BitVec.ofNat 32 n
  | 0 => ctr_entry m c
  | n + 1 => by
    rw [before_succ, STEP_main_v30_5]
    unfold step_main_v30_5
    rw [before_5 n]
    funext j
    exact BitVec.ofNat_add_ofNat n 1

/-- The states after the trip. -/
theorem ref_S (b : Fin 128) (h : Fin 4) (k x : Fin 128) :
    before m c 1 (Proc.devRef .tc main_v30_6) (ix4 b h k x) = newS (argU m c) (argW m c) (argB m c) (argS m c) b h k x := by
  rw [before_succ, STEP_main_v30_6]
  refine (state_step (before m c 0) 0 (before_5 m c 0) b h k x).trans ?_
  rw [before_1, before_2, before_3, entry_la, entry_k, entry_v]
  have e : (fun h c' x => before m c 0 (Proc.devRef .tc main_v30_6) (ix4 b h c' x)) = stS (argS m c) b := by
    funext h k x
    exact entry_S m c b h k x
  rw [e]
  rfl

/-- The output rows that the trip writes. -/
theorem ref_raw (b : Fin 128) (j : Fin 1) (r : Fin 4) (h : Fin 4) (x : Fin 128) :
    before m c 1 (Proc.devRef .tc main_v30_7) (ix5 j b r h x)
      = outRaw4 (laS (argU m c) (argW m c) (argB m c) b) (qS (argU m c) b) (kS (argU m c) b) (vS (argU m c) b)
        (stS (argS m c) b) h r x := by
  rw [before_succ, STEP_main_v30_7]
  refine (outs_step (before m c 0) 0 (before_5 m c 0) (qS (argU m c) b) b
    (fun r d => by rw [before_0, entry_q]) (fun r s => by rw [before_4, entry_mask]) j r h x).trans ?_
  rw [if_pos (Subsingleton.elim j 0), before_1, before_2, before_3, entry_la, entry_k, entry_v]
  have e : (fun h c' x => before m c 0 (Proc.devRef .tc main_v30_6) (ix4 b h c' x)) = stS (argS m c) b := by
    funext h k x
    exact entry_S m c b h k x
  rw [e]

/-- The arguments stay. -/
theorem arg_U (n : ℕ) : before m c n (Proc.devRef .tc main_arg0) = argU m c := iter_main_arg0 m c n
theorem arg_G (n : ℕ) : before m c n (Proc.devRef .tc main_arg3) = argG m c := iter_main_arg3 m c n

/-- Four rows set after four zero rows. -/
theorem pad_at (Y : FVec Ideal S128x4x512 .f32) (z : FVec Ideal S_ .f32) (b : Fin 128) (j : Fin 8) (d : Fin 512) :
    pad S128x8x512 ![0, 4, 0] ![0, 0, 0] ![0, 0, 0] Y z Gen.pads_S128x4x512_S128x8x512_000_400_000 Gen.h_S_ (ix3 b j d)
      = if h : 4 ≤ j.val then Y (ix3 b (⟨j.val - 4, by omega⟩ : Fin 4) d) else z (Shape.Idx.first Gen.h_S_) := by
  have hb := b.isLt
  have hj := j.isLt
  have hd := d.isLt
  by_cases h : 4 ≤ j.val
  · rw [dif_pos h, pad_apply, dif_pos (by
      intro a
      match a with
      | ⟨0, _⟩ => exact ⟨Nat.zero_le _, Nat.mod_one _, by show (b.val - 0) / 1 < 128; omega⟩
      | ⟨1, _⟩ => exact ⟨h, Nat.mod_one _, by show (j.val - 4) / 1 < 4; omega⟩
      | ⟨2, _⟩ => exact ⟨Nat.zero_le _, Nat.mod_one _, by show (d.val - 0) / 1 < 512; omega⟩)]
    refine congrArg Y (funext fun a => ?_)
    match a with
    | ⟨0, _⟩ => exact Fin.ext (by show (b.val - 0) / 1 = b.val; omega)
    | ⟨1, _⟩ => exact Fin.ext (by show (j.val - 4) / 1 = j.val - 4; omega)
    | ⟨2, _⟩ => exact Fin.ext (by show (d.val - 0) / 1 = d.val; omega)
  · rw [dif_neg h, pad_apply, dif_neg (by
      intro hh
      have h2 : 4 ≤ j.val := (hh (1 : Fin 3)).1
      omega)]

/-- The rows set among zeros, at a row of the result. -/
theorem padded_at (Y : FVec Ideal S128x4x512 .f32) (p : Fin 1024) (d : Fin 512) :
    truncf .bf16 (shapeCast S1024x512 (pad S128x8x512 ![0, 4, 0] ![0, 0, 0] ![0, 0, 0] Y (sitofp .f32 (constantI S_ 32 0#32))
        Gen.pads_S128x4x512_S128x8x512_000_400_000 Gen.h_S_) Gen.shapeCasts_S128x8x512_S1024x512) Gen.bitsLt_bf16_f32 (ix2 p d)
      = if h : 4 ≤ p.val % 8 then Y (ix3 (⟨p.val / 8, by omega⟩ : Fin 128) (⟨p.val % 8 - 4, by omega⟩ : Fin 4) d)
        else (0 : EReal) := by
  have e := pad_at Y (sitofp .f32 (constantI S_ 32 0#32)) ⟨p.val / 8, by omega⟩ ⟨p.val % 8, by omega⟩ d
  have hz : (sitofp (F := Ideal) .f32 (constantI S_ 32 0#32)) (Shape.Idx.first Gen.h_S_) = (0 : EReal) := by
    show ((((0#32 : BitVec 32).toInt : ℝ)) : EReal) = 0
    simp
  rw [hz] at e
  generalize pad S128x8x512 ![0, 4, 0] ![0, 0, 0] ![0, 0, 0] Y (sitofp .f32 (constantI S_ 32 0#32))
    Gen.pads_S128x4x512_S128x8x512_000_400_000 Gen.h_S_ = A at e ⊢
  refine Eq.trans ?_ e
  pointwise

/-- What stands after the loop, at a row and a column: at a real row the norm of the head's output row, the gain and the
output gate, and zero at the others. -/
theorem out_point (X : Valuation τ sig (Elt Ideal)) (p : Fin 1024) (d : Fin 512) :
    out_main_v54 X (ix2 p d) = if hp : 4 ≤ p.val % 8 then
      normed (fun x => X (Proc.devRef .tc main_v30_7) (ix5 (0 : Fin 1) (⟨p.val / 8, by omega⟩ : Fin 128)
          (⟨p.val % 8 - 4, by omega⟩ : Fin 4) (⟨d.val / 128, by omega⟩ : Fin 4) x))
        (X (Proc.devRef .tc main_arg3) (ix1 (⟨d.val % 128, by omega⟩ : Fin 128)))
        (X (Proc.devRef .tc main_arg0) (ix2 (⟨p.val / 8 * 8 + (4 + (p.val % 8 - 4)), by omega⟩ : Fin 1024)
          (⟨1536 + d.val, by omega⟩ : Fin 8832))) ⟨d.val % 128, by omega⟩
      else (0 : EReal) := by
  unfold out_main_v54
  refine (padded_at _ p d).trans ?_
  by_cases hp : 4 ≤ p.val % 8
  · rw [dif_pos hp, dif_pos hp]
    unfold normed
    rw [zero_sub]
    pointwise
  · rw [dif_neg hp, dif_neg hp]

/-- THE REFERENCE'S OUTPUT, at a real row of a sequence, -/
theorem ref_y (p : Fin 1024) (hp : 4 ≤ p.val % 8) (d : Fin 512) :
    out_main_v54 (before m c 1) (ix2 p d) = yS (argU m c) (argW m c) (argB m c) (argG m c) (argS m c)
      ⟨p.val / 8, by omega⟩ ⟨p.val % 8 - 4, by omega⟩ ⟨d.val / 128, by omega⟩ ⟨d.val % 128, by omega⟩ := by
  refine (out_point (before m c 1) p d).trans ?_
  rw [dif_pos hp, arg_U, arg_G]
  have e0 : (fun x => before m c 1 (Proc.devRef .tc main_v30_7) (ix5 (0 : Fin 1) (⟨p.val / 8, by omega⟩ : Fin 128)
      (⟨p.val % 8 - 4, by omega⟩ : Fin 4) (⟨d.val / 128, by omega⟩ : Fin 4) x)) = _ := funext fun x => ref_raw m c _ _ _ _ x
  rw [e0]
  unfold yS
  have e1 : ∀ h, (⟨p.val / 8 * 8 + (4 + (p.val % 8 - 4)), h⟩ : Fin 1024) = rowS ⟨p.val / 8, by omega⟩ ⟨p.val % 8 - 4, by omega⟩ :=
    fun _ => Fin.ext (by show p.val / 8 * 8 + (4 + (p.val % 8 - 4)) = 8 * (p.val / 8) + 4 + (p.val % 8 - 4); omega)
  have e2 : ∀ h, (⟨1536 + d.val, h⟩ : Fin 8832)
      = ⟨1536 + (col ⟨d.val / 128, by omega⟩ ⟨d.val % 128, by omega⟩).val, by omega⟩ :=
    fun _ => Fin.ext (by show 1536 + d.val = 1536 + (128 * (d.val / 128) + d.val % 128); omega)
  rw [e1, e2]

/-- and at a row not real. -/
theorem ref_y0 (p : Fin 1024) (hp : ¬ 4 ≤ p.val % 8) (d : Fin 512) : out_main_v54 (before m c 1) (ix2 p d) = (0 : EReal) := by
  refine (out_point (before m c 1) p d).trans ?_
  rw [dif_neg hp]

end Cert.SGla.Ref
-- ==== Proof.SGla.Pre.lean ====
/-
  WHAT THE SAMPLE'S PRECONDITION SAYS: each entry of the 16 small columns at the sample's rows and of the gate's weights is of absolute value below
  infinity, so it is neither `⊤` nor `⊥`.
-/
module

public import proofs.«01_k».proof.Pre_gate_finite_sample
public import proofs.«01_k».proof.Proof.SGla.Blocks
public import proofs.«01_k».proof.Proof.Gla.Pre
public import Idealize.ShloMosaic.Lib.ReduceAll

@[expose] public section

set_option maxRecDepth 1024

noncomputable section

namespace Cert.SGla

open Idealize.ShloMosaic Cert.Gla

/-- The precondition's side conditions. -/
theorem preFacts : Cert.Pre_gate_finite_sample.Facts where
  shapeCasts_S1024x8832_S128x8x8832 := by decide
  slices_S128x8x8832_S128x4x16_0_4_8704 := by decide
  bcast_S_S128x4x16 := by decide
  reducesTo_S128x4x16_S_d0_1_2 := by decide
  h_S_ := by decide
  bcast_S_S16x512 := by decide
  reducesTo_S16x512_S_d0_1 := by decide

/-- The precondition gives that the gate's inputs and weights are not infinite. -/
theorem finite_of_pre (hF : Cert.Pre_gate_finite_sample.Facts) (U : (⟨2, ![1024, 8832]⟩ : Shape).Idx → EReal) (W : (⟨2, ![16, 512]⟩ : Shape).Idx → EReal)
    (bias : (⟨1, ![512]⟩ : Shape).Idx → EReal) (gain : (⟨1, ![128]⟩ : Shape).Idx → EReal)
    (S0 : (⟨4, ![128, 4, 128, 128]⟩ : Shape).Idx → EReal)
    (h : Cert.Pre_gate_finite_sample.fn (F := Ideal) U W bias gain S0 = fun _ => 1#1) : SGla.GateFinite U W := by
  have h0 := congrFun h ix0
  unfold Cert.Pre_gate_finite_sample.fn at h0
  dsimp only at h0
  obtain ⟨hu, hw⟩ := IntOp.andi_eq_one.1 h0
  have hs : Subsingleton Cert.Pre_gate_finite_sample.S_.Idx := ⟨fun a b => funext fun x => x.elim0⟩
  refine ⟨fun p x hp => ?_, fun x d => ?_⟩
  · have e := Host.reduce_andi_all _ _ _ _ _ hu (ix3 (⟨p.val / 8, by omega⟩ : Fin 128) (⟨p.val % 8 - 4, by omega⟩ : Fin 4) x)
    pointwise at e
    have ep : ∀ h, (⟨p.val / 8 * 8 + (4 + (p.val % 8 - 4)), h⟩ : Fin 1024) = p :=
      fun _ => Fin.ext (by show p.val / 8 * 8 + (4 + (p.val % 8 - 4)) = p.val; omega)
    rw [ep] at e
    exact finite_of_less _ e
  · have e := Host.reduce_andi_all _ _ _ _ _ hw (ix2 x d)
    pointwise at e
    exact finite_of_less _ e

end Cert.SGla
-- ==== Proof.lean ====
/-
  THE CERTIFICATE of five of the layer's calls — the gated-linear-attention recurrence over the prompt and over the sample,
  the output stage, the input projection and the modulation. Of each: the kernel's two programs and the reference leave their arguments as they were, the kernel over the
  floats and over the extended reals is one program, and over the extended reals the kernel's results are the
  reference's. The recurrence: `Gla.kernel_y`, `Gla.kernel_S` on the kernel's side, `Gla.Ref.ref_y`, `Gla.Ref.ref_S` on the
  reference's. The output stage: `Out.kernel_out` and `Out.Ref.result_eq`. The projection: `Proj.kernel_u` and
  `Proj.Ref.ref_u`. The modulation: `Ada.kernel_mod` and `Ada.Ref.result_eq`. The recurrence over the sample:
  `SGla.kernel_y`, `SGla.kernel_S` and `SGla.Ref.ref_y`, `SGla.Ref.ref_y0`, `SGla.Ref.ref_S`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gla.Kernel
public import proofs.«01_k».proof.Proof.Gla.RefFold
public import proofs.«01_k».proof.Proof.Gla.Pre
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Out.Kernel
public import proofs.«01_k».proof.Proof.Out.Ref
public import proofs.«01_k».proof.Proof.Proj.Kernel
public import proofs.«01_k».proof.Proof.Proj.Ref
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Ada.Kernel
public import proofs.«01_k».proof.Proof.Ada.Ref
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.SProj.Kernel
public import proofs.«01_k».proof.Proof.SProj.Ref
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.SOut.Kernel
public import proofs.«01_k».proof.Proof.SOut.Ref
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.SGla.Kernel
public import proofs.«01_k».proof.Proof.SGla.RefFold
public import proofs.«01_k».proof.Proof.SGla.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

instance : Cert.Pre_gate_finite.Facts := Cert.Gla.preFacts
instance : Cert.Pre_gate_finite_sample.Facts := Cert.SGla.preFacts

/-- The reference leaves its arguments and its counters. -/
theorem frame_R : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The same under the precondition. -/
theorem frame_R_pre : Cert.quiescent_ReferenceIdeal_pre_gate_finite := fun m g _ =>
  (θ_run Cert.ReferenceIdeal.defs _ _).mono (fun r h => ⟨fun c => (h c).2.2, sem_eq_zero_of_no_sems (by decide) r.2⟩)
    (Cert.ReferenceIdeal.Value.run (F := Ideal) m g)

/-- The two programs' outputs agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_gate_finite m) (c : Dev Cert.KernelIdeal.nD)
    (h0 : Gla.Ref.argU m' c = Gla.argU m c) (h1 : Gla.Ref.argW m' c = Gla.argW m c)
    (h2 : Gla.Ref.argB m' c = Gla.argB m c) (h3 : Gla.Ref.argG m' c = Gla.argG m c) :
    Cert.ReferenceIdeal.Value.out_main_v52 (Gla.Ref.before m' c 32) = Cert.KernelIdeal.Value.G8 m c
      ∧ Gla.Ref.before m' c 32 (Proc.devRef .tc Cert.ReferenceIdeal.main_v30_6) = Cert.KernelIdeal.Value.G9 m c := by
  have hfin : Gla.GateFinite (Gla.argU m c) (Gla.argW m c) := Gla.finite_of_pre _ _ _ _ _ (hpre c)
  constructor
  · funext j
    idx_vars j
    have ep : j0 = Gla.row ⟨j0.val / 64, by omega⟩ ⟨j0.val % 64, by omega⟩ :=
      Fin.ext (by show j0.val = 64 * (j0.val / 64) + j0.val % 64; omega)
    have ed : j1 = Gla.col ⟨j1.val / 128, by omega⟩ ⟨j1.val % 128, by omega⟩ :=
      Fin.ext (by show j1.val = 128 * (j1.val / 128) + j1.val % 128; omega)
    rw [ep, ed]
    refine (Gla.Ref.ref_y m' c _ _ _ _).trans ?_
    rw [h0, h1, h2, h3]
    exact (Gla.kernel_y m c hfin _ _ _ _).symm
  · funext j
    idx_vars j
    refine (Gla.Ref.ref_S m' c j0 j1 j2 j3).trans ?_
    rw [h0, h1, h2]
    exact (Gla.kernel_S m c hfin j0 j1 j2 j3).symm

/-- The value claim. -/
theorem algebraic : Cert.algebraic_KernelIdeal_ReferenceIdeal_pre_gate_finite := by
  intro m g m' g' hpre hagree
  refine ⟨fun c => Cert.KernelIdeal.Value.G8 m c, fun c => Cert.KernelIdeal.Value.G9 m c,
    Cert.KernelIdeal.Value.run m g, ?_⟩
  refine (θ_run Cert.ReferenceIdeal.defs _ _).mono (fun r h c => ?_) (Cert.ReferenceIdeal.Value.run (F := Ideal) m' g')
  obtain ⟨e1, e2⟩ := agree m m' hpre c (hagree c).1 (hagree c).2.1 (hagree c).2.2.1 (hagree c).2.2.2
  exact ⟨(h c).1.trans e1, (h c).2.1.trans e2, (h c).2.2⟩

/-- The output stage's reference leaves its arguments and its counters. -/
theorem frame_R2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The output stage's value claim. -/
theorem algebraic2 : Cert.algebraic_Kernel2Ideal_Reference2Ideal := by
  intro m g m' g' _ hagree
  refine ⟨fun c => Layer.outAll (Out.argX m c) (Out.argY0 m c) (Out.argY1 m c) (Out.argY2 m c) (Out.argU m c) (Out.argM m c) (Out.argG1 m c)
    (Out.argG2 m c) (Out.argG3 m c) (Out.argWb m c) (Out.argWo m c) (Out.argWi m c) (Out.argWf m c), ?_, ?_⟩
  · exact (θ_run Cert.Kernel2Ideal.defs _ _).mono (fun r h c => ⟨(h c).1.trans (Out.kernel_out m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    obtain ⟨h0, h1, h2, h3, h4, h5, h6, h7, h8, h9, h10, h11, h12⟩ := hagree c
    refine (Out.Ref.result_eq _).trans ?_
    have e0 : Out.Ref.inX (StableHlo.launchContents m' c) = Out.argX m c := h0
    have e1 : Out.Ref.inY0 (StableHlo.launchContents m' c) = Out.argY0 m c := h1
    have e2 : Out.Ref.inY1 (StableHlo.launchContents m' c) = Out.argY1 m c := h2
    have e3 : Out.Ref.inY2 (StableHlo.launchContents m' c) = Out.argY2 m c := h3
    have e4 : Out.Ref.inU (StableHlo.launchContents m' c) = Out.argU m c := h4
    have e5 : Out.Ref.inM (StableHlo.launchContents m' c) = Out.argM m c := h5
    have e6 : Out.Ref.inG1 (StableHlo.launchContents m' c) = Out.argG1 m c := h6
    have e7 : Out.Ref.inG2 (StableHlo.launchContents m' c) = Out.argG2 m c := h7
    have e8 : Out.Ref.inG3 (StableHlo.launchContents m' c) = Out.argG3 m c := h8
    have e9 : Out.Ref.inWb (StableHlo.launchContents m' c) = Out.argWb m c := h9
    have e10 : Out.Ref.inWo (StableHlo.launchContents m' c) = Out.argWo m c := h10
    have e11 : Out.Ref.inWi (StableHlo.launchContents m' c) = Out.argWi m c := h11
    have e12 : Out.Ref.inWf (StableHlo.launchContents m' c) = Out.argWf m c := h12
    rw [e0, e1, e2, e3, e4, e5, e6, e7, e8, e9, e10, e11, e12]

/-- The projection's reference leaves its arguments and its counters. -/
theorem frame_R3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The projection's value claim. -/
theorem algebraic3 : Cert.algebraic_Kernel3Ideal_Reference3Ideal := by
  intro m g m' g' _ hagree
  refine ⟨fun c => Layer.projAll (Proj.argX m c) (Proj.argM m c) (Proj.argG m c) (Proj.argW m c), ?_, ?_⟩
  · exact (θ_run Cert.Kernel3Ideal.defs _ _).mono (fun r h c => ⟨(h c).1.trans (Proj.kernel_u m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨h0, h1, h2, h3⟩ := hagree c
    refine (Proj.Ref.ref_u m' c).trans ?_
    have e0 : Proj.Ref.argX m' c = Proj.argX m c := h0
    have e1 : Proj.Ref.argM m' c = Proj.argM m c := h1
    have e2 : Proj.Ref.argG m' c = Proj.argG m c := h2
    have e3 : Proj.Ref.argW m' c = Proj.argW m c := h3
    rw [e0, e1, e2, e3]

/-- The modulation's reference leaves its arguments and its counters. -/
theorem frame_R4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The modulation's value claim. -/
theorem algebraic4 : Cert.algebraic_Kernel4Ideal_Reference4Ideal := by
  intro m g m' g' _ hagree
  refine ⟨fun c => Layer.modAll (Ada.argC0 m c) (Ada.argC1 m c) (Ada.argW m c) (Ada.argB m c), ?_, ?_⟩
  · exact (θ_run Cert.Kernel4Ideal.defs _ _).mono (fun r h c => ⟨(h c).1.trans (Ada.kernel_mod m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨h0, h1, h2, h3⟩ := hagree c
    rw [h0, h1, h2, h3]
    exact Ada.Ref.result_eq (Ada.argC0 m c) (Ada.argC1 m c) (Ada.argW m c) (Ada.argB m c)

/-- The sample's projection's reference leaves its arguments and its counters. -/
theorem frame_R5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The sample's projection's value claim. -/
theorem algebraic5 : Cert.algebraic_Kernel5Ideal_Reference5Ideal := by
  intro m g m' g' _ hagree
  refine ⟨fun c => Layer.sProjAll (SProj.argX m c) (SProj.argM m c) (SProj.argG m c) (SProj.argW m c), ?_, ?_⟩
  · exact (θ_run Cert.Kernel5Ideal.defs _ _).mono (fun r h c => ⟨(h c).1.trans (SProj.kernel_u m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    obtain ⟨h0, h1, h2, h3⟩ := hagree c
    refine (SProj.Ref.ref_u m' c).trans ?_
    have e0 : SProj.Ref.argX m' c = SProj.argX m c := h0
    have e1 : SProj.Ref.argM m' c = SProj.argM m c := h1
    have e2 : SProj.Ref.argG m' c = SProj.argG m c := h2
    have e3 : SProj.Ref.argW m' c = SProj.argW m c := h3
    rw [e0, e1, e2, e3]

/-- The sample's output stage's reference leaves its arguments and its counters. -/
theorem frame_R6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The sample's output stage's value claim. -/
theorem algebraic6 : Cert.algebraic_Kernel6Ideal_Reference6Ideal := by
  intro m g m' g' _ hagree
  refine ⟨fun c => Layer.sOutAll (SOut.argX m c) (SOut.argY0 m c) (SOut.argY1 m c) (SOut.argY2 m c) (SOut.argU m c) (SOut.argM m c) (SOut.argG1 m c)
    (SOut.argG2 m c) (SOut.argG3 m c) (SOut.argWb m c) (SOut.argWo m c) (SOut.argWi m c) (SOut.argWf m c), ?_, ?_⟩
  · exact (θ_run Cert.Kernel6Ideal.defs _ _).mono (fun r h c => ⟨(h c).1.trans (SOut.kernel_out m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨h0, h1, h2, h3, h4, h5, h6, h7, h8, h9, h10, h11, h12⟩ := hagree c
    refine (SOut.Ref.result_eq _).trans ?_
    have e0 : SOut.Ref.inX (StableHlo.launchContents m' c) = SOut.argX m c := h0
    have e1 : SOut.Ref.inY0 (StableHlo.launchContents m' c) = SOut.argY0 m c := h1
    have e2 : SOut.Ref.inY1 (StableHlo.launchContents m' c) = SOut.argY1 m c := h2
    have e3 : SOut.Ref.inY2 (StableHlo.launchContents m' c) = SOut.argY2 m c := h3
    have e4 : SOut.Ref.inU (StableHlo.launchContents m' c) = SOut.argU m c := h4
    have e5 : SOut.Ref.inM (StableHlo.launchContents m' c) = SOut.argM m c := h5
    have e6 : SOut.Ref.inG1 (StableHlo.launchContents m' c) = SOut.argG1 m c := h6
    have e7 : SOut.Ref.inG2 (StableHlo.launchContents m' c) = SOut.argG2 m c := h7
    have e8 : SOut.Ref.inG3 (StableHlo.launchContents m' c) = SOut.argG3 m c := h8
    have e9 : SOut.Ref.inWb (StableHlo.launchContents m' c) = SOut.argWb m c := h9
    have e10 : SOut.Ref.inWo (StableHlo.launchContents m' c) = SOut.argWo m c := h10
    have e11 : SOut.Ref.inWi (StableHlo.launchContents m' c) = SOut.argWi m c := h11
    have e12 : SOut.Ref.inWf (StableHlo.launchContents m' c) = SOut.argWf m c := h12
    rw [e0, e1, e2, e3, e4, e5, e6, e7, e8, e9, e10, e11, e12]

/-- The sample recurrence's reference leaves its arguments and its counters. -/
theorem frame_R7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run (F := Ideal) m g)

/-- The same under the precondition. -/
theorem frame_R7_pre : Cert.quiescent_Reference7Ideal_pre_gate_finite_sample := fun m g _ =>
  (θ_run Cert.Reference7Ideal.defs _ _).mono (fun r h => ⟨fun c => (h c).2.2, sem_eq_zero_of_no_sems (by decide) r.2⟩)
    (Cert.Reference7Ideal.Value.run (F := Ideal) m g)

/-- The sample recurrence's reference, of arguments that are the kernel's. -/
theorem agree7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD)
    (h0 : SGla.Ref.argU m' c = SGla.argU m c) (h1 : SGla.Ref.argW m' c = SGla.argW m c)
    (h2 : SGla.Ref.argB m' c = SGla.argB m c) (h3 : SGla.Ref.argG m' c = SGla.argG m c)
    (h4 : SGla.Ref.argS m' c = SGla.argS m c) :
    Cert.Reference7Ideal.Value.out_main_v54 (SGla.Ref.before m' c 1)
        = SGla.yAll (SGla.argU m c) (SGla.argW m c) (SGla.argB m c) (SGla.argG m c) (SGla.argS m c)
      ∧ SGla.Ref.before m' c 1 (Proc.devRef .tc Cert.Reference7Ideal.main_v30_6)
        = SGla.sAll (SGla.argU m c) (SGla.argW m c) (SGla.argB m c) (SGla.argS m c) := by
  constructor
  · funext j
    idx_vars j
    show _ = SGla.yAt _ _ _ _ _ j0 j1
    unfold SGla.yAt
    by_cases hp : 4 ≤ j0.val % 8
    · rw [if_pos hp]
      refine (SGla.Ref.ref_y m' c j0 hp j1).trans ?_
      rw [h0, h1, h2, h3, h4]
    · rw [if_neg hp]
      exact SGla.Ref.ref_y0 m' c j0 hp j1
  · funext j
    idx_vars j
    refine (SGla.Ref.ref_S m' c j0 j1 j2 j3).trans ?_
    rw [h0, h1, h2, h4]
    rfl

/-- The sample recurrence's value claim. -/
theorem algebraic7 : Cert.algebraic_Kernel7Ideal_Reference7Ideal_pre_gate_finite_sample := by
  intro m g m' g' hpre hagree
  have hfin : ∀ c, SGla.GateFinite (SGla.argU m c) (SGla.argW m c) := fun c => SGla.finite_of_pre _ _ _ _ _ _ (hpre c)
  refine ⟨fun c => SGla.yAll (SGla.argU m c) (SGla.argW m c) (SGla.argB m c) (SGla.argG m c) (SGla.argS m c),
    fun c => SGla.sAll (SGla.argU m c) (SGla.argW m c) (SGla.argB m c) (SGla.argS m c), ?_, ?_⟩
  · exact (θ_run Cert.Kernel7Ideal.defs _ _).mono
      (fun r h c => ⟨(h c).1.trans (SGla.kernel_y m c (hfin c)), (h c).2.1.trans (SGla.kernel_S m c (hfin c)), (h c).2.2⟩)
      (Cert.Kernel7Ideal.Value.run_blocks (F := Ideal) m g)
  · refine (θ_run Cert.Reference7Ideal.defs _ _).mono (fun r h c => ?_) (Cert.Reference7Ideal.Value.run (F := Ideal) m' g')
    obtain ⟨h0, h1, h2, h3, h4⟩ := hagree c
    obtain ⟨e1, e2⟩ := agree7 m m' c h0 h1 h2 h3 h4
    exact ⟨(h c).1.trans e1, (h c).2.1.trans e2, (h c).2.2⟩

/-- All of it. -/
theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance,
    fun m g _ => Cert.Kernel.Gen.frame m g,
    fun m g _ => Cert.KernelIdeal.Gen.frame m g, fun m g _ => Cert.KernelIdeal.Gen.frame m g, frame_R, frame_R_pre,
    fun m g _ => Cert.Kernel2.Gen.frame m g, fun m g _ => Cert.Kernel2Ideal.Gen.frame m g, frame_R2,
    fun m g _ => Cert.Kernel3.Gen.frame m g, fun m g _ => Cert.Kernel3Ideal.Gen.frame m g, frame_R3,
    fun m g _ => Cert.Kernel4.Gen.frame m g, fun m g _ => Cert.Kernel4Ideal.Gen.frame m g, frame_R4,
    fun m g _ => Cert.Kernel5.Gen.frame m g, fun m g _ => Cert.Kernel5Ideal.Gen.frame m g, frame_R5,
    fun m g _ => Cert.Kernel6.Gen.frame m g, fun m g _ => Cert.Kernel6Ideal.Gen.frame m g, frame_R6,
    fun m g _ => Cert.Kernel7.Gen.frame m g, fun m g _ => Cert.Kernel7Ideal.Gen.frame m g,
    fun m g _ => Cert.Kernel7Ideal.Gen.frame m g, frame_R7, frame_R7_pre,
    trivial, algebraic, trivial, algebraic2, trivial, algebraic3, trivial, algebraic4,
    trivial, algebraic5, trivial, algebraic6, trivial, algebraic7⟩

end Cert.Proof

end
